-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v235) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S_ : Shape := ⟨0, ![]⟩
abbrev S1x1024x512 : Shape := ⟨3, ![1, 1024, 512]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x3072_S1x1024x512_0_0_0 : S1x1024x3072.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S8x8192x1024 .f32) (main_arg1 : FVec F S1x8x8192x256 .f32) (main_arg2 : FVec F S1x1024 .f32) (main_arg3 : FVec F S1x1024x3072 .f32) (main_arg4 : FVec F S1x4x128x128 .f32) (main_arg5 : FVec F S1x512 .f32) (main_arg6 : FVec F S1x3x512 .f32) (main_arg7 : FVec F S1x1024x1024 .f32) (main_arg8 : FVec F S1x1024 .f32) (main_arg9 : FVec F S1x256x1024 .f32) (main_arg10 : FVec F S1x1024x1024 .f32) (main_arg11 : FVec F S1x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x512 .f32 := (extractStridedSlice S1x1024x512 ![0, 0, 0] · slices_S1x1024x3072_S1x1024x512_0_0_0) main_arg3
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  main_v9
-- ==== Pre_finite2.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S_ : Shape := ⟨0, ![]⟩
abbrev S1x1024x512 : Shape := ⟨3, ![1, 1024, 512]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x3072_S1x1024x512_0_0_0 : S1x1024x3072.Slices ![0, 0, 0] S1x1024x512
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn {F : FTy → Type} [FloatOps F] (main_arg0 : FVec F S2x8192x1024 .f32) (main_arg1 : FVec F S1x2x8192x256 .f32) (main_arg2 : FVec F S1x1024 .f32) (main_arg3 : FVec F S1x1024x3072 .f32) (main_arg4 : FVec F S1x4x128x128 .f32) (main_arg5 : FVec F S1x512 .f32) (main_arg6 : FVec F S1x3x512 .f32) (main_arg7 : FVec F S1x1024x1024 .f32) (main_arg8 : FVec F S1x1024 .f32) (main_arg9 : FVec F S1x256x1024 .f32) (main_arg10 : FVec F S1x1024x1024 .f32) (main_arg11 : FVec F S1x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x512 .f32 := (extractStridedSlice S1x1024x512 ![0, 0, 0] · slices_S1x1024x3072_S1x1024x512_0_0_0) main_arg3
  let main_v5 : FVec F S1x1024x512 .f32 := Host.absf main_v4
  let main_cst_0 : FVec F S_ .f32 := constant S_ .f32 0x7F800000#32
  let main_v6 : FVec F S1x1024x512 .f32 := broadcastInDim S1x1024x512 ![] bcast_S_S1x1024x512 main_cst_0
  let main_v7 : IVec S1x1024x512 1 := cmpf .olt main_v5 main_v6
  let main_c_1 : IVec S_ 1 := constantI S_ 1 1#1
  let main_v8 : IVec S_ 1 := (fun x v => Host.reduce IntOp.andi x v reducesTo_S1x1024x512_S_d0_1_2 h_S_) main_v7 main_c_1
  let main_v9 : IVec S_ 1 := andi main_v3 main_v8
  main_v9
-- ==== Kernel.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S1024 : Shape := ⟨1, ![1024]⟩
abbrev S1024x3072 : Shape := ⟨2, ![1024, 3072]⟩
abbrev S4x128x128 : Shape := ⟨3, ![4, 128, 128]⟩
abbrev S1x128x128 : Shape := ⟨3, ![1, 128, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S512 : Shape := ⟨1, ![512]⟩
abbrev S3x512 : Shape := ⟨2, ![3, 512]⟩
abbrev S1024x1024 : Shape := ⟨2, ![1024, 1024]⟩
abbrev S256x1024 : Shape := ⟨2, ![256, 1024]⟩
abbrev S8x8192x256 : Shape := ⟨3, ![8, 8192, 256]⟩
abbrev S1x16x1024 : Shape := ⟨3, ![1, 16, 1024]⟩
abbrev S1x1024x256 : Shape := ⟨3, ![1, 1024, 256]⟩
abbrev S1056x1024 : Shape := ⟨2, ![1056, 1024]⟩
abbrev S8x1056x128 : Shape := ⟨3, ![8, 1056, 128]⟩
abbrev S1024x2048 : Shape := ⟨2, ![1024, 2048]⟩
abbrev S1024x256 : Shape := ⟨2, ![1024, 256]⟩
abbrev S16x1024 : Shape := ⟨2, ![16, 1024]⟩
abbrev S16 : Shape := ⟨1, ![16]⟩
abbrev S16x1 : Shape := ⟨2, ![16, 1]⟩
abbrev S1024x1 : Shape := ⟨2, ![1024, 1]⟩
abbrev S1024x512 : Shape := ⟨2, ![1024, 512]⟩
abbrev S1056x512 : Shape := ⟨2, ![1056, 512]⟩
abbrev S1056x128 : Shape := ⟨2, ![1056, 128]⟩
abbrev S1x1056x128 : Shape := ⟨3, ![1, 1056, 128]⟩
abbrev S1056x256 : Shape := ⟨2, ![1056, 256]⟩
abbrev S1x136x128 : Shape := ⟨3, ![1, 136, 128]⟩
abbrev S136x128 : Shape := ⟨2, ![136, 128]⟩
abbrev S1024x128 : Shape := ⟨2, ![1024, 128]⟩
abbrev S1x1024x128 : Shape := ⟨3, ![1, 1024, 128]⟩
abbrev S8x128 : Shape := ⟨2, ![8, 128]⟩
abbrev S1008x128 : Shape := ⟨2, ![1008, 128]⟩
abbrev S1x144x128 : Shape := ⟨3, ![1, 144, 128]⟩
abbrev S144x128 : Shape := ⟨2, ![144, 128]⟩
abbrev S1x128 : Shape := ⟨2, ![1, 128]⟩

abbrev nBuf : Space → Nat
  | .hbm => 54
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S1x8x8192x256, .f32⟩
  | .hbm, ⟨2, _⟩ => ⟨S1x1024, .f32⟩
  | .hbm, ⟨3, _⟩ => ⟨S1x1024x3072, .f32⟩
  | .hbm, ⟨4, _⟩ => ⟨S1x4x128x128, .f32⟩
  | .hbm, ⟨5, _⟩ => ⟨S1x512, .f32⟩
  | .hbm, ⟨6, _⟩ => ⟨S1x3x512, .f32⟩
  | .hbm, ⟨7, _⟩ => ⟨S1x1024x1024, .f32⟩
  | .hbm, ⟨8, _⟩ => ⟨S1x1024, .f32⟩
  | .hbm, ⟨9, _⟩ => ⟨S1x256x1024, .f32⟩
  | .hbm, ⟨10, _⟩ => ⟨S1x1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S4x128x128, .f32⟩
  | .hbm, ⟨17, _⟩ => ⟨S1x128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S128x256, .f32⟩
  | .hbm, ⟨26, _⟩ => ⟨S128x256, .f32⟩
  | .hbm, ⟨27, _⟩ => ⟨S256x256, .f32⟩
  | .hbm, ⟨28, _⟩ => ⟨S1x128x128, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S128x256, .f32⟩
  | .hbm, ⟨33, _⟩ => ⟨S128x256, .f32⟩
  | .hbm, ⟨34, _⟩ => ⟨S256x256, .f32⟩
  | .hbm, ⟨35, _⟩ => ⟨S1x256x256, .f32⟩
  | .hbm, ⟨36, _⟩ => ⟨S1x256x256, .f32⟩
  | .hbm, ⟨37, _⟩ => ⟨S2x256x256, .f32⟩
  | .hbm, ⟨38, _⟩ => ⟨S2x256x256, .bf16⟩
  | .hbm, ⟨39, _⟩ => ⟨S512, .f32⟩
  | .hbm, ⟨40, _⟩ => ⟨S1x512, .f32⟩
  | .hbm, ⟨41, _⟩ => ⟨S3x512, .f32⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1x1024, .f32⟩
  | .hbm, ⟨46, _⟩ => ⟨S256x1024, .f32⟩
  | .hbm, ⟨47, _⟩ => ⟨S256x1024, .bf16⟩
  | .hbm, ⟨48, _⟩ => ⟨S1024x1024, .f32⟩
  | .hbm, ⟨49, _⟩ => ⟨S1024x1024, .bf16⟩
  | .hbm, ⟨50, _⟩ => ⟨S1024, .f32⟩
  | .hbm, ⟨51, _⟩ => ⟨S1x1024, .f32⟩
  | .hbm, ⟨52, _⟩ => ⟨S8x8192x256, .f32⟩
  | .hbm, ⟨53, _⟩ => ⟨S8x8192x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024, .f32⟩
  | .local _ .vmem, ⟨9, _⟩ => ⟨S1024x3072, .bf16⟩
  | .local _ .vmem, ⟨10, _⟩ => ⟨S2x256x256, .bf16⟩
  | .local _ .vmem, ⟨11, _⟩ => ⟨S1x512, .f32⟩
  | .local _ .vmem, ⟨12, _⟩ => ⟨S3x512, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1056x1024, .bf16⟩
  | .local _ .vmem, ⟨21, _⟩ => ⟨S8x1056x128, .f32⟩
  | .local _ .vmem, ⟨22, _⟩ => ⟨S1024x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S8x8192x256 : Shape := ⟨3, ![8, 8192, 256]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S3x512 : Shape := ⟨2, ![3, 512]⟩
abbrev S1024x1024 : Shape := ⟨2, ![1024, 1024]⟩
abbrev S256x1024 : Shape := ⟨2, ![256, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8192x512 : Shape := ⟨3, ![8, 8192, 512]⟩
abbrev S8x1x512 : Shape := ⟨3, ![8, 1, 512]⟩
abbrev S8x8193x512 : Shape := ⟨3, ![8, 8193, 512]⟩
abbrev S8192 : Shape := ⟨1, ![8192]⟩
abbrev S8x8193x128 : Shape := ⟨3, ![8, 8193, 128]⟩
abbrev S8192x1 : Shape := ⟨2, ![8192, 1]⟩
abbrev S8x8192x128 : Shape := ⟨3, ![8, 8192, 128]⟩
abbrev S1x8192x1 : Shape := ⟨3, ![1, 8192, 1]⟩
abbrev S8x8192x1x128 : Shape := ⟨4, ![8, 8192, 1, 128]⟩
abbrev S8x8192x4x128 : Shape := ⟨4, ![8, 8192, 4, 128]⟩
abbrev S4x128x8x8192 : Shape := ⟨4, ![4, 128, 8, 8192]⟩
abbrev S1x1x512 : Shape := ⟨3, ![1, 1, 512]⟩
abbrev S8x8194x512 : Shape := ⟨3, ![8, 8194, 512]⟩

abbrev nBuf : Space → Nat
  | .hbm => 364
  | .vmem => 0
  | .smem => 0
  | _ => 0

abbrev hbmTy0_0 (i : Nat) : BufTy := match i % 128 with
  | 0 => ⟨S8x8192x1024, .f32⟩
  | 1 => ⟨S1x8x8192x256, .f32⟩
  | 2 => ⟨S1x1024, .f32⟩
  | 3 => ⟨S1x1024x3072, .f32⟩
  | 4 => ⟨S1x4x128x128, .f32⟩
  | 5 => ⟨S1x512, .f32⟩
  | 6 => ⟨S1x3x512, .f32⟩
  | 7 => ⟨S1x1024x1024, .f32⟩
  | 8 => ⟨S1x1024, .f32⟩
  | 9 => ⟨S1x256x1024, .f32⟩
  | 10 => ⟨S1x1024x1024, .f32⟩
  | 11 => ⟨S1x1024, .f32⟩
  | 12 => ⟨S8x8192x256, .f32⟩
  | 13 => ⟨S1024, .f32⟩
  | 14 => ⟨S1024x3072, .f32⟩
  | 15 => ⟨S4x128x128, .f32⟩
  | 16 => ⟨S512, .f32⟩
  | 17 => ⟨S3x512, .f32⟩
  | 18 => ⟨S1024x1024, .f32⟩
  | 19 => ⟨S1024, .f32⟩
  | 20 => ⟨S256x1024, .f32⟩
  | 21 => ⟨S1024x1024, .f32⟩
  | 22 => ⟨S1024, .f32⟩
  | 23 => ⟨S8x8192x1024, .f32⟩
  | 24 => ⟨S_, .f32⟩
  | 25 => ⟨S8x8192, .f32⟩
  | 26 => ⟨S8x8192x1, .f32⟩
  | 27 => ⟨S_, .f32⟩
  | 28 => ⟨S8x8192x1, .f32⟩
  | 29 => ⟨S8x8192x1, .f32⟩
  | 30 => ⟨S_, .f32⟩
  | 31 => ⟨S8x8192x1, .f32⟩
  | 32 => ⟨S8x8192x1, .f32⟩
  | 33 => ⟨S8x8192x1, .f32⟩
  | 34 => ⟨S8x8192x1024, .f32⟩
  | 35 => ⟨S8x8192x1024, .f32⟩
  | 36 => ⟨S1x1x1024, .f32⟩
  | 37 => ⟨S8x8192x1024, .f32⟩
  | 38 => ⟨S8x8192x1024, .f32⟩
  | 39 => ⟨S8x8192x3072, .f32⟩
  | 40 => ⟨S8x8192x512, .f32⟩
  | 41 => ⟨S8x8192x512, .f32⟩
  | 42 => ⟨S8x8192x512, .f32⟩
  | 43 => ⟨S8x8192x512, .f32⟩
  | 44 => ⟨S8x8192x512, .f32⟩
  | 45 => ⟨S8x8192x512, .f32⟩
  | 46 => ⟨S_, .f32⟩
  | 47 => ⟨S8x1x512, .f32⟩
  | 48 => ⟨S_, .f32⟩
  | 49 => ⟨S_, .f32⟩
  | 50 => ⟨S8x8192x512, .f32⟩
  | 51 => ⟨S8x8193x512, .f32⟩
  | 52 => ⟨S8192, .i32⟩
  | 53 => ⟨S_, .i32⟩
  | 54 => ⟨S8192, .i32⟩
  | 55 => ⟨S8192, .i32⟩
  | 56 => ⟨S_, .i32⟩
  | 57 => ⟨S_, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8x8193x128, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8x8192x128, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8x8192x128, .f32⟩
  | 97 => ⟨S8x8192x128, .f32⟩
  | 98 => ⟨S8192, .i32⟩
  | 99 => ⟨S8192, .f32⟩
  | 100 => ⟨S1x8192x1, .f32⟩
  | 101 => ⟨S8x8192x128, .f32⟩
  | 102 => ⟨S8x8192x128, .f32⟩
  | 103 => ⟨S8x8192x128, .f32⟩
  | 104 => ⟨S8x8192x128, .f32⟩
  | 105 => ⟨S_, .i32⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S_, .i32⟩
  | 123 => ⟨S_, .i32⟩
  | 124 => ⟨S_, .i32⟩
  | 125 => ⟨S8192, .i32⟩
  | 126 => ⟨S8192, .i32⟩
  | 127 => ⟨S_, .i32⟩
  | _ => ⟨S8x8192x1024, .f32⟩

abbrev hbmTy0_1 (i : Nat) : BufTy := match i % 128 with
  | 0 => ⟨S8192, .i32⟩
  | 1 => ⟨S8192, .i32⟩
  | 2 => ⟨S8x8193x128, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8x8192x128, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8x8192x128, .f32⟩
  | 21 => ⟨S8x8192x128, .f32⟩
  | 22 => ⟨S8192, .i32⟩
  | 23 => ⟨S8192, .f32⟩
  | 24 => ⟨S1x8192x1, .f32⟩
  | 25 => ⟨S8x8192x128, .f32⟩
  | 26 => ⟨S8x8192x128, .f32⟩
  | 27 => ⟨S8x8192x128, .f32⟩
  | 28 => ⟨S8x8192x128, .f32⟩
  | 29 => ⟨S_, .i32⟩
  | 30 => ⟨S8192, .i32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S_, .i32⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8x8193x128, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8x8192x128, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8x8192x128, .f32⟩
  | 73 => ⟨S8x8192x128, .f32⟩
  | 74 => ⟨S8192, .i32⟩
  | 75 => ⟨S8192, .f32⟩
  | 76 => ⟨S1x8192x1, .f32⟩
  | 77 => ⟨S8x8192x128, .f32⟩
  | 78 => ⟨S8x8192x128, .f32⟩
  | 79 => ⟨S8x8192x128, .f32⟩
  | 80 => ⟨S8x8192x128, .f32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S_, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8x8193x128, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8x8192x128, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8x8192x128, .f32⟩
  | 125 => ⟨S8x8192x128, .f32⟩
  | 126 => ⟨S8192, .i32⟩
  | 127 => ⟨S8192, .f32⟩
  | _ => ⟨S8x8192x1024, .f32⟩

abbrev hbmTy0_2 (i : Nat) : BufTy := match i % 128 with
  | 0 => ⟨S1x8192x1, .f32⟩
  | 1 => ⟨S8x8192x128, .f32⟩
  | 2 => ⟨S8x8192x128, .f32⟩
  | 3 => ⟨S8x8192x128, .f32⟩
  | 4 => ⟨S8x8192x128, .f32⟩
  | 5 => ⟨S8x8192x1x128, .f32⟩
  | 6 => ⟨S8x8192x1x128, .f32⟩
  | 7 => ⟨S8x8192x1x128, .f32⟩
  | 8 => ⟨S8x8192x1x128, .f32⟩
  | 9 => ⟨S8x8192x4x128, .f32⟩
  | 10 => ⟨S4x128x8x8192, .f32⟩
  | 11 => ⟨S8x8192x4x128, .f32⟩
  | 12 => ⟨S8x8192x512, .f32⟩
  | 13 => ⟨S1x1x512, .f32⟩
  | 14 => ⟨S8x8192x512, .f32⟩
  | 15 => ⟨S8x8192x512, .f32⟩
  | 16 => ⟨S8x8192x512, .f32⟩
  | 17 => ⟨S8x8192x512, .f32⟩
  | 18 => ⟨S_, .f32⟩
  | 19 => ⟨S8x8192x512, .f32⟩
  | 20 => ⟨S8x8192x512, .f32⟩
  | 21 => ⟨S_, .f32⟩
  | 22 => ⟨S8x8192x512, .f32⟩
  | 23 => ⟨S8x8192x512, .f32⟩
  | 24 => ⟨S8x8192x512, .f32⟩
  | 25 => ⟨S8x8192x512, .f32⟩
  | 26 => ⟨S8x8192x512, .f32⟩
  | 27 => ⟨S_, .i32⟩
  | 28 => ⟨S_, .f32⟩
  | 29 => ⟨S8x8194x512, .f32⟩
  | 30 => ⟨S8x8192x512, .f32⟩
  | 31 => ⟨S1x512, .f32⟩
  | 32 => ⟨S512, .f32⟩
  | 33 => ⟨S1x1x512, .f32⟩
  | 34 => ⟨S8x8192x512, .f32⟩
  | 35 => ⟨S8x8192x512, .f32⟩
  | 36 => ⟨S8x8192x512, .f32⟩
  | 37 => ⟨S1x512, .f32⟩
  | 38 => ⟨S512, .f32⟩
  | 39 => ⟨S1x1x512, .f32⟩
  | 40 => ⟨S8x8192x512, .f32⟩
  | 41 => ⟨S8x8192x512, .f32⟩
  | 42 => ⟨S8x8192x512, .f32⟩
  | 43 => ⟨S8x8192x512, .f32⟩
  | 44 => ⟨S1x512, .f32⟩
  | 45 => ⟨S512, .f32⟩
  | 46 => ⟨S1x1x512, .f32⟩
  | 47 => ⟨S8x8192x512, .f32⟩
  | 48 => ⟨S8x8192x512, .f32⟩
  | 49 => ⟨S8x8192x512, .f32⟩
  | 50 => ⟨S8x8192x512, .f32⟩
  | 51 => ⟨S8x8192x512, .f32⟩
  | 52 => ⟨S8x8192x512, .f32⟩
  | 53 => ⟨S_, .f32⟩
  | 54 => ⟨S8x8192x512, .f32⟩
  | 55 => ⟨S8x8192x512, .f32⟩
  | 56 => ⟨S_, .f32⟩
  | 57 => ⟨S8x8192x512, .f32⟩
  | 58 => ⟨S8x8192x512, .f32⟩
  | 59 => ⟨S8x8192x512, .f32⟩
  | 60 => ⟨S8x8192x512, .f32⟩
  | 61 => ⟨S8x8192x1024, .f32⟩
  | 62 => ⟨S8x8192x1024, .f32⟩
  | 63 => ⟨S8x8192x1024, .f32⟩
  | 64 => ⟨S_, .f32⟩
  | 65 => ⟨S8x8192, .f32⟩
  | 66 => ⟨S8x8192x1, .f32⟩
  | 67 => ⟨S_, .f32⟩
  | 68 => ⟨S8x8192x1, .f32⟩
  | 69 => ⟨S8x8192x1, .f32⟩
  | 70 => ⟨S_, .f32⟩
  | 71 => ⟨S8x8192x1, .f32⟩
  | 72 => ⟨S8x8192x1, .f32⟩
  | 73 => ⟨S8x8192x1, .f32⟩
  | 74 => ⟨S8x8192x1024, .f32⟩
  | 75 => ⟨S8x8192x1024, .f32⟩
  | 76 => ⟨S1x1x1024, .f32⟩
  | 77 => ⟨S8x8192x1024, .f32⟩
  | 78 => ⟨S8x8192x1024, .f32⟩
  | 79 => ⟨S8x8192x1024, .f32⟩
  | 80 => ⟨S8x8192x1024, .f32⟩
  | 81 => ⟨S8x8192x1024, .f32⟩
  | 82 => ⟨S8x8192x1024, .f32⟩
  | 83 => ⟨S_, .f32⟩
  | 84 => ⟨S8x8192x1024, .f32⟩
  | 85 => ⟨S8x8192x1024, .f32⟩
  | 86 => ⟨S_, .f32⟩
  | 87 => ⟨S8x8192x1024, .f32⟩
  | 88 => ⟨S8x8192x1024, .f32⟩
  | 89 => ⟨S8x8192x1024, .f32⟩
  | 90 => ⟨S8x8192x1024, .f32⟩
  | 91 => ⟨S8x8192x1024, .f32⟩
  | 92 => ⟨S_, .f32⟩
  | 93 => ⟨S8x8192, .f32⟩
  | 94 => ⟨S8x8192x1, .f32⟩
  | 95 => ⟨S_, .f32⟩
  | 96 => ⟨S8x8192x1, .f32⟩
  | 97 => ⟨S8x8192x1, .f32⟩
  | 98 => ⟨S_, .f32⟩
  | 99 => ⟨S8x8192x1, .f32⟩
  | 100 => ⟨S8x8192x1, .f32⟩
  | 101 => ⟨S8x8192x1, .f32⟩
  | 102 => ⟨S8x8192x1024, .f32⟩
  | 103 => ⟨S8x8192x1024, .f32⟩
  | 104 => ⟨S1x1x1024, .f32⟩
  | 105 => ⟨S8x8192x1024, .f32⟩
  | 106 => ⟨S8x8192x1024, .f32⟩
  | 107 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_call0_call0_cst : Ref sig .tc := ⟨.hbm, 48, rfl⟩
abbrev main_call0_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v42 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_13 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_c_15 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v68 : Ref sig .tc := ⟨.hbm, 115, rfl⟩
abbrev main_c_16 : Ref sig .tc := ⟨.hbm, 116, rfl⟩
abbrev main_v69 : Ref sig .tc := ⟨.hbm, 117, rfl⟩
abbrev main_v70 : Ref sig .tc := ⟨.hbm, 118, rfl⟩
abbrev main_c_17 : Ref sig .tc := ⟨.hbm, 119, rfl⟩
abbrev main_v71 : Ref sig .tc := ⟨.hbm, 120, rfl⟩
abbrev main_v72 : Ref sig .tc := ⟨.hbm, 121, rfl⟩
abbrev main_c_18 : Ref sig .tc := ⟨.hbm, 122, rfl⟩
abbrev main_c_19 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v73 : Ref sig .tc := ⟨.hbm, 129, rfl⟩
abbrev main_v74 : Ref sig .tc := ⟨.hbm, 130, rfl⟩
abbrev main_c_20 : Ref sig .tc := ⟨.hbm, 131, rfl⟩
abbrev main_v75 : Ref sig .tc := ⟨.hbm, 132, rfl⟩
abbrev main_v76 : Ref sig .tc := ⟨.hbm, 133, rfl⟩
abbrev main_c_21 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_22 : Ref sig .tc := ⟨.hbm, 140, rfl⟩
abbrev main_v82 : Ref sig .tc := ⟨.hbm, 141, rfl⟩
abbrev main_v83 : Ref sig .tc := ⟨.hbm, 142, rfl⟩
abbrev main_c_23 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_24 : Ref sig .tc := ⟨.hbm, 157, rfl⟩
abbrev main_v97 : Ref sig .tc := ⟨.hbm, 158, rfl⟩
abbrev main_v98 : Ref sig .tc := ⟨.hbm, 159, rfl⟩
abbrev main_c_25 : Ref sig .tc := ⟨.hbm, 160, rfl⟩
abbrev main_c_26 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_v99 : Ref sig .tc := ⟨.hbm, 167, rfl⟩
abbrev main_c_27 : Ref sig .tc := ⟨.hbm, 168, rfl⟩
abbrev main_v100 : Ref sig .tc := ⟨.hbm, 169, rfl⟩
abbrev main_v101 : Ref sig .tc := ⟨.hbm, 170, rfl⟩
abbrev main_c_28 : Ref sig .tc := ⟨.hbm, 171, rfl⟩
abbrev main_v102 : Ref sig .tc := ⟨.hbm, 172, rfl⟩
abbrev main_v103 : Ref sig .tc := ⟨.hbm, 173, rfl⟩
abbrev main_c_29 : Ref sig .tc := ⟨.hbm, 174, rfl⟩
abbrev main_c_30 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v104 : Ref sig .tc := ⟨.hbm, 181, rfl⟩
abbrev main_v105 : Ref sig .tc := ⟨.hbm, 182, rfl⟩
abbrev main_c_31 : Ref sig .tc := ⟨.hbm, 183, rfl⟩
abbrev main_v106 : Ref sig .tc := ⟨.hbm, 184, rfl⟩
abbrev main_v107 : Ref sig .tc := ⟨.hbm, 185, rfl⟩
abbrev main_c_32 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_c_33 : Ref sig .tc := ⟨.hbm, 192, rfl⟩
abbrev main_v113 : Ref sig .tc := ⟨.hbm, 193, rfl⟩
abbrev main_v114 : Ref sig .tc := ⟨.hbm, 194, rfl⟩
abbrev main_c_34 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_c_35 : Ref sig .tc := ⟨.hbm, 209, rfl⟩
abbrev main_v128 : Ref sig .tc := ⟨.hbm, 210, rfl⟩
abbrev main_v129 : Ref sig .tc := ⟨.hbm, 211, rfl⟩
abbrev main_c_36 : Ref sig .tc := ⟨.hbm, 212, rfl⟩
abbrev main_c_37 : Ref sig .tc := ⟨.hbm, 213, rfl⟩
abbrev main_call7_v0 : Ref sig .tc := ⟨.hbm, 214, rfl⟩
abbrev main_call7_v1 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_v130 : Ref sig .tc := ⟨.hbm, 219, rfl⟩
abbrev main_c_38 : Ref sig .tc := ⟨.hbm, 220, rfl⟩
abbrev main_v131 : Ref sig .tc := ⟨.hbm, 221, rfl⟩
abbrev main_v132 : Ref sig .tc := ⟨.hbm, 222, rfl⟩
abbrev main_c_39 : Ref sig .tc := ⟨.hbm, 223, rfl⟩
abbrev main_v133 : Ref sig .tc := ⟨.hbm, 224, rfl⟩
abbrev main_v134 : Ref sig .tc := ⟨.hbm, 225, rfl⟩
abbrev main_c_40 : Ref sig .tc := ⟨.hbm, 226, rfl⟩
abbrev main_c_41 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_v135 : Ref sig .tc := ⟨.hbm, 233, rfl⟩
abbrev main_v136 : Ref sig .tc := ⟨.hbm, 234, rfl⟩
abbrev main_c_42 : Ref sig .tc := ⟨.hbm, 235, rfl⟩
abbrev main_v137 : Ref sig .tc := ⟨.hbm, 236, rfl⟩
abbrev main_v138 : Ref sig .tc := ⟨.hbm, 237, rfl⟩
abbrev main_c_43 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_c_44 : Ref sig .tc := ⟨.hbm, 244, rfl⟩
abbrev main_v144 : Ref sig .tc := ⟨.hbm, 245, rfl⟩
abbrev main_v145 : Ref sig .tc := ⟨.hbm, 246, rfl⟩
abbrev main_c_45 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_call9_v0 : Ref sig .tc := ⟨.hbm, 272, rfl⟩
abbrev main_call9_v1 : Ref sig .tc := ⟨.hbm, 273, rfl⟩
abbrev main_call9_cst : Ref sig .tc := ⟨.hbm, 274, rfl⟩
abbrev main_call9_v2 : Ref sig .tc := ⟨.hbm, 275, rfl⟩
abbrev main_call9_v3 : Ref sig .tc := ⟨.hbm, 276, rfl⟩
abbrev main_call9_cst_0 : Ref sig .tc := ⟨.hbm, 277, rfl⟩
abbrev main_call9_v4 : Ref sig .tc := ⟨.hbm, 278, rfl⟩
abbrev main_call9_v5 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_c_46 : Ref sig .tc := ⟨.hbm, 283, rfl⟩
abbrev main_call10_v0 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_call11_v0 : Ref sig .tc := ⟨.hbm, 307, rfl⟩
abbrev main_call11_v1 : Ref sig .tc := ⟨.hbm, 308, rfl⟩
abbrev main_call11_cst : Ref sig .tc := ⟨.hbm, 309, rfl⟩
abbrev main_call11_v2 : Ref sig .tc := ⟨.hbm, 310, rfl⟩
abbrev main_call11_v3 : Ref sig .tc := ⟨.hbm, 311, rfl⟩
abbrev main_call11_cst_0 : Ref sig .tc := ⟨.hbm, 312, rfl⟩
abbrev main_call11_v4 : Ref sig .tc := ⟨.hbm, 313, rfl⟩
abbrev main_call11_v5 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_cst_47 : Ref sig .tc := ⟨.hbm, 320, rfl⟩
abbrev main_v200 : Ref sig .tc := ⟨.hbm, 321, rfl⟩
abbrev main_v201 : Ref sig .tc := ⟨.hbm, 322, rfl⟩
abbrev main_cst_48 : Ref sig .tc := ⟨.hbm, 323, rfl⟩
abbrev main_v202 : Ref sig .tc := ⟨.hbm, 324, rfl⟩
abbrev main_v203 : Ref sig .tc := ⟨.hbm, 325, rfl⟩
abbrev main_cst_49 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_cst_50 : Ref sig .tc := ⟨.hbm, 339, rfl⟩
abbrev main_v216 : Ref sig .tc := ⟨.hbm, 340, rfl⟩
abbrev main_v217 : Ref sig .tc := ⟨.hbm, 341, rfl⟩
abbrev main_cst_51 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_cst_52 : Ref sig .tc := ⟨.hbm, 348, rfl⟩
abbrev main_v223 : Ref sig .tc := ⟨.hbm, 349, rfl⟩
abbrev main_v224 : Ref sig .tc := ⟨.hbm, 350, rfl⟩
abbrev main_cst_53 : Ref sig .tc := ⟨.hbm, 351, rfl⟩
abbrev main_v225 : Ref sig .tc := ⟨.hbm, 352, rfl⟩
abbrev main_v226 : Ref sig .tc := ⟨.hbm, 353, rfl⟩
abbrev main_cst_54 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S1024 : Shape := ⟨1, ![1024]⟩
abbrev S1024x3072 : Shape := ⟨2, ![1024, 3072]⟩
abbrev S4x128x128 : Shape := ⟨3, ![4, 128, 128]⟩
abbrev S1x128x128 : Shape := ⟨3, ![1, 128, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S512 : Shape := ⟨1, ![512]⟩
abbrev S3x512 : Shape := ⟨2, ![3, 512]⟩
abbrev S1024x1024 : Shape := ⟨2, ![1024, 1024]⟩
abbrev S256x1024 : Shape := ⟨2, ![256, 1024]⟩
abbrev S2x8192x256 : Shape := ⟨3, ![2, 8192, 256]⟩
abbrev S1x16x1024 : Shape := ⟨3, ![1, 16, 1024]⟩
abbrev S1x1024x256 : Shape := ⟨3, ![1, 1024, 256]⟩
abbrev S1056x1024 : Shape := ⟨2, ![1056, 1024]⟩
abbrev S8x1056x128 : Shape := ⟨3, ![8, 1056, 128]⟩
abbrev S1024x2048 : Shape := ⟨2, ![1024, 2048]⟩
abbrev S1024x256 : Shape := ⟨2, ![1024, 256]⟩
abbrev S16x1024 : Shape := ⟨2, ![16, 1024]⟩
abbrev S16 : Shape := ⟨1, ![16]⟩
abbrev S16x1 : Shape := ⟨2, ![16, 1]⟩
abbrev S1024x1 : Shape := ⟨2, ![1024, 1]⟩
abbrev S1024x512 : Shape := ⟨2, ![1024, 512]⟩
abbrev S1056x512 : Shape := ⟨2, ![1056, 512]⟩
abbrev S1056x128 : Shape := ⟨2, ![1056, 128]⟩
abbrev S1x1056x128 : Shape := ⟨3, ![1, 1056, 128]⟩
abbrev S1056x256 : Shape := ⟨2, ![1056, 256]⟩
abbrev S1x136x128 : Shape := ⟨3, ![1, 136, 128]⟩
abbrev S136x128 : Shape := ⟨2, ![136, 128]⟩
abbrev S1024x128 : Shape := ⟨2, ![1024, 128]⟩
abbrev S1x1024x128 : Shape := ⟨3, ![1, 1024, 128]⟩
abbrev S8x128 : Shape := ⟨2, ![8, 128]⟩
abbrev S1008x128 : Shape := ⟨2, ![1008, 128]⟩
abbrev S1x144x128 : Shape := ⟨3, ![1, 144, 128]⟩
abbrev S144x128 : Shape := ⟨2, ![144, 128]⟩
abbrev S1x128 : Shape := ⟨2, ![1, 128]⟩

abbrev nBuf : Space → Nat
  | .hbm => 54
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1x2x8192x256, .f32⟩
  | .hbm, ⟨2, _⟩ => ⟨S1x1024, .f32⟩
  | .hbm, ⟨3, _⟩ => ⟨S1x1024x3072, .f32⟩
  | .hbm, ⟨4, _⟩ => ⟨S1x4x128x128, .f32⟩
  | .hbm, ⟨5, _⟩ => ⟨S1x512, .f32⟩
  | .hbm, ⟨6, _⟩ => ⟨S1x3x512, .f32⟩
  | .hbm, ⟨7, _⟩ => ⟨S1x1024x1024, .f32⟩
  | .hbm, ⟨8, _⟩ => ⟨S1x1024, .f32⟩
  | .hbm, ⟨9, _⟩ => ⟨S1x256x1024, .f32⟩
  | .hbm, ⟨10, _⟩ => ⟨S1x1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S4x128x128, .f32⟩
  | .hbm, ⟨17, _⟩ => ⟨S1x128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S128x256, .f32⟩
  | .hbm, ⟨26, _⟩ => ⟨S128x256, .f32⟩
  | .hbm, ⟨27, _⟩ => ⟨S256x256, .f32⟩
  | .hbm, ⟨28, _⟩ => ⟨S1x128x128, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S128x256, .f32⟩
  | .hbm, ⟨33, _⟩ => ⟨S128x256, .f32⟩
  | .hbm, ⟨34, _⟩ => ⟨S256x256, .f32⟩
  | .hbm, ⟨35, _⟩ => ⟨S1x256x256, .f32⟩
  | .hbm, ⟨36, _⟩ => ⟨S1x256x256, .f32⟩
  | .hbm, ⟨37, _⟩ => ⟨S2x256x256, .f32⟩
  | .hbm, ⟨38, _⟩ => ⟨S2x256x256, .bf16⟩
  | .hbm, ⟨39, _⟩ => ⟨S512, .f32⟩
  | .hbm, ⟨40, _⟩ => ⟨S1x512, .f32⟩
  | .hbm, ⟨41, _⟩ => ⟨S3x512, .f32⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1x1024, .f32⟩
  | .hbm, ⟨46, _⟩ => ⟨S256x1024, .f32⟩
  | .hbm, ⟨47, _⟩ => ⟨S256x1024, .bf16⟩
  | .hbm, ⟨48, _⟩ => ⟨S1024x1024, .f32⟩
  | .hbm, ⟨49, _⟩ => ⟨S1024x1024, .bf16⟩
  | .hbm, ⟨50, _⟩ => ⟨S1024, .f32⟩
  | .hbm, ⟨51, _⟩ => ⟨S1x1024, .f32⟩
  | .hbm, ⟨52, _⟩ => ⟨S2x8192x256, .f32⟩
  | .hbm, ⟨53, _⟩ => ⟨S2x8192x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024, .f32⟩
  | .local _ .vmem, ⟨9, _⟩ => ⟨S1024x3072, .bf16⟩
  | .local _ .vmem, ⟨10, _⟩ => ⟨S2x256x256, .bf16⟩
  | .local _ .vmem, ⟨11, _⟩ => ⟨S1x512, .f32⟩
  | .local _ .vmem, ⟨12, _⟩ => ⟨S3x512, .f32⟩
  | .local _ .vmem, ⟨13, _⟩ => ⟨S1024x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1056x1024, .bf16⟩
  | .local _ .vmem, ⟨21, _⟩ => ⟨S8x1056x128, .f32⟩
  | .local _ .vmem, ⟨22, _⟩ => ⟨S1024x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x8192x1024 : Shape := ⟨3, ![2, 8192, 1024]⟩
abbrev S1x2x8192x256 : Shape := ⟨4, ![1, 2, 8192, 256]⟩
abbrev S1x1024 : Shape := ⟨2, ![1, 1024]⟩
abbrev S1x1024x3072 : Shape := ⟨3, ![1, 1024, 3072]⟩
abbrev S1x4x128x128 : Shape := ⟨4, ![1, 4, 128, 128]⟩
abbrev S1x512 : Shape := ⟨2, ![1, 512]⟩
abbrev S1x3x512 : Shape := ⟨3, ![1, 3, 512]⟩
abbrev S1x1024x1024 : Shape := ⟨3, ![1, 1024, 1024]⟩
abbrev S1x256x1024 : Shape := ⟨3, ![1, 256, 1024]⟩
abbrev S2x8192x256 : Shape := ⟨3, ![2, 8192, 256]⟩
abbrev S1024 : Shape := ⟨1, ![1024]⟩
abbrev S1024x3072 : Shape := ⟨2, ![1024, 3072]⟩
abbrev S4x128x128 : Shape := ⟨3, ![4, 128, 128]⟩
abbrev S512 : Shape := ⟨1, ![512]⟩
abbrev S3x512 : Shape := ⟨2, ![3, 512]⟩
abbrev S1024x1024 : Shape := ⟨2, ![1024, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x512 : Shape := ⟨3, ![2, 8192, 512]⟩
abbrev S2x1x512 : Shape := ⟨3, ![2, 1, 512]⟩
abbrev S2x8193x512 : Shape := ⟨3, ![2, 8193, 512]⟩
abbrev S8192 : Shape := ⟨1, ![8192]⟩
abbrev S2x8193x128 : Shape := ⟨3, ![2, 8193, 128]⟩
abbrev S8192x1 : Shape := ⟨2, ![8192, 1]⟩
abbrev S2x8192x128 : Shape := ⟨3, ![2, 8192, 128]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x8194x512 : Shape := ⟨3, ![2, 8194, 512]⟩

abbrev nBuf : Space → Nat
  | .hbm => 364
  | .vmem => 0
  | .smem => 0
  | _ => 0

abbrev hbmTy0_0 (i : Nat) : BufTy := match i % 128 with
  | 0 => ⟨S2x8192x1024, .f32⟩
  | 1 => ⟨S1x2x8192x256, .f32⟩
  | 2 => ⟨S1x1024, .f32⟩
  | 3 => ⟨S1x1024x3072, .f32⟩
  | 4 => ⟨S1x4x128x128, .f32⟩
  | 5 => ⟨S1x512, .f32⟩
  | 6 => ⟨S1x3x512, .f32⟩
  | 7 => ⟨S1x1024x1024, .f32⟩
  | 8 => ⟨S1x1024, .f32⟩
  | 9 => ⟨S1x256x1024, .f32⟩
  | 10 => ⟨S1x1024x1024, .f32⟩
  | 11 => ⟨S1x1024, .f32⟩
  | 12 => ⟨S2x8192x256, .f32⟩
  | 13 => ⟨S1024, .f32⟩
  | 14 => ⟨S1024x3072, .f32⟩
  | 15 => ⟨S4x128x128, .f32⟩
  | 16 => ⟨S512, .f32⟩
  | 17 => ⟨S3x512, .f32⟩
  | 18 => ⟨S1024x1024, .f32⟩
  | 19 => ⟨S1024, .f32⟩
  | 20 => ⟨S256x1024, .f32⟩
  | 21 => ⟨S1024x1024, .f32⟩
  | 22 => ⟨S1024, .f32⟩
  | 23 => ⟨S2x8192x1024, .f32⟩
  | 24 => ⟨S_, .f32⟩
  | 25 => ⟨S2x8192, .f32⟩
  | 26 => ⟨S2x8192x1, .f32⟩
  | 27 => ⟨S_, .f32⟩
  | 28 => ⟨S2x8192x1, .f32⟩
  | 29 => ⟨S2x8192x1, .f32⟩
  | 30 => ⟨S_, .f32⟩
  | 31 => ⟨S2x8192x1, .f32⟩
  | 32 => ⟨S2x8192x1, .f32⟩
  | 33 => ⟨S2x8192x1, .f32⟩
  | 34 => ⟨S2x8192x1024, .f32⟩
  | 35 => ⟨S2x8192x1024, .f32⟩
  | 36 => ⟨S1x1x1024, .f32⟩
  | 37 => ⟨S2x8192x1024, .f32⟩
  | 38 => ⟨S2x8192x1024, .f32⟩
  | 39 => ⟨S2x8192x3072, .f32⟩
  | 40 => ⟨S2x8192x512, .f32⟩
  | 41 => ⟨S2x8192x512, .f32⟩
  | 42 => ⟨S2x8192x512, .f32⟩
  | 43 => ⟨S2x8192x512, .f32⟩
  | 44 => ⟨S2x8192x512, .f32⟩
  | 45 => ⟨S2x8192x512, .f32⟩
  | 46 => ⟨S_, .f32⟩
  | 47 => ⟨S2x1x512, .f32⟩
  | 48 => ⟨S_, .f32⟩
  | 49 => ⟨S_, .f32⟩
  | 50 => ⟨S2x8192x512, .f32⟩
  | 51 => ⟨S2x8193x512, .f32⟩
  | 52 => ⟨S8192, .i32⟩
  | 53 => ⟨S_, .i32⟩
  | 54 => ⟨S8192, .i32⟩
  | 55 => ⟨S8192, .i32⟩
  | 56 => ⟨S_, .i32⟩
  | 57 => ⟨S_, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S_, .i32⟩
  | 68 => ⟨S8192, .i32⟩
  | 69 => ⟨S8192, .i32⟩
  | 70 => ⟨S_, .i32⟩
  | 71 => ⟨S_, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S2x8193x128, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S2x8192x128, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S2x8192x128, .f32⟩
  | 97 => ⟨S2x8192x128, .f32⟩
  | 98 => ⟨S8192, .i32⟩
  | 99 => ⟨S8192, .f32⟩
  | 100 => ⟨S1x8192x1, .f32⟩
  | 101 => ⟨S2x8192x128, .f32⟩
  | 102 => ⟨S2x8192x128, .f32⟩
  | 103 => ⟨S2x8192x128, .f32⟩
  | 104 => ⟨S2x8192x128, .f32⟩
  | 105 => ⟨S_, .i32⟩
  | 106 => ⟨S8192, .i32⟩
  | 107 => ⟨S8192, .i32⟩
  | 108 => ⟨S_, .i32⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S_, .i32⟩
  | 123 => ⟨S_, .i32⟩
  | 124 => ⟨S_, .i32⟩
  | 125 => ⟨S8192, .i32⟩
  | 126 => ⟨S8192, .i32⟩
  | 127 => ⟨S_, .i32⟩
  | _ => ⟨S2x8192x1024, .f32⟩

abbrev hbmTy0_1 (i : Nat) : BufTy := match i % 128 with
  | 0 => ⟨S8192, .i32⟩
  | 1 => ⟨S8192, .i32⟩
  | 2 => ⟨S2x8193x128, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S2x8192x128, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S2x8192x128, .f32⟩
  | 21 => ⟨S2x8192x128, .f32⟩
  | 22 => ⟨S8192, .i32⟩
  | 23 => ⟨S8192, .f32⟩
  | 24 => ⟨S1x8192x1, .f32⟩
  | 25 => ⟨S2x8192x128, .f32⟩
  | 26 => ⟨S2x8192x128, .f32⟩
  | 27 => ⟨S2x8192x128, .f32⟩
  | 28 => ⟨S2x8192x128, .f32⟩
  | 29 => ⟨S_, .i32⟩
  | 30 => ⟨S8192, .i32⟩
  | 31 => ⟨S8192, .i32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S_, .i32⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S2x8193x128, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S2x8192x128, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S2x8192x128, .f32⟩
  | 73 => ⟨S2x8192x128, .f32⟩
  | 74 => ⟨S8192, .i32⟩
  | 75 => ⟨S8192, .f32⟩
  | 76 => ⟨S1x8192x1, .f32⟩
  | 77 => ⟨S2x8192x128, .f32⟩
  | 78 => ⟨S2x8192x128, .f32⟩
  | 79 => ⟨S2x8192x128, .f32⟩
  | 80 => ⟨S2x8192x128, .f32⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S_, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S2x8193x128, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S2x8192x128, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S2x8192x128, .f32⟩
  | 125 => ⟨S2x8192x128, .f32⟩
  | 126 => ⟨S8192, .i32⟩
  | 127 => ⟨S8192, .f32⟩
  | _ => ⟨S2x8192x1024, .f32⟩

abbrev hbmTy0_2 (i : Nat) : BufTy := match i % 128 with
  | 0 => ⟨S1x8192x1, .f32⟩
  | 1 => ⟨S2x8192x128, .f32⟩
  | 2 => ⟨S2x8192x128, .f32⟩
  | 3 => ⟨S2x8192x128, .f32⟩
  | 4 => ⟨S2x8192x128, .f32⟩
  | 5 => ⟨S2x8192x1x128, .f32⟩
  | 6 => ⟨S2x8192x1x128, .f32⟩
  | 7 => ⟨S2x8192x1x128, .f32⟩
  | 8 => ⟨S2x8192x1x128, .f32⟩
  | 9 => ⟨S2x8192x4x128, .f32⟩
  | 10 => ⟨S4x128x2x8192, .f32⟩
  | 11 => ⟨S2x8192x4x128, .f32⟩
  | 12 => ⟨S2x8192x512, .f32⟩
  | 13 => ⟨S1x1x512, .f32⟩
  | 14 => ⟨S2x8192x512, .f32⟩
  | 15 => ⟨S2x8192x512, .f32⟩
  | 16 => ⟨S2x8192x512, .f32⟩
  | 17 => ⟨S2x8192x512, .f32⟩
  | 18 => ⟨S_, .f32⟩
  | 19 => ⟨S2x8192x512, .f32⟩
  | 20 => ⟨S2x8192x512, .f32⟩
  | 21 => ⟨S_, .f32⟩
  | 22 => ⟨S2x8192x512, .f32⟩
  | 23 => ⟨S2x8192x512, .f32⟩
  | 24 => ⟨S2x8192x512, .f32⟩
  | 25 => ⟨S2x8192x512, .f32⟩
  | 26 => ⟨S2x8192x512, .f32⟩
  | 27 => ⟨S_, .i32⟩
  | 28 => ⟨S_, .f32⟩
  | 29 => ⟨S2x8194x512, .f32⟩
  | 30 => ⟨S2x8192x512, .f32⟩
  | 31 => ⟨S1x512, .f32⟩
  | 32 => ⟨S512, .f32⟩
  | 33 => ⟨S1x1x512, .f32⟩
  | 34 => ⟨S2x8192x512, .f32⟩
  | 35 => ⟨S2x8192x512, .f32⟩
  | 36 => ⟨S2x8192x512, .f32⟩
  | 37 => ⟨S1x512, .f32⟩
  | 38 => ⟨S512, .f32⟩
  | 39 => ⟨S1x1x512, .f32⟩
  | 40 => ⟨S2x8192x512, .f32⟩
  | 41 => ⟨S2x8192x512, .f32⟩
  | 42 => ⟨S2x8192x512, .f32⟩
  | 43 => ⟨S2x8192x512, .f32⟩
  | 44 => ⟨S1x512, .f32⟩
  | 45 => ⟨S512, .f32⟩
  | 46 => ⟨S1x1x512, .f32⟩
  | 47 => ⟨S2x8192x512, .f32⟩
  | 48 => ⟨S2x8192x512, .f32⟩
  | 49 => ⟨S2x8192x512, .f32⟩
  | 50 => ⟨S2x8192x512, .f32⟩
  | 51 => ⟨S2x8192x512, .f32⟩
  | 52 => ⟨S2x8192x512, .f32⟩
  | 53 => ⟨S_, .f32⟩
  | 54 => ⟨S2x8192x512, .f32⟩
  | 55 => ⟨S2x8192x512, .f32⟩
  | 56 => ⟨S_, .f32⟩
  | 57 => ⟨S2x8192x512, .f32⟩
  | 58 => ⟨S2x8192x512, .f32⟩
  | 59 => ⟨S2x8192x512, .f32⟩
  | 60 => ⟨S2x8192x512, .f32⟩
  | 61 => ⟨S2x8192x1024, .f32⟩
  | 62 => ⟨S2x8192x1024, .f32⟩
  | 63 => ⟨S2x8192x1024, .f32⟩
  | 64 => ⟨S_, .f32⟩
  | 65 => ⟨S2x8192, .f32⟩
  | 66 => ⟨S2x8192x1, .f32⟩
  | 67 => ⟨S_, .f32⟩
  | 68 => ⟨S2x8192x1, .f32⟩
  | 69 => ⟨S2x8192x1, .f32⟩
  | 70 => ⟨S_, .f32⟩
  | 71 => ⟨S2x8192x1, .f32⟩
  | 72 => ⟨S2x8192x1, .f32⟩
  | 73 => ⟨S2x8192x1, .f32⟩
  | 74 => ⟨S2x8192x1024, .f32⟩
  | 75 => ⟨S2x8192x1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S_, .f32⟩
  | 84 => ⟨S2x8192x1024, .f32⟩
  | 85 => ⟨S2x8192x1024, .f32⟩
  | 86 => ⟨S_, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S_, .f32⟩
  | 93 => ⟨S2x8192, .f32⟩
  | 94 => ⟨S2x8192x1, .f32⟩
  | 95 => ⟨S_, .f32⟩
  | 96 => ⟨S2x8192x1, .f32⟩
  | 97 => ⟨S2x8192x1, .f32⟩
  | 98 => ⟨S_, .f32⟩
  | 99 => ⟨S2x8192x1, .f32⟩
  | 100 => ⟨S2x8192x1, .f32⟩
  | 101 => ⟨S2x8192x1, .f32⟩
  | 102 => ⟨S2x8192x1024, .f32⟩
  | 103 => ⟨S2x8192x1024, .f32⟩
  | 104 => ⟨S1x1x1024, .f32⟩
  | 105 => ⟨S2x8192x1024, .f32⟩
  | 106 => ⟨S2x8192x1024, .f32⟩
  | 107 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_call0_call0_cst : Ref sig .tc := ⟨.hbm, 48, rfl⟩
abbrev main_call0_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_c_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v42 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_v45 : Ref sig .tc := ⟨.hbm, 81, rfl⟩
abbrev main_c_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_13 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_c_15 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v68 : Ref sig .tc := ⟨.hbm, 115, rfl⟩
abbrev main_c_16 : Ref sig .tc := ⟨.hbm, 116, rfl⟩
abbrev main_v69 : Ref sig .tc := ⟨.hbm, 117, rfl⟩
abbrev main_v70 : Ref sig .tc := ⟨.hbm, 118, rfl⟩
abbrev main_c_17 : Ref sig .tc := ⟨.hbm, 119, rfl⟩
abbrev main_v71 : Ref sig .tc := ⟨.hbm, 120, rfl⟩
abbrev main_v72 : Ref sig .tc := ⟨.hbm, 121, rfl⟩
abbrev main_c_18 : Ref sig .tc := ⟨.hbm, 122, rfl⟩
abbrev main_c_19 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v73 : Ref sig .tc := ⟨.hbm, 129, rfl⟩
abbrev main_v74 : Ref sig .tc := ⟨.hbm, 130, rfl⟩
abbrev main_c_20 : Ref sig .tc := ⟨.hbm, 131, rfl⟩
abbrev main_v75 : Ref sig .tc := ⟨.hbm, 132, rfl⟩
abbrev main_v76 : Ref sig .tc := ⟨.hbm, 133, rfl⟩
abbrev main_c_21 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_22 : Ref sig .tc := ⟨.hbm, 140, rfl⟩
abbrev main_v82 : Ref sig .tc := ⟨.hbm, 141, rfl⟩
abbrev main_v83 : Ref sig .tc := ⟨.hbm, 142, rfl⟩
abbrev main_c_23 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_24 : Ref sig .tc := ⟨.hbm, 157, rfl⟩
abbrev main_v97 : Ref sig .tc := ⟨.hbm, 158, rfl⟩
abbrev main_v98 : Ref sig .tc := ⟨.hbm, 159, rfl⟩
abbrev main_c_25 : Ref sig .tc := ⟨.hbm, 160, rfl⟩
abbrev main_c_26 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_v99 : Ref sig .tc := ⟨.hbm, 167, rfl⟩
abbrev main_c_27 : Ref sig .tc := ⟨.hbm, 168, rfl⟩
abbrev main_v100 : Ref sig .tc := ⟨.hbm, 169, rfl⟩
abbrev main_v101 : Ref sig .tc := ⟨.hbm, 170, rfl⟩
abbrev main_c_28 : Ref sig .tc := ⟨.hbm, 171, rfl⟩
abbrev main_v102 : Ref sig .tc := ⟨.hbm, 172, rfl⟩
abbrev main_v103 : Ref sig .tc := ⟨.hbm, 173, rfl⟩
abbrev main_c_29 : Ref sig .tc := ⟨.hbm, 174, rfl⟩
abbrev main_c_30 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v104 : Ref sig .tc := ⟨.hbm, 181, rfl⟩
abbrev main_v105 : Ref sig .tc := ⟨.hbm, 182, rfl⟩
abbrev main_c_31 : Ref sig .tc := ⟨.hbm, 183, rfl⟩
abbrev main_v106 : Ref sig .tc := ⟨.hbm, 184, rfl⟩
abbrev main_v107 : Ref sig .tc := ⟨.hbm, 185, rfl⟩
abbrev main_c_32 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_c_33 : Ref sig .tc := ⟨.hbm, 192, rfl⟩
abbrev main_v113 : Ref sig .tc := ⟨.hbm, 193, rfl⟩
abbrev main_v114 : Ref sig .tc := ⟨.hbm, 194, rfl⟩
abbrev main_c_34 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_c_35 : Ref sig .tc := ⟨.hbm, 209, rfl⟩
abbrev main_v128 : Ref sig .tc := ⟨.hbm, 210, rfl⟩
abbrev main_v129 : Ref sig .tc := ⟨.hbm, 211, rfl⟩
abbrev main_c_36 : Ref sig .tc := ⟨.hbm, 212, rfl⟩
abbrev main_c_37 : Ref sig .tc := ⟨.hbm, 213, rfl⟩
abbrev main_call7_v0 : Ref sig .tc := ⟨.hbm, 214, rfl⟩
abbrev main_call7_v1 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_v130 : Ref sig .tc := ⟨.hbm, 219, rfl⟩
abbrev main_c_38 : Ref sig .tc := ⟨.hbm, 220, rfl⟩
abbrev main_v131 : Ref sig .tc := ⟨.hbm, 221, rfl⟩
abbrev main_v132 : Ref sig .tc := ⟨.hbm, 222, rfl⟩
abbrev main_c_39 : Ref sig .tc := ⟨.hbm, 223, rfl⟩
abbrev main_v133 : Ref sig .tc := ⟨.hbm, 224, rfl⟩
abbrev main_v134 : Ref sig .tc := ⟨.hbm, 225, rfl⟩
abbrev main_c_40 : Ref sig .tc := ⟨.hbm, 226, rfl⟩
abbrev main_c_41 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_v135 : Ref sig .tc := ⟨.hbm, 233, rfl⟩
abbrev main_v136 : Ref sig .tc := ⟨.hbm, 234, rfl⟩
abbrev main_c_42 : Ref sig .tc := ⟨.hbm, 235, rfl⟩
abbrev main_v137 : Ref sig .tc := ⟨.hbm, 236, rfl⟩
abbrev main_v138 : Ref sig .tc := ⟨.hbm, 237, rfl⟩
abbrev main_c_43 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_c_44 : Ref sig .tc := ⟨.hbm, 244, rfl⟩
abbrev main_v144 : Ref sig .tc := ⟨.hbm, 245, rfl⟩
abbrev main_v145 : Ref sig .tc := ⟨.hbm, 246, rfl⟩
abbrev main_c_45 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_call9_v0 : Ref sig .tc := ⟨.hbm, 272, rfl⟩
abbrev main_call9_v1 : Ref sig .tc := ⟨.hbm, 273, rfl⟩
abbrev main_call9_cst : Ref sig .tc := ⟨.hbm, 274, rfl⟩
abbrev main_call9_v2 : Ref sig .tc := ⟨.hbm, 275, rfl⟩
abbrev main_call9_v3 : Ref sig .tc := ⟨.hbm, 276, rfl⟩
abbrev main_call9_cst_0 : Ref sig .tc := ⟨.hbm, 277, rfl⟩
abbrev main_call9_v4 : Ref sig .tc := ⟨.hbm, 278, rfl⟩
abbrev main_call9_v5 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_c_46 : Ref sig .tc := ⟨.hbm, 283, rfl⟩
abbrev main_call10_v0 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_call11_v0 : Ref sig .tc := ⟨.hbm, 307, rfl⟩
abbrev main_call11_v1 : Ref sig .tc := ⟨.hbm, 308, rfl⟩
abbrev main_call11_cst : Ref sig .tc := ⟨.hbm, 309, rfl⟩
abbrev main_call11_v2 : Ref sig .tc := ⟨.hbm, 310, rfl⟩
abbrev main_call11_v3 : Ref sig .tc := ⟨.hbm, 311, rfl⟩
abbrev main_call11_cst_0 : Ref sig .tc := ⟨.hbm, 312, rfl⟩
abbrev main_call11_v4 : Ref sig .tc := ⟨.hbm, 313, rfl⟩
abbrev main_call11_v5 : Ref sig .tc := ⟨.hbm, 314, rfl⟩
abbrev main_v195 : Ref sig .tc := ⟨.hbm, 315, rfl⟩
abbrev main_v196 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_cst_47 : Ref sig .tc := ⟨.hbm, 320, rfl⟩
abbrev main_v200 : Ref sig .tc := ⟨.hbm, 321, rfl⟩
abbrev main_v201 : Ref sig .tc := ⟨.hbm, 322, rfl⟩
abbrev main_cst_48 : Ref sig .tc := ⟨.hbm, 323, rfl⟩
abbrev main_v202 : Ref sig .tc := ⟨.hbm, 324, rfl⟩
abbrev main_v203 : Ref sig .tc := ⟨.hbm, 325, rfl⟩
abbrev main_cst_49 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_cst_50 : Ref sig .tc := ⟨.hbm, 339, rfl⟩
abbrev main_v216 : Ref sig .tc := ⟨.hbm, 340, rfl⟩
abbrev main_v217 : Ref sig .tc := ⟨.hbm, 341, rfl⟩
abbrev main_cst_51 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_cst_52 : Ref sig .tc := ⟨.hbm, 348, rfl⟩
abbrev main_v223 : Ref sig .tc := ⟨.hbm, 349, rfl⟩
abbrev main_v224 : Ref sig .tc := ⟨.hbm, 350, rfl⟩
abbrev main_cst_53 : Ref sig .tc := ⟨.hbm, 351, rfl⟩
abbrev main_v225 : Ref sig .tc := ⟨.hbm, 352, rfl⟩
abbrev main_v226 : Ref sig .tc := ⟨.hbm, 353, rfl⟩
abbrev main_cst_54 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩

abbrev nD : Nat := 1
abbrev τ : Topo := Topo.v7x

variable {F : FTy → Type} [FloatOps F]
-- ==== Proof.Spec.lean ====
module

public import Idealize.ShloMosaic.PureOps.Ideal

@[expose] public section

/-! The layer on one sequence, as plain sums over the reals with infinities: rows of 1024 values, positions counted from
zero, and positions shifted by sixteen where windows reach over an end. -/

namespace Cert.Spec
open Idealize.ShloMosaic

noncomputable section

/-- The row length, as the constant the programs carry. -/
def cLen : EReal := Ideal.ofBits .f32 0x44800000#32
/-- The small number added under the root. -/
def cEps : EReal := Ideal.ofBits .f32 0x358637BD#32

/-- One row normalised by its root mean square, times a weight. -/
def rms (v g : ℕ → EReal) (k : ℕ) : EReal :=
  v k * Ideal.rsqrt (Ideal.div (∑ j : Fin 1024, v j * v j) cLen + cEps) * g k

/-- The weights, read at plain positions. -/
structure Wts where
  gpre : ℕ → EReal
  win : ℕ → ℕ → EReal
  wpool : ℕ → ℕ → ℕ → EReal
  psc : ℕ → EReal
  cw : ℕ → ℕ → EReal
  wout : ℕ → ℕ → EReal
  gpost : ℕ → EReal
  wple : ℕ → ℕ → EReal
  wgate : ℕ → ℕ → EReal
  gple : ℕ → EReal

/-- The normalised rows, sixteen positions later, and zero outside the sequence. -/
def hpad (W : Wts) (x : ℕ → ℕ → EReal) (n k : ℕ) : EReal :=
  if 16 ≤ n ∧ n < 8208 then rms (x (n - 16)) W.gpre k else 0

/-- The projection of padded position `n` on column `c`. -/
def zc (win H : ℕ → ℕ → EReal) (n c : ℕ) : EReal := ∑ k : Fin 1024, H n k * win k c

/-- Gated input of the short convolution. -/
def cu (win H : ℕ → ℕ → EReal) (n j : ℕ) : EReal := zc win H n (2048 + j) * zc win H n (1024 + j)

/-- The windowed sum of group `g` about position `p`. -/
def tot (win H : ℕ → ℕ → EReal) (g p c : ℕ) : EReal :=
  ∑ q ∈ Finset.range (2 ^ (g + 1)), zc win H (p + 17 - 2 ^ g + q) c

/-- How many positions of the sequence the window of group `g` about `p` holds. -/
def cnt (g p : ℕ) : ℕ := min (p + 2 ^ g + 1) 8192 - (p - (2 ^ g - 1))

/-- The windowed mean less the value at the position itself; the rows held start at position `P` of the sequence. -/
def dev (win : ℕ → ℕ → EReal) (P : ℕ) (H : ℕ → ℕ → EReal) (p c : ℕ) : EReal :=
  Ideal.div (tot win H (c / 128) p c) (((cnt (c / 128) (P + p) : ℝ)) : EReal) - zc win H (p + 16) c

/-- The pooling half: the deviations mixed inside each group of 128 columns. -/
def ya (W : Wts) (P : ℕ) (H : ℕ → ℕ → EReal) (p c : ℕ) : EReal :=
  (∑ i : Fin 128, dev W.win P H p (128 * (c / 128) + i) * W.wpool (c / 128) i (c % 128))
    * (W.psc c * (zc W.win H (p + 16) (512 + c) * Ideal.logistic (zc W.win H (p + 16) (512 + c))))

/-- The short convolution half. -/
def yb (W : Wts) (H : ℕ → ℕ → EReal) (p c : ℕ) : EReal :=
  (cu W.win H (p + 15) c * W.cw 0 c + cu W.win H (p + 16) c * W.cw 1 c + cu W.win H (p + 17) c * W.cw 2 c)
    * (zc W.win H (p + 16) (1536 + c) * (zc W.win H (p + 16) (2560 + c) * Ideal.logistic (zc W.win H (p + 16) (2560 + c))))

/-- The two halves side by side. -/
def y (W : Wts) (P : ℕ) (H : ℕ → ℕ → EReal) (p j : ℕ) : EReal := if j < 512 then ya W P H p j else yb W H p (j - 512)

/-- The mixed row, projected back. -/
def o (W : Wts) (P : ℕ) (H : ℕ → ℕ → EReal) (p j : ℕ) : EReal := ∑ k : Fin 1024, y W P H p k * W.wout k j

/-- The first residual. -/
def res (W : Wts) (P : ℕ) (H x : ℕ → ℕ → EReal) (p j : ℕ) : EReal := x p j + rms (o W P H p) W.gpost j

/-- The gated second stream. -/
def ple (W : Wts) (P : ℕ) (H x e : ℕ → ℕ → EReal) (p j : ℕ) : EReal :=
  (∑ k : Fin 256, e p k * W.wple k j) * Ideal.logistic (∑ k : Fin 1024, res W P H x p k * W.wgate k j)

/-- The layer's output row. -/
def out (W : Wts) (P : ℕ) (H x e : ℕ → ℕ → EReal) (p j : ℕ) : EReal := res W P H x p j + rms (ple W P H x e p) W.gple j

end

end Cert.Spec
-- ==== Proof.Rd.lean ====
module

public import Idealize.ShloMosaic.PureOps.Ideal
public import Idealize.ShloMosaic.Lib.Pipeline.ValueKit.Acc
public meta import Idealize.ShloMosaic.Lib.Pipeline.ValueKit.Acc
public import Idealize.ShloMosaic.Lib.Pointwise.Tactic
public import Idealize.ShloMosaic.Lib.Pointwise.Select
public import Idealize.ShloMosaic.Lib.Pointwise.Reduce
public import Idealize.ShloMosaic.Lib.MatmulPlain
public import Idealize.ShloMosaic.Lib.Pointwise.IndexBridge
public meta import Idealize.ShloMosaic.Lib.Pointwise.Tactic

@[expose] public section

/-! Reading arrays at plain natural positions, so that equalities between reads are equalities of numbers. -/

namespace Cert.Rd
open Idealize.ShloMosaic Idealize.ShloMosaic.Tactic

/-- An array of two axes at a row and a column, zero outside. -/
noncomputable def rd2 {m n : ℕ} (x : (⟨2, ![m, n]⟩ : Shape).Idx → EReal) (a b : ℕ) : EReal :=
  if h : a < m ∧ b < n then x (ix2 ⟨a, h.1⟩ ⟨b, h.2⟩) else 0

/-- An array of three axes at three positions, zero outside. -/
noncomputable def rd3 {l m n : ℕ} (x : (⟨3, ![l, m, n]⟩ : Shape).Idx → EReal) (c a b : ℕ) : EReal :=
  if h : c < l ∧ a < m ∧ b < n then x (ix3 ⟨c, h.1⟩ ⟨a, h.2.1⟩ ⟨b, h.2.2⟩) else 0

/-- An array of one axis at a position, zero outside. -/
noncomputable def rd1 {m : ℕ} (x : (⟨1, ![m]⟩ : Shape).Idx → EReal) (a : ℕ) : EReal :=
  if h : a < m then x (ix1 ⟨a, h⟩) else 0

section
variable {l m n a b c : ℕ}

theorem rd2_of (x : (⟨2, ![m, n]⟩ : Shape).Idx → EReal) (ha : a < m) (hb : b < n) :
    rd2 x a b = x (ix2 ⟨a, ha⟩ ⟨b, hb⟩) := dif_pos ⟨ha, hb⟩

theorem rd3_of (x : (⟨3, ![l, m, n]⟩ : Shape).Idx → EReal) (hc : c < l) (ha : a < m) (hb : b < n) :
    rd3 x c a b = x (ix3 ⟨c, hc⟩ ⟨a, ha⟩ ⟨b, hb⟩) := dif_pos ⟨hc, ha, hb⟩

theorem rd1_of (x : (⟨1, ![m]⟩ : Shape).Idx → EReal) (ha : a < m) :
    rd1 x a = x (ix1 ⟨a, ha⟩) := dif_pos ha

theorem at2 (x : (⟨2, ![m, n]⟩ : Shape).Idx → EReal) (p : Fin m) (q : Fin n) : x (ix2 p q) = rd2 x p.val q.val := by
  rw [rd2_of x p.isLt q.isLt]

theorem at3 (x : (⟨3, ![l, m, n]⟩ : Shape).Idx → EReal) (o : Fin l) (p : Fin m) (q : Fin n) :
    x (ix3 o p q) = rd3 x o.val p.val q.val := by
  rw [rd3_of x o.isLt p.isLt q.isLt]

theorem at1 (x : (⟨1, ![m]⟩ : Shape).Idx → EReal) (p : Fin m) : x (ix1 p) = rd1 x p.val := by
  rw [rd1_of x p.isLt]

variable {φ : FTy}

theorem rd2_addf (x y : FVec Ideal ⟨2, ![m, n]⟩ φ) (ha : a < m) (hb : b < n) : rd2 (addf x y) a b = rd2 x a b + rd2 y a b := by
  rw [rd2_of _ ha hb, rd2_of _ ha hb, rd2_of _ ha hb]; pointwise
theorem rd2_mulf (x y : FVec Ideal ⟨2, ![m, n]⟩ φ) (ha : a < m) (hb : b < n) : rd2 (mulf x y) a b = rd2 x a b * rd2 y a b := by
  rw [rd2_of _ ha hb, rd2_of _ ha hb, rd2_of _ ha hb]; pointwise
theorem rd2_subf (x y : FVec Ideal ⟨2, ![m, n]⟩ φ) (ha : a < m) (hb : b < n) : rd2 (subf x y) a b = rd2 x a b - rd2 y a b := by
  rw [rd2_of _ ha hb, rd2_of _ ha hb, rd2_of _ ha hb]; pointwise
theorem rd2_divf (x y : FVec Ideal ⟨2, ![m, n]⟩ φ) (ha : a < m) (hb : b < n) : rd2 (divf x y) a b = Ideal.div (rd2 x a b) (rd2 y a b) := by
  rw [rd2_of _ ha hb, rd2_of _ ha hb, rd2_of _ ha hb]; pointwise
theorem rd2_rsqrt (x : FVec Ideal ⟨2, ![m, n]⟩ φ) (ha : a < m) (hb : b < n) : rd2 (rsqrt x) a b = Ideal.rsqrt (rd2 x a b) := by
  rw [rd2_of _ ha hb, rd2_of _ ha hb]; pointwise
theorem rd2_logistic (x : FVec Ideal ⟨2, ![m, n]⟩ φ) (ha : a < m) (hb : b < n) : rd2 (logistic x) a b = Ideal.logistic (rd2 x a b) := by
  rw [rd2_of _ ha hb, rd2_of _ ha hb]; pointwise
theorem rd2_truncf (ψ : FTy) (x : FVec Ideal ⟨2, ![m, n]⟩ φ) (h : ψ.bits < φ.bits) (ha : a < m) (hb : b < n) :
    rd2 (truncf ψ x h) a b = rd2 x a b := by
  rw [rd2_of _ ha hb, rd2_of _ ha hb]; pointwise
theorem rd2_broadcast (e : EReal) (ha : a < m) (hb : b < n) : rd2 (broadcast ⟨2, ![m, n]⟩ e) a b = e := by
  rw [rd2_of _ ha hb]; pointwise
theorem rd2_select (w : BitVec 1) (x y : FVec Ideal ⟨2, ![m, n]⟩ φ) (ha : a < m) (hb : b < n) :
    rd2 (Scalar.select w x y) a b = Scalar.select w (rd2 x a b) (rd2 y a b) := by
  rw [rd2_of _ ha hb, rd2_of _ ha hb, rd2_of _ ha hb]; pointwise
theorem rd2_bcast_row (x : FVec Ideal ⟨2, ![1, n]⟩ φ) (h : (⟨2, ![1, n]⟩ : Shape).Broadcasts ⟨2, ![m, n]⟩) (ha : a < m) (hb : b < n) :
    rd2 (broadcastTo ⟨2, ![m, n]⟩ x h) a b = rd2 x 0 b := by
  rw [rd2_of _ ha hb, rd2_of _ (by omega) hb]
  refine broadcastTo_apply x h _ _ fun i => ?_
  match i with
  | ⟨0, _⟩ => rfl
  | ⟨1, _⟩ =>
    show b = if n = 1 then 0 else b
    split_ifs <;> omega
theorem rd2_bcast_col (x : FVec Ideal ⟨2, ![m, 1]⟩ φ) (h : (⟨2, ![m, 1]⟩ : Shape).Broadcasts ⟨2, ![m, n]⟩) (ha : a < m) (hb : b < n) :
    rd2 (broadcastTo ⟨2, ![m, n]⟩ x h) a b = rd2 x a 0 := by
  rw [rd2_of _ ha hb, rd2_of _ ha (by omega)]
  refine broadcastTo_apply x h _ _ fun i => ?_
  match i with
  | ⟨0, _⟩ =>
    show a = if m = 1 then 0 else a
    split_ifs <;> omega
  | ⟨1, _⟩ => rfl
theorem rd2_cast (x : (⟨3, ![1, m, n]⟩ : Shape).Idx → EReal) (h : (⟨3, ![1, m, n]⟩ : Shape).ShapeCasts ⟨2, ![m, n]⟩) (ha : a < m) (hb : b < n) :
    rd2 (shapeCast ⟨2, ![m, n]⟩ x h) a b = rd3 x 0 a b := by
  rw [rd2_of _ ha hb, rd3_of _ (by omega) ha hb]
  refine shapeCast_apply x h _ _ ?_
  rw [Shape.rowMajor_val_three, Shape.rowMajor_val_two]
  show (0 * m + a) * n + b = a * n + b
  rw [Nat.zero_mul, Nat.zero_add]
theorem rd3_cast (x : (⟨2, ![m, n]⟩ : Shape).Idx → EReal) (h : (⟨2, ![m, n]⟩ : Shape).ShapeCasts ⟨3, ![1, m, n]⟩) (ha : a < m) (hb : b < n) :
    rd3 (shapeCast ⟨3, ![1, m, n]⟩ x h) 0 a b = rd2 x a b := by
  rw [rd2_of _ ha hb, rd3_of _ (by omega) ha hb]
  refine shapeCast_apply x h _ _ ?_
  rw [Shape.rowMajor_val_three, Shape.rowMajor_val_two]
  show a * n + b = (0 * m + a) * n + b
  rw [Nat.zero_mul, Nat.zero_add]
theorem rd2_cast_same (x : (⟨2, ![m, n]⟩ : Shape).Idx → EReal) (h : (⟨2, ![m, n]⟩ : Shape).ShapeCasts ⟨2, ![m, n]⟩) (ha : a < m) (hb : b < n) :
    rd2 (shapeCast ⟨2, ![m, n]⟩ x h) a b = rd2 x a b := by
  rw [shapeCast_self]
theorem rd2_cast_col (x : (⟨1, ![m]⟩ : Shape).Idx → EReal) (h : (⟨1, ![m]⟩ : Shape).ShapeCasts ⟨2, ![m, 1]⟩) (ha : a < m) :
    rd2 (shapeCast ⟨2, ![m, 1]⟩ x h) a 0 = rd1 x a := by
  rw [rd2_of _ ha (by omega), rd1_of _ ha]
  refine shapeCast_apply x h _ _ ?_
  rw [Shape.rowMajor_val_one, Shape.rowMajor_val_two]
  show a = a * 1 + 0
  omega
theorem rd2_slice (p q k r : ℕ) (x : (⟨2, ![m, n]⟩ : Shape).Idx → EReal) (h : (⟨2, ![m, n]⟩ : Shape).Slices ![p, q] ⟨2, ![k, r]⟩)
    (ha : a < k) (hb : b < r) :
    rd2 (extractStridedSlice ⟨2, ![k, r]⟩ ![p, q] x h) a b = rd2 x (p + a) (q + b) := by
  have h0 := h.2 0; have h1 := h.2 1
  simp at h0 h1
  rw [rd2_of _ ha hb, rd2_of _ (by omega) (by omega)]
  show x (fun i => _) = _
  refine congrArg x (funext fun i => Fin.ext ?_)
  match i with
  | ⟨0, _⟩ => rfl
  | ⟨1, _⟩ => rfl
theorem rd2_rot (w : BitVec 32) (x : (⟨2, ![m, n]⟩ : Shape).Idx → EReal) (h : (⟨2, ![m, n]⟩ : Shape).Rotates 0 none) (e : ℕ)
    (he : w.toNat + e = m) (ha : a + e < m) (hb : b < n) :
    rd2 (dynamicRotate 0 w none x h) a b = rd2 x (a + e) b := by
  rw [rd2_of _ (by omega) hb, rd2_of _ ha hb, Pointwise.dynamicRotate_apply]
  refine congrArg x ?_
  rw [Shape.Idx.norm2]
  refine (ix2_inj _ _ _ _).2 ⟨Fin.ext ?_, Fin.ext ?_⟩
  · show (a + m - (w.toNat + 0) % m) % m = a + e
    have hm : w.toNat = m - e := by omega
    rcases Nat.eq_zero_or_pos e with he0 | he0
    · subst he0
      rw [show w.toNat + 0 = m by omega, Nat.mod_self, Nat.sub_zero, Nat.add_mod_right, Nat.mod_eq_of_lt (by omega)]; rfl
    · rw [Nat.mod_eq_of_lt (show w.toNat + 0 < m by omega), show a + m - (w.toNat + 0) = a + e by omega, Nat.mod_eq_of_lt ha]
  · rfl
theorem rd2_ld_f32 (k r p q : ℕ) (x : Vec Ideal ⟨2, ![m, n]⟩ .f32) (inb : ∀ i, (![p, q] : Fin 2 → ℕ) i + (![k, r] : Fin 2 → ℕ) i ≤ (⟨2, ![m, n]⟩ : Shape).size i)
    (ha : a < k) (hb : b < r) :
    rd2 (m := k) (n := r) (View.ld (Val := Elt Ideal) (e' := .f32) x (Rect.unit (s := ⟨2, ![m, n]⟩) ![p, q] (no_index ![k, r]) inb)) a b = rd2 x (p + a) (q + b) := by
  have h0 := inb 0; have h1 := inb 1
  simp at h0 h1
  rw [rd2_of _ ha hb, rd2_of _ (by omega) (by omega)]; pointwise; rw [Shape.Idx.norm2]; rfl
theorem rd3_ld_f32 (k r s p q o : ℕ) (x : Vec Ideal ⟨3, ![l, m, n]⟩ .f32) (inb : ∀ i, (![p, q, o] : Fin 3 → ℕ) i + (![k, r, s] : Fin 3 → ℕ) i ≤ (⟨3, ![l, m, n]⟩ : Shape).size i)
    (hc : c < k) (ha : a < r) (hb : b < s) :
    rd3 (l := k) (m := r) (n := s) (View.ld (Val := Elt Ideal) (e' := .f32) x (Rect.unit (s := ⟨3, ![l, m, n]⟩) ![p, q, o] (no_index ![k, r, s]) inb)) c a b = rd3 x (p + c) (q + a) (o + b) := by
  have h0 := inb 0; have h1 := inb 1; have h2 := inb 2
  simp at h0 h1 h2
  rw [rd3_of _ hc ha hb, rd3_of _ (by omega) (by omega) (by omega)]; pointwise; rw [Shape.Idx.norm3]; rfl
theorem rd2_ld_bf16 (k r p q : ℕ) (x : Vec Ideal ⟨2, ![m, n]⟩ .bf16) (inb : ∀ i, (![p, q] : Fin 2 → ℕ) i + (![k, r] : Fin 2 → ℕ) i ≤ (⟨2, ![m, n]⟩ : Shape).size i)
    (ha : a < k) (hb : b < r) :
    rd2 (m := k) (n := r) (View.ld (Val := Elt Ideal) (e' := .bf16) x (Rect.unit (s := ⟨2, ![m, n]⟩) ![p, q] (no_index ![k, r]) inb)) a b = rd2 x (p + a) (q + b) := by
  have h0 := inb 0; have h1 := inb 1
  simp at h0 h1
  rw [rd2_of _ ha hb, rd2_of _ (by omega) (by omega)]; pointwise; rw [Shape.Idx.norm2]; rfl
theorem rd3_ld_bf16 (k r s p q o : ℕ) (x : Vec Ideal ⟨3, ![l, m, n]⟩ .bf16) (inb : ∀ i, (![p, q, o] : Fin 3 → ℕ) i + (![k, r, s] : Fin 3 → ℕ) i ≤ (⟨3, ![l, m, n]⟩ : Shape).size i)
    (hc : c < k) (ha : a < r) (hb : b < s) :
    rd3 (l := k) (m := r) (n := s) (View.ld (Val := Elt Ideal) (e' := .bf16) x (Rect.unit (s := ⟨3, ![l, m, n]⟩) ![p, q, o] (no_index ![k, r, s]) inb)) c a b = rd3 x (p + c) (q + a) (o + b) := by
  have h0 := inb 0; have h1 := inb 1; have h2 := inb 2
  simp at h0 h1 h2
  rw [rd3_of _ hc ha hb, rd3_of _ (by omega) (by omega) (by omega)]; pointwise; rw [Shape.Idx.norm3]; rfl

theorem rd1_sum {ax : List (Fin 2)} (x : FVec Ideal ⟨2, ![m, n]⟩ .f32) (h : (⟨2, ![m, n]⟩ : Shape).Reduces ax ⟨1, ![m]⟩)
    (hf : FKind.Formats .f32) (hw : 0x00000000#32 = 0x00000000#32) (hx : ax = [1]) (ha : a < m) :
    rd1 (multiReduction .add ax ⟨1, ![m]⟩ x 0x00000000#32 h hf hw) a = ∑ k : Fin n, rd2 x a k := by
  subst hx
  rw [rd1_of _ ha]
  refine (Ideal.reduceAdd_r2_a1 h x (ix1 ⟨a, ha⟩)).trans ?_
  exact Finset.sum_congr rfl fun k _ => at2 x ⟨a, ha⟩ k

theorem rd2_matmul {k : ℕ} {φ₁ φ₂ : FTy} (prec : Option ContractPrecision) (x : FVec Ideal ⟨2, ![m, k]⟩ φ₁) (y : FVec Ideal ⟨2, ![k, n]⟩ φ₂)
    (ha : a < m) (hb : b < n) :
    rd2 (matmul (DotDims.plain m k n) prec x y (constant ⟨2, ![m, n]⟩ .f32 0x00000000#32)) a b = ∑ j : Fin k, rd2 x a j * rd2 y j b := by
  rw [rd2_of _ ha hb, ix2_eq_valueIdx]
  refine (Ideal.matmul_plain_apply prec x y _ _ _).trans ?_
  simp only [← ix2_eq_valueIdx, constant_apply, Ideal.ofBits_def, Ideal.ofBits_zero_f32, zero_add]
  exact Finset.sum_congr rfl fun j _ => by rw [at2 x, at2 y]

theorem rd2_hit_f32 (k r p q : ℕ) (inb : ∀ i, (![p, q] : Fin 2 → ℕ) i + (![k, r] : Fin 2 → ℕ) i ≤ (⟨2, ![m, n]⟩ : Shape).size i)
    (w : FVec Ideal ⟨2, ![k, r]⟩ .f32) (L : List (View.Piece (Elt Ideal) ⟨2, ![m, n]⟩ .f32)) (hp : p ≤ a) (ha : a < p + k) (hq : q ≤ b) (hb : b < q + r) :
    rd2 (View.canon ((⟨Rect.unit (s := ⟨2, ![m, n]⟩) ![p, q] (no_index ![k, r]) inb, w⟩ : View.Piece (Elt Ideal) ⟨2, ![m, n]⟩ .f32) :: L)) a b = rd2 w (a - p) (b - q) := by
  have h0 := inb 0; have h1 := inb 1
  simp at h0 h1
  rw [rd2_of _ (by omega) (by omega), rd2_of w (by omega) (by omega)]
  refine Eq.trans (congrArg _ ?_) (View.canon_cons_emb (Val := Elt Ideal) (Rect.unit (s := ⟨2, ![m, n]⟩) ![p, q] ![k, r] inb) w L (ix2 ⟨a - p, by omega⟩ ⟨b - q, by omega⟩))
  funext i; apply Fin.ext
  match i with
  | ⟨0, _⟩ => show a = p + 1 * (a - p); omega
  | ⟨1, _⟩ => show b = q + 1 * (b - q); omega

theorem rd2_miss_f32 (k r p q : ℕ) (inb : ∀ i, (![p, q] : Fin 2 → ℕ) i + (![k, r] : Fin 2 → ℕ) i ≤ (⟨2, ![m, n]⟩ : Shape).size i)
    (w : FVec Ideal ⟨2, ![k, r]⟩ .f32) (L : List (View.Piece (Elt Ideal) ⟨2, ![m, n]⟩ .f32)) (h : a < p ∨ p + k ≤ a ∨ b < q ∨ q + r ≤ b) :
    rd2 (View.canon ((⟨Rect.unit (s := ⟨2, ![m, n]⟩) ![p, q] (no_index ![k, r]) inb, w⟩ : View.Piece (Elt Ideal) ⟨2, ![m, n]⟩ .f32) :: L)) a b = rd2 (View.canon L) a b := by
  unfold rd2
  split_ifs with hab
  swap; · rfl
  refine View.canon_cons_of_not_mem _ L ?_
  intro hm
  have hm' := (Rect.mem_set_unit (inb := inb)).1 hm
  have h0 : p ≤ a ∧ a < p + k := hm' 0
  have h1 : q ≤ b ∧ b < q + r := hm' 1
  omega

theorem rd3_hit_f32 (k r s p q o : ℕ) (inb : ∀ i, (![p, q, o] : Fin 3 → ℕ) i + (![k, r, s] : Fin 3 → ℕ) i ≤ (⟨3, ![l, m, n]⟩ : Shape).size i)
    (w : FVec Ideal ⟨3, ![k, r, s]⟩ .f32) (L : List (View.Piece (Elt Ideal) ⟨3, ![l, m, n]⟩ .f32)) (hp : p ≤ c) (hc : c < p + k) (hq : q ≤ a) (ha : a < q + r)
    (ho : o ≤ b) (hb : b < o + s) :
    rd3 (View.canon ((⟨Rect.unit (s := ⟨3, ![l, m, n]⟩) ![p, q, o] (no_index ![k, r, s]) inb, w⟩ : View.Piece (Elt Ideal) ⟨3, ![l, m, n]⟩ .f32) :: L)) c a b
      = rd3 w (c - p) (a - q) (b - o) := by
  have h0 := inb 0; have h1 := inb 1; have h2 := inb 2
  simp at h0 h1 h2
  rw [rd3_of _ (by omega) (by omega) (by omega), rd3_of w (by omega) (by omega) (by omega)]
  refine Eq.trans (congrArg _ ?_) (View.canon_cons_emb (Val := Elt Ideal) (Rect.unit (s := ⟨3, ![l, m, n]⟩) ![p, q, o] ![k, r, s] inb) w L (ix3 ⟨c - p, by omega⟩ ⟨a - q, by omega⟩ ⟨b - o, by omega⟩))
  funext i; apply Fin.ext
  match i with
  | ⟨0, _⟩ => show c = p + 1 * (c - p); omega
  | ⟨1, _⟩ => show a = q + 1 * (a - q); omega
  | ⟨2, _⟩ => show b = o + 1 * (b - o); omega

theorem rd3_miss_f32 (k r s p q o : ℕ) (inb : ∀ i, (![p, q, o] : Fin 3 → ℕ) i + (![k, r, s] : Fin 3 → ℕ) i ≤ (⟨3, ![l, m, n]⟩ : Shape).size i)
    (w : FVec Ideal ⟨3, ![k, r, s]⟩ .f32) (L : List (View.Piece (Elt Ideal) ⟨3, ![l, m, n]⟩ .f32)) (h : c < p ∨ p + k ≤ c) :
    rd3 (View.canon ((⟨Rect.unit (s := ⟨3, ![l, m, n]⟩) ![p, q, o] (no_index ![k, r, s]) inb, w⟩ : View.Piece (Elt Ideal) ⟨3, ![l, m, n]⟩ .f32) :: L)) c a b
      = rd3 (View.canon L) c a b := by
  unfold rd3
  split_ifs with hab
  swap; · rfl
  refine View.canon_cons_of_not_mem _ L ?_
  intro hm
  have hm' := (Rect.mem_set_unit (inb := inb)).1 hm
  have h0 : p ≤ c ∧ c < p + k := hm' 0
  omega

theorem rd2_hit_bf16 (k r p q : ℕ) (inb : ∀ i, (![p, q] : Fin 2 → ℕ) i + (![k, r] : Fin 2 → ℕ) i ≤ (⟨2, ![m, n]⟩ : Shape).size i)
    (w : FVec Ideal ⟨2, ![k, r]⟩ .bf16) (L : List (View.Piece (Elt Ideal) ⟨2, ![m, n]⟩ .bf16)) (hp : p ≤ a) (ha : a < p + k) (hq : q ≤ b) (hb : b < q + r) :
    rd2 (View.canon ((⟨Rect.unit (s := ⟨2, ![m, n]⟩) ![p, q] (no_index ![k, r]) inb, w⟩ : View.Piece (Elt Ideal) ⟨2, ![m, n]⟩ .bf16) :: L)) a b = rd2 w (a - p) (b - q) := by
  have h0 := inb 0; have h1 := inb 1
  simp at h0 h1
  rw [rd2_of _ (by omega) (by omega), rd2_of w (by omega) (by omega)]
  refine Eq.trans (congrArg _ ?_) (View.canon_cons_emb (Val := Elt Ideal) (Rect.unit (s := ⟨2, ![m, n]⟩) ![p, q] ![k, r] inb) w L (ix2 ⟨a - p, by omega⟩ ⟨b - q, by omega⟩))
  funext i; apply Fin.ext
  match i with
  | ⟨0, _⟩ => show a = p + 1 * (a - p); omega
  | ⟨1, _⟩ => show b = q + 1 * (b - q); omega

theorem rd2_miss_bf16 (k r p q : ℕ) (inb : ∀ i, (![p, q] : Fin 2 → ℕ) i + (![k, r] : Fin 2 → ℕ) i ≤ (⟨2, ![m, n]⟩ : Shape).size i)
    (w : FVec Ideal ⟨2, ![k, r]⟩ .bf16) (L : List (View.Piece (Elt Ideal) ⟨2, ![m, n]⟩ .bf16)) (h : a < p ∨ p + k ≤ a ∨ b < q ∨ q + r ≤ b) :
    rd2 (View.canon ((⟨Rect.unit (s := ⟨2, ![m, n]⟩) ![p, q] (no_index ![k, r]) inb, w⟩ : View.Piece (Elt Ideal) ⟨2, ![m, n]⟩ .bf16) :: L)) a b = rd2 (View.canon L) a b := by
  unfold rd2
  split_ifs with hab
  swap; · rfl
  refine View.canon_cons_of_not_mem _ L ?_
  intro hm
  have hm' := (Rect.mem_set_unit (inb := inb)).1 hm
  have h0 : p ≤ a ∧ a < p + k := hm' 0
  have h1 : q ≤ b ∧ b < q + r := hm' 1
  omega

theorem rd3_hit_bf16 (k r s p q o : ℕ) (inb : ∀ i, (![p, q, o] : Fin 3 → ℕ) i + (![k, r, s] : Fin 3 → ℕ) i ≤ (⟨3, ![l, m, n]⟩ : Shape).size i)
    (w : FVec Ideal ⟨3, ![k, r, s]⟩ .bf16) (L : List (View.Piece (Elt Ideal) ⟨3, ![l, m, n]⟩ .bf16)) (hp : p ≤ c) (hc : c < p + k) (hq : q ≤ a) (ha : a < q + r)
    (ho : o ≤ b) (hb : b < o + s) :
    rd3 (View.canon ((⟨Rect.unit (s := ⟨3, ![l, m, n]⟩) ![p, q, o] (no_index ![k, r, s]) inb, w⟩ : View.Piece (Elt Ideal) ⟨3, ![l, m, n]⟩ .bf16) :: L)) c a b
      = rd3 w (c - p) (a - q) (b - o) := by
  have h0 := inb 0; have h1 := inb 1; have h2 := inb 2
  simp at h0 h1 h2
  rw [rd3_of _ (by omega) (by omega) (by omega), rd3_of w (by omega) (by omega) (by omega)]
  refine Eq.trans (congrArg _ ?_) (View.canon_cons_emb (Val := Elt Ideal) (Rect.unit (s := ⟨3, ![l, m, n]⟩) ![p, q, o] ![k, r, s] inb) w L (ix3 ⟨c - p, by omega⟩ ⟨a - q, by omega⟩ ⟨b - o, by omega⟩))
  funext i; apply Fin.ext
  match i with
  | ⟨0, _⟩ => show c = p + 1 * (c - p); omega
  | ⟨1, _⟩ => show a = q + 1 * (a - q); omega
  | ⟨2, _⟩ => show b = o + 1 * (b - o); omega

theorem rd3_miss_bf16 (k r s p q o : ℕ) (inb : ∀ i, (![p, q, o] : Fin 3 → ℕ) i + (![k, r, s] : Fin 3 → ℕ) i ≤ (⟨3, ![l, m, n]⟩ : Shape).size i)
    (w : FVec Ideal ⟨3, ![k, r, s]⟩ .bf16) (L : List (View.Piece (Elt Ideal) ⟨3, ![l, m, n]⟩ .bf16)) (h : c < p ∨ p + k ≤ c) :
    rd3 (View.canon ((⟨Rect.unit (s := ⟨3, ![l, m, n]⟩) ![p, q, o] (no_index ![k, r, s]) inb, w⟩ : View.Piece (Elt Ideal) ⟨3, ![l, m, n]⟩ .bf16) :: L)) c a b
      = rd3 (View.canon L) c a b := by
  unfold rd3
  split_ifs with hab
  swap; · rfl
  refine View.canon_cons_of_not_mem _ L ?_
  intro hm
  have hm' := (Rect.mem_set_unit (inb := inb)).1 hm
  have h0 : p ≤ c ∧ c < p + k := hm' 0
  omega

/-- Eight pieces of 128 rows one under the other, when each agrees with one function of the row and the column. -/
theorem rd2_concat8 (y0 y1 y2 y3 y4 y5 y6 y7 : FVec Ideal ⟨2, ![128, 128]⟩ φ) (h : Shape.Concatenates [⟨2, ![128, 128]⟩, ⟨2, ![128, 128]⟩, ⟨2, ![128, 128]⟩, ⟨2, ![128, 128]⟩, ⟨2, ![128, 128]⟩, ⟨2, ![128, 128]⟩, ⟨2, ![128, 128]⟩, ⟨2, ![128, 128]⟩] (⟨2, ![1024, 128]⟩ : Shape) 0) (f : ℕ → ℕ → EReal)
    (h0 : ∀ r < 128, ∀ q < 128, rd2 y0 r q = f (0 + r) q)
    (h1 : ∀ r < 128, ∀ q < 128, rd2 y1 r q = f (128 + r) q)
    (h2 : ∀ r < 128, ∀ q < 128, rd2 y2 r q = f (256 + r) q)
    (h3 : ∀ r < 128, ∀ q < 128, rd2 y3 r q = f (384 + r) q)
    (h4 : ∀ r < 128, ∀ q < 128, rd2 y4 r q = f (512 + r) q)
    (h5 : ∀ r < 128, ∀ q < 128, rd2 y5 r q = f (640 + r) q)
    (h6 : ∀ r < 128, ∀ q < 128, rd2 y6 r q = f (768 + r) q)
    (h7 : ∀ r < 128, ∀ q < 128, rd2 y7 r q = f (896 + r) q)
    (ha : a < 1024) (hb : b < 128) :
    rd2 (concatenate ⟨2, ![1024, 128]⟩ 0 [⟨_, y0⟩, ⟨_, y1⟩, ⟨_, y2⟩, ⟨_, y3⟩, ⟨_, y4⟩, ⟨_, y5⟩, ⟨_, y6⟩, ⟨_, y7⟩] h) a b = f a b := by
  rw [rd2_of _ ha hb]
  pointwise
  simp only [at2]
  split_ifs
  all_goals first
    | exact (h0 _ (by omega) _ hb).trans (congrArg₂ f (by omega) rfl)
    | exact (h1 _ (by omega) _ hb).trans (congrArg₂ f (by omega) rfl)
    | exact (h2 _ (by omega) _ hb).trans (congrArg₂ f (by omega) rfl)
    | exact (h3 _ (by omega) _ hb).trans (congrArg₂ f (by omega) rfl)
    | exact (h4 _ (by omega) _ hb).trans (congrArg₂ f (by omega) rfl)
    | exact (h5 _ (by omega) _ hb).trans (congrArg₂ f (by omega) rfl)
    | exact (h6 _ (by omega) _ hb).trans (congrArg₂ f (by omega) rfl)
    | exact (h7 _ (by omega) _ hb).trans (congrArg₂ f (by omega) rfl)

theorem rd2_concat3 (y0 y2 : FVec Ideal ⟨2, ![8, 128]⟩ φ) (y1 : FVec Ideal ⟨2, ![1008, 128]⟩ φ) (h : Shape.Concatenates [⟨2, ![8, 128]⟩, ⟨2, ![1008, 128]⟩, ⟨2, ![8, 128]⟩] (⟨2, ![1024, 128]⟩ : Shape) 0) (ha : a < 1024) (hb : b < 128) :
    rd2 (concatenate ⟨2, ![1024, 128]⟩ 0 [⟨_, y0⟩, ⟨_, y1⟩, ⟨_, y2⟩] h) a b
      = if a < 8 then rd2 y0 a b else if a < 1016 then rd2 y1 (a - 8) b else rd2 y2 (a - 1016) b := by
  rw [rd2_of _ ha hb]
  pointwise
  simp only [at2]
  split_ifs <;> (try split_ifs) <;> first
    | (exfalso; omega)
    | rfl
    | (congr 1 <;> omega)

theorem rd2_concat4 (y0 y1 y2 y3 : FVec Ideal ⟨2, ![1024, 128]⟩ φ) (h : Shape.Concatenates [⟨2, ![1024, 128]⟩, ⟨2, ![1024, 128]⟩, ⟨2, ![1024, 128]⟩, ⟨2, ![1024, 128]⟩] (⟨2, ![1024, 512]⟩ : Shape) 1) (ha : a < 1024) (hb : b < 512) :
    rd2 (concatenate ⟨2, ![1024, 512]⟩ 1 [⟨_, y0⟩, ⟨_, y1⟩, ⟨_, y2⟩, ⟨_, y3⟩] h) a b
      = if b < 128 then rd2 y0 a b else if b < 256 then rd2 y1 a (b - 128) else if b < 384 then rd2 y2 a (b - 256) else rd2 y3 a (b - 384) := by
  rw [rd2_of _ ha hb]
  pointwise
  simp only [at2]
  split_ifs <;> (try split_ifs) <;> first
    | (exfalso; omega)
    | rfl
    | (congr 1 <;> omega)

theorem rd2_concat2 (y0 y1 : FVec Ideal ⟨2, ![1024, 256]⟩ φ) (h : Shape.Concatenates [⟨2, ![1024, 256]⟩, ⟨2, ![1024, 256]⟩] (⟨2, ![1024, 512]⟩ : Shape) 1) (ha : a < 1024) (hb : b < 512) :
    rd2 (concatenate ⟨2, ![1024, 512]⟩ 1 [⟨_, y0⟩, ⟨_, y1⟩] h) a b
      = if b < 256 then rd2 y0 a b else rd2 y1 a (b - 256) := by
  rw [rd2_of _ ha hb]
  pointwise
  simp only [at2]
  split_ifs <;> (try split_ifs) <;> first
    | (exfalso; omega)
    | rfl
    | (congr 1 <;> omega)

theorem rd2_concat2' (y0 y1 : FVec Ideal ⟨2, ![1024, 512]⟩ φ) (h : Shape.Concatenates [⟨2, ![1024, 512]⟩, ⟨2, ![1024, 512]⟩] (⟨2, ![1024, 1024]⟩ : Shape) 1) (ha : a < 1024) (hb : b < 1024) :
    rd2 (concatenate ⟨2, ![1024, 1024]⟩ 1 [⟨_, y0⟩, ⟨_, y1⟩] h) a b
      = if b < 512 then rd2 y0 a b else rd2 y1 a (b - 512) := by
  rw [rd2_of _ ha hb]
  pointwise
  simp only [at2]
  split_ifs <;> (try split_ifs) <;> first
    | (exfalso; omega)
    | rfl
    | (congr 1 <;> omega)

end

end Cert.Rd
-- ==== Proof.Args.lean ====
module

public import proofs.«01_k».proof.Proof.Spec
public import proofs.«01_k».proof.Proof.Rd

@[expose] public section

/-! The layer's weights and rows as the programs' arguments hold them. -/

namespace Cert.Rd
open Idealize.ShloMosaic Idealize.ShloMosaic.Tactic

/-- An array of four axes at four positions, zero outside. -/
noncomputable def rd4 {l m n q : ℕ} (x : (⟨4, ![l, m, n, q]⟩ : Shape).Idx → EReal) (d c a b : ℕ) : EReal :=
  if h : d < l ∧ c < m ∧ a < n ∧ b < q then x (ix4 ⟨d, h.1⟩ ⟨c, h.2.1⟩ ⟨a, h.2.2.1⟩ ⟨b, h.2.2.2⟩) else 0

variable {l m n q a b c d : ℕ}

theorem rd4_of (x : (⟨4, ![l, m, n, q]⟩ : Shape).Idx → EReal) (hd : d < l) (hc : c < m) (ha : a < n) (hb : b < q) :
    rd4 x d c a b = x (ix4 ⟨d, hd⟩ ⟨c, hc⟩ ⟨a, ha⟩ ⟨b, hb⟩) := dif_pos ⟨hd, hc, ha, hb⟩

theorem at4 (x : (⟨4, ![l, m, n, q]⟩ : Shape).Idx → EReal) (i : Fin l) (j : Fin m) (k : Fin n) (o : Fin q) :
    x (ix4 i j k o) = rd4 x i.val j.val k.val o.val := by
  rw [rd4_of x i.isLt j.isLt k.isLt o.isLt]

/-- Two arrays that agree inside agree at every position. -/
theorem rd2_ext {x : (⟨2, ![m, n]⟩ : Shape).Idx → EReal} {f : ℕ → ℕ → EReal} (h : ∀ a < m, ∀ b < n, rd2 x a b = f a b)
    (h0 : ∀ a b, ¬(a < m ∧ b < n) → f a b = 0) (a b : ℕ) : rd2 x a b = f a b := by
  by_cases hab : a < m ∧ b < n
  · exact h a hab.1 b hab.2
  · rw [h0 a b hab, rd2, dif_neg hab]

end Cert.Rd

namespace Cert.Spec
open Idealize.ShloMosaic Cert.Rd

/-- The weights from the arguments. -/
noncomputable def wtsOf (a2 : (⟨2, ![1, 1024]⟩ : Shape).Idx → EReal) (a3 : (⟨3, ![1, 1024, 3072]⟩ : Shape).Idx → EReal)
    (a4 : (⟨4, ![1, 4, 128, 128]⟩ : Shape).Idx → EReal) (a5 : (⟨2, ![1, 512]⟩ : Shape).Idx → EReal)
    (a6 : (⟨3, ![1, 3, 512]⟩ : Shape).Idx → EReal) (a7 : (⟨3, ![1, 1024, 1024]⟩ : Shape).Idx → EReal)
    (a8 : (⟨2, ![1, 1024]⟩ : Shape).Idx → EReal) (a9 : (⟨3, ![1, 256, 1024]⟩ : Shape).Idx → EReal)
    (a10 : (⟨3, ![1, 1024, 1024]⟩ : Shape).Idx → EReal) (a11 : (⟨2, ![1, 1024]⟩ : Shape).Idx → EReal) : Wts where
  gpre := rd2 a2 0
  win := rd3 a3 0
  wpool := rd4 a4 0
  psc := rd2 a5 0
  cw := rd3 a6 0
  wout := rd3 a7 0
  gpost := rd2 a8 0
  wple := rd3 a9 0
  wgate := rd3 a10 0
  gple := rd2 a11 0

end Cert.Spec
-- ==== Proof.Finite.lean ====
module

public import proofs.«01_k».proof.Proof.Args

@[expose] public section

/-! Rows of real numbers: where the gains are real, a normalized row is, whatever the row was; and the sum over a window of
real rows is the difference of two running sums. -/

namespace Cert.Spec
open Idealize.ShloMosaic

/-- An exact number that is a real one. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_zero : IsReal 0 := ⟨0, by simp⟩

theorem cLen_eq : cLen = ((1024 : ℝ) : EReal) := by
  unfold cLen
  simp [Ideal.ofBits, Ideal.ieee, -EReal.coe_mul]; norm_num

theorem cEps_pos : ∃ e : ℝ, 0 < e ∧ cEps = (e : EReal) := by
  unfold cEps
  simp [Ideal.ofBits, Ideal.ieee, -EReal.coe_mul]

theorem sq_nonneg_E (x : EReal) : 0 ≤ x * x := by
  induction x with
  | bot => simp
  | top => simp
  | coe r => rw [← EReal.coe_mul]; exact_mod_cast mul_self_nonneg r

theorem rms_real (v g : ℕ → EReal) (k : ℕ) (hk : k < 1024) (hg : IsReal (g k)) : IsReal (rms v g k) := by
  obtain ⟨e, he, hE⟩ := cEps_pos
  unfold rms
  rw [cLen_eq, hE, Ideal.div_coe (by norm_num)]
  by_cases hv : ∀ j : Fin 1024, IsReal (v j)
  · have hs : ∃ s : ℝ, 0 ≤ s ∧ (∑ j : Fin 1024, v j * v j) = (s : EReal) := by
      obtain ⟨s, hs⟩ := IsReal.sum Finset.univ (fun j : Fin 1024 => v j * v j) fun j _ => (hv j).mul (hv j)
      refine ⟨s, ?_, hs⟩
      have : (0 : EReal) ≤ ∑ j : Fin 1024, v j * v j := Finset.sum_nonneg fun j _ => sq_nonneg_E _
      rw [hs] at this
      exact_mod_cast this
    obtain ⟨s, h0, hs⟩ := hs
    rw [hs, ← EReal.coe_mul, ← EReal.coe_add, Ideal.rsqrt_coe]
    have hp : 0 < s * (1 / 1024) + e := by positivity
    rw [if_neg (by linarith), if_neg (by linarith)]
    exact ((hv ⟨k, hk⟩).mul ⟨_, rfl⟩).mul hg
  · push Not at hv
    obtain ⟨j, hj⟩ := hv
    have ht : v j * v j = ⊤ := by
      generalize v j = x at hj
      induction x with
      | bot => simp
      | top => simp
      | coe r => exact absurd ⟨r, rfl⟩ hj
    have hs : (∑ j : Fin 1024, v j * v j) = ⊤ := by
      refine top_le_iff.1 ?_
      rw [← ht]
      exact Finset.single_le_sum (f := fun j : Fin 1024 => v j * v j) (fun i _ => sq_nonneg_E _) (Finset.mem_univ j)
    rw [hs, EReal.top_mul_coe_of_pos (by norm_num), EReal.top_add_coe, Ideal.rsqrt_top, mul_zero, zero_mul]
    exact isReal_zero

/-- A projected row of zeros. -/
theorem zc_zero (win H : ℕ → ℕ → EReal) (n c : ℕ) (h : ∀ k, H n k = 0) : zc win H n c = 0 := by
  unfold zc
  simp only [h, zero_mul, Finset.sum_const_zero]

theorem zc_real (win H : ℕ → ℕ → EReal) (n c : ℕ) (h : ∀ k < 1024, IsReal (H n k)) (hw : ∀ k < 1024, IsReal (win k c)) :
    IsReal (zc win H n c) := IsReal.sum _ _ fun k _ => (h k k.isLt).mul (hw k k.isLt)

/-- A window's sum over rows that vanish outside the array is the sum of the rows inside. -/
theorem window_inside (F : ℕ → EReal) (hF : ∀ n, ¬(16 ≤ n ∧ n < 8208) → F n = 0) (p w : ℕ) (h1 : 1 ≤ w) (hw : w ≤ 8) :
    ∑ q ∈ Finset.range (2 * w), F (p + 17 - w + q) = ∑ i ∈ Finset.Ico (p - (w - 1)) (min (p + w + 1) 8192), F (i + 16) := by
  have hl : ∑ q ∈ Finset.range (2 * w), F (p + 17 - w + q) = ∑ n ∈ Finset.Ico (p + 17 - w) (p + 17 + w), F n := by
    rw [Finset.sum_Ico_eq_sum_range]
    congr 2
    omega
  rw [hl, Finset.sum_Ico_add' F]
  refine (Finset.sum_subset ?_ ?_).symm
  · intro n hn
    rw [Finset.mem_Ico] at hn ⊢
    omega
  · intro n hn hn'
    rw [Finset.mem_Ico] at hn hn'
    exact hF n (by omega)

/-- The difference of two running sums of real numbers is the sum of the rows between. -/
theorem sum_diff (f : ℕ → EReal) (lo hi : ℕ) (h : lo ≤ hi) (hf : ∀ i < lo, IsReal (f i)) :
    (∑ i ∈ Finset.range hi, f i) - (∑ i ∈ Finset.range lo, f i) = ∑ i ∈ Finset.Ico lo hi, f i := by
  obtain ⟨r, hr⟩ := IsReal.sum (Finset.range lo) f fun i hi => hf i (Finset.mem_range.1 hi)
  rw [Finset.range_eq_Ico, ← Finset.sum_Ico_consecutive f (Nat.zero_le lo) h, ← Finset.range_eq_Ico, hr, add_comm]
  exact EReal.add_sub_cancel_right

end Cert.Spec
-- ==== Proof.RefOps.lean ====
module

public import proofs.«01_k».proof.Proof.Args

@[expose] public section

/-! The host operations that read several elements: a running sum, a gather of rows, joins and a pad. -/

namespace Cert.Rd
open Idealize.ShloMosaic Idealize.ShloMosaic.Tactic

theorem val1 {l : ℕ} (x : (⟨1, ![l]⟩ : Shape).Idx → EReal) (i : (⟨1, ![l]⟩ : Shape).Idx) : x i = rd1 x (i 0).val := by
  rw [rd1_of x (i 0).isLt]
  refine congrArg x (funext fun a => ?_)
  match a with
  | ⟨0, _⟩ => rfl

theorem val2 {l m : ℕ} (x : (⟨2, ![l, m]⟩ : Shape).Idx → EReal) (i : (⟨2, ![l, m]⟩ : Shape).Idx) :
    x i = rd2 x (i 0).val (i 1).val := by
  rw [rd2_of x (i 0).isLt (i 1).isLt]
  refine congrArg x (funext fun a => ?_)
  match a with
  | ⟨0, _⟩ => rfl
  | ⟨1, _⟩ => rfl

theorem val3 {l m n : ℕ} (x : (⟨3, ![l, m, n]⟩ : Shape).Idx → EReal) (i : (⟨3, ![l, m, n]⟩ : Shape).Idx) :
    x i = rd3 x (i 0).val (i 1).val (i 2).val := by
  rw [rd3_of x (i 0).isLt (i 1).isLt (i 2).isLt]
  refine congrArg x (funext fun a => ?_)
  match a with
  | ⟨0, _⟩ => rfl
  | ⟨1, _⟩ => rfl
  | ⟨2, _⟩ => rfl

theorem val4 {l m n q : ℕ} (x : (⟨4, ![l, m, n, q]⟩ : Shape).Idx → EReal) (i : (⟨4, ![l, m, n, q]⟩ : Shape).Idx) :
    x i = rd4 x (i 0).val (i 1).val (i 2).val (i 3).val := by
  rw [rd4_of x (i 0).isLt (i 1).isLt (i 2).isLt (i 3).isLt]
  refine congrArg x (funext fun a => ?_)
  match a with
  | ⟨0, _⟩ => rfl
  | ⟨1, _⟩ => rfl
  | ⟨2, _⟩ => rfl
  | ⟨3, _⟩ => rfl

/-- Folding additions from a value is that value plus the sum. -/
theorem foldl_add_sum {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window's elements of the padded rows, added up, are the rows up to and including the window's last. -/
theorem sum_upto (f : ℕ → EReal) (M j : ℕ) (hj : j ≤ M) :
    (∑ k : Fin (M + 1), if M ≤ j + k.val then f (j + k.val - M) else 0) = ∑ i ∈ Finset.range (j + 1), f i := by
  rw [Fin.sum_univ_eq_sum_range (fun k => if M ≤ j + k then f (j + k - M) else 0) (M + 1), ← Finset.sum_filter]
  refine Finset.sum_nbij' (fun k => j + k - M) (fun i => i + M - j) ?_ ?_ ?_ ?_ ?_
  · intro k hk; simp only [Finset.mem_filter, Finset.mem_range] at hk ⊢; omega
  · intro i hi; simp only [Finset.mem_filter, Finset.mem_range] at hi ⊢; omega
  · intro k hk; simp only [Finset.mem_filter, Finset.mem_range] at hk; omega
  · intro i hi; simp only [Finset.mem_range] at hi; omega
  · intro k hk; rfl

/-- The windows of one column are numbered by its rows. -/
def colEquiv (R : ℕ) : (⟨3, ![1, R, 1]⟩ : Shape).Idx ≃ Fin R where
  toFun w := w 1
  invFun k := ix3 0 k 0
  left_inv w := by
    funext a
    match a with
    | ⟨0, _⟩ => exact Subsingleton.elim (α := Fin 1) _ _
    | ⟨1, _⟩ => rfl
    | ⟨2, _⟩ => exact Subsingleton.elim (α := Fin 1) _ _
  right_inv k := rfl

/-- The running sum along the middle axis: each element is the sum of the rows up to and including its own. -/
theorem cumsum3 {B M C : ℕ} (x : (⟨3, ![B, M + 1, C]⟩ : Shape).Idx → EReal)
    (h : (⟨3, ![B, M + 1, C]⟩ : Shape).ReduceWindows (![1, M + 1, 1] : Fin 3 → ℕ) ![1, 1, 1] ![0, M, 0] ![0, 0, 0] ⟨3, ![B, M + 1, C]⟩)
    (j : (⟨3, ![B, M + 1, C]⟩ : Shape).Idx) :
    Ideal.hostReduceWindowAdd (s := ⟨3, ![B, M + 1, C]⟩) ![1, M + 1, 1] ![1, 1, 1] ![0, M, 0] ![0, 0, 0] h x 0 j
      = ∑ i ∈ Finset.range ((j 1).val + 1), rd3 x (j 0).val i (j 2).val := by
  have hb : (j 0).val < B := (j 0).isLt
  have hj : (j 1).val < M + 1 := (j 1).isLt
  have hc : (j 2).val < C := (j 2).isLt
  unfold Ideal.hostReduceWindowAdd Host.reduceWindow
  dsimp only
  refine (foldl_add_sum _ _ _).trans ?_
  rw [zero_add, ← Fin.sum_univ_def]
  rw [← sum_upto _ M _ (by omega)]
  refine (Equiv.sum_comp ((colEquiv (M + 1)).symm.trans (Shape.rowMajor (⟨3, ![1, M + 1, 1]⟩ : Shape))) _).symm.trans ?_
  refine Finset.sum_congr rfl fun k _ => ?_
  let w : (⟨3, ![1, M + 1, 1]⟩ : Shape).Idx := (Shape.rowMajor (⟨3, ![1, M + 1, 1]⟩ : Shape)).symm
      (((colEquiv (M + 1)).symm.trans (Shape.rowMajor (⟨3, ![1, M + 1, 1]⟩ : Shape))) k)
  have e : w = ix3 0 k 0 := Equiv.symm_apply_apply _ _
  have e0 : (w 0).val = 0 := by rw [e]; rfl
  have e1 : (w 1).val = k.val := by rw [e]; rfl
  have e2 : (w 2).val = 0 := by rw [e]; rfl
  have hk := k.isLt
  by_cases hm : M ≤ (j 1).val + k.val
  · rw [if_pos hm, rd3_of x hb (by omega) hc, dif_pos]
    · refine congrArg x (funext fun a => Fin.ext ?_)
      match a with
      | ⟨0, _⟩ => show (j 0).val * 1 + (w 0).val - 0 = (j 0).val; omega
      | ⟨1, _⟩ => show (j 1).val * 1 + (w 1).val - M = (j 1).val + k.val - M; omega
      | ⟨2, _⟩ => show (j 2).val * 1 + (w 2).val - 0 = (j 2).val; omega
    · intro a
      match a with
      | ⟨0, _⟩ => show 0 ≤ (j 0).val * 1 + (w 0).val ∧ (j 0).val * 1 + (w 0).val - 0 < B; omega
      | ⟨1, _⟩ => show M ≤ (j 1).val * 1 + (w 1).val ∧ (j 1).val * 1 + (w 1).val - M < M + 1; omega
      | ⟨2, _⟩ => show 0 ≤ (j 2).val * 1 + (w 2).val ∧ (j 2).val * 1 + (w 2).val - 0 < C; omega
  · rw [if_neg hm, dif_neg]
    intro hin
    have h1 : M ≤ (j 1).val * 1 + (w 1).val := (hin 1).1
    omega

section
variable {B N C n w : ℕ}

/-- The dimension numbers of taking rows along the middle axis. -/
abbrev midDims (B N C n : ℕ) (wf : GatherDims.WF ⟨3, ![B, N, C]⟩ ⟨2, ![n, 1]⟩ ⟨3, ![B, n, C]⟩ [0, 2] [1] [] [1] [] 1 ![B, 1, C]) :
    GatherDims ⟨3, ![B, N, C]⟩ ⟨2, ![n, 1]⟩ ⟨3, ![B, n, C]⟩ where
  offsetDims := [0, 2]
  collapsedSliceDims := [1]
  operandBatchingDims := []
  startIndicesBatchingDims := []
  startIndexMap := [1]
  indexVectorDim := 1
  sliceSizes := ![B, 1, C]
  wf := wf

/-- Rows taken along the middle axis, where the row number asked for is `r`, within the rows. -/
theorem gather_mid (wf : GatherDims.WF ⟨3, ![B, N, C]⟩ ⟨2, ![n, 1]⟩ ⟨3, ![B, n, C]⟩ [0, 2] [1] [] [1] [] 1 ![B, 1, C])
    (x : (⟨3, ![B, N, C]⟩ : Shape).Idx → EReal) (idx : IVec ⟨2, ![n, 1]⟩ w) (j : (⟨3, ![B, n, C]⟩ : Shape).Idx) (r : ℕ) (hr : r < N)
    (hi : ∀ q : Fin n, q.val = (j 1).val → (idx (ix2 q (0 : Fin 1))).toInt = r) :
    Host.gather (midDims B N C n wf) x idx j = rd3 x (j 0).val r (j 2).val := by
  have hb : (j 0).val < B := (j 0).isLt
  have hn : (j 1).val < n := (j 1).isLt
  have hc : (j 2).val < C := (j 2).isLt
  rw [rd3_of x hb hr hc]
  unfold Host.gather
  refine congrArg x (funext fun a => Fin.ext ?_)
  show (midDims B N C n wf).start j idx a + (midDims B N C n wf).batchCoord j a + (midDims B N C n wf).offCoord j a = _
  rw [GatherDims.batchCoord_eq_zero _ _ _ (fun h => by simp at h)]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬(0 : Fin 3) ∈ (midDims B N C n wf).startIndexMap by simp),
      dif_pos (show (0 : Fin 3) ∈ (midDims B N C n wf).sKept from ((midDims B N C n wf).mem_sKept 0).2 (by simp))]
    show 0 + 0 + (j 0).val = (j 0).val
    omega
  · rw [GatherDims.offCoord_eq_zero _ _ _ (fun h => ((GatherDims.mem_sKept _ _).mp h).1 (List.mem_singleton.mpr rfl))]
    unfold GatherDims.start
    rw [dif_pos (show (1 : Fin 3) ∈ (midDims B N C n wf).startIndexMap from List.mem_singleton.mpr rfl)]
    have hsi : (midDims B N C n wf).siIdx j ⟨List.idxOf (1 : Fin 3) (midDims B N C n wf).startIndexMap,
        List.idxOf_lt_length_iff.2 (List.mem_singleton.mpr rfl)⟩ = ix2 (⟨(j 1).val, hn⟩ : Fin n) (0 : Fin 1) := by
      funext b; refine Fin.ext ?_
      match b with
      | ⟨0, _⟩ => rfl
      | ⟨1, _⟩ => rfl
    rw [hsi]
    refine (congrArg (fun z : ℤ => min z.toNat (N - 1) + 0 + 0) (hi ⟨(j 1).val, hn⟩ rfl)).trans ?_
    show min (r : ℤ).toNat (N - 1) + 0 + 0 = r
    rw [Int.toNat_natCast]
    omega
  · unfold GatherDims.start GatherDims.offCoord
    rw [dif_neg (show ¬(2 : Fin 3) ∈ (midDims B N C n wf).startIndexMap by simp),
      dif_pos (show (2 : Fin 3) ∈ (midDims B N C n wf).sKept from ((midDims B N C n wf).mem_sKept 2).2 (by simp))]
    show 0 + 0 + (j 2).val = (j 2).val
    omega
end

/-- A first row of its own, then the rows of another array. -/
theorem concat_mid {B M C : ℕ} (y : FVec Ideal ⟨3, ![B, 1, C]⟩ .f32) (z : FVec Ideal ⟨3, ![B, M, C]⟩ .f32)
    (h : Shape.Concatenates [⟨3, ![B, 1, C]⟩, ⟨3, ![B, M, C]⟩] (⟨3, ![B, M + 1, C]⟩ : Shape) 1) (j : (⟨3, ![B, M + 1, C]⟩ : Shape).Idx) :
    concatenate ⟨3, ![B, M + 1, C]⟩ 1 [⟨_, y⟩, ⟨_, z⟩] h j
      = if (j 1).val < 1 then rd3 y (j 0).val 0 (j 2).val else rd3 z (j 0).val ((j 1).val - 1) (j 2).val := by
  have h1 : (j 1).val < M + 1 := (j 1).isLt
  pointwise
  split_ifs with ha
  · refine (val3 y _).trans ?_
    show rd3 y (j 0).val (j 1).val (j 2).val = _
    rw [show (j 1).val = 0 by omega]
  · exact val3 z _

/-- Four blocks side by side along the third of four axes, one position each. -/
theorem concat_four {B M C : ℕ} (y0 y1 y2 y3 : FVec Ideal ⟨4, ![B, M, 1, C]⟩ .f32)
    (h : Shape.Concatenates [⟨4, ![B, M, 1, C]⟩, ⟨4, ![B, M, 1, C]⟩, ⟨4, ![B, M, 1, C]⟩, ⟨4, ![B, M, 1, C]⟩] (⟨4, ![B, M, 4, C]⟩ : Shape) 2)
    (j : (⟨4, ![B, M, 4, C]⟩ : Shape).Idx) (f : ℕ → ℕ → ℕ → ℕ → EReal)
    (h0 : ∀ i, y0 i = f (i 0).val (i 1).val 0 (i 3).val) (h1 : ∀ i, y1 i = f (i 0).val (i 1).val 1 (i 3).val)
    (h2 : ∀ i, y2 i = f (i 0).val (i 1).val 2 (i 3).val) (h3 : ∀ i, y3 i = f (i 0).val (i 1).val 3 (i 3).val) :
    concatenate ⟨4, ![B, M, 4, C]⟩ 2 [⟨_, y0⟩, ⟨_, y1⟩, ⟨_, y2⟩, ⟨_, y3⟩] h j = f (j 0).val (j 1).val (j 2).val (j 3).val := by
  have hj : (j 2).val < 4 := (j 2).isLt
  pointwise
  split_ifs <;> first
    | (refine (h0 _).trans ?_; show f (j 0).val (j 1).val 0 (j 3).val = _; rw [show (j 2).val = 0 by omega])
    | (refine (h1 _).trans ?_; show f (j 0).val (j 1).val 1 (j 3).val = _; rw [show (j 2).val = 1 by omega])
    | (refine (h2 _).trans ?_; show f (j 0).val (j 1).val 2 (j 3).val = _; rw [show (j 2).val = 2 by omega])
    | (refine (h3 _).trans ?_; show f (j 0).val (j 1).val 3 (j 3).val = _; rw [show (j 2).val = 3 by omega])

/-- Two blocks side by side along the last of three axes. -/
theorem concat_last {B M C D E : ℕ} (y : FVec Ideal ⟨3, ![B, M, C]⟩ .f32) (z : FVec Ideal ⟨3, ![B, M, D]⟩ .f32)
    (h : Shape.Concatenates [⟨3, ![B, M, C]⟩, ⟨3, ![B, M, D]⟩] (⟨3, ![B, M, E]⟩ : Shape) 2) (j : (⟨3, ![B, M, E]⟩ : Shape).Idx) :
    concatenate ⟨3, ![B, M, E]⟩ 2 [⟨_, y⟩, ⟨_, z⟩] h j
      = if (j 2).val < C then rd3 y (j 0).val (j 1).val (j 2).val else rd3 z (j 0).val (j 1).val ((j 2).val - C) := by
  pointwise
  split_ifs with ha
  · exact val3 y _
  · exact val3 z _

/-- One row of the padding value before and one after. -/
theorem pad_one {B M N C : ℕ} (x : (⟨3, ![B, M, C]⟩ : Shape).Idx → EReal) {u : Shape} (v : u.Idx → EReal)
    (h : (⟨3, ![B, M, C]⟩ : Shape).Pads (![0, 1, 0] : Fin 3 → ℕ) ![0, 1, 0] ![0, 0, 0] ⟨3, ![B, N, C]⟩) (hu : 0 < u.numel)
    (j : (⟨3, ![B, N, C]⟩ : Shape).Idx) (hv : v (Shape.Idx.first hu) = 0) :
    pad (s := ⟨3, ![B, M, C]⟩) ⟨3, ![B, N, C]⟩ ![0, 1, 0] ![0, 1, 0] ![0, 0, 0] x v h hu j
      = if 1 ≤ (j 1).val ∧ (j 1).val < M + 1 then rd3 x (j 0).val ((j 1).val - 1) (j 2).val else 0 := by
  have hb : (j 0).val < B := (j 0).isLt
  have hc : (j 2).val < C := (j 2).isLt
  rw [pad_apply]
  by_cases hm : 1 ≤ (j 1).val ∧ (j 1).val < M + 1
  · rw [if_pos hm, dif_pos]
    · refine (val3 x _).trans ?_
      show rd3 x (((j 0).val - 0) / (0 + 1)) (((j 1).val - 1) / (0 + 1)) (((j 2).val - 0) / (0 + 1)) = _
      simp only [Nat.sub_zero, Nat.zero_add, Nat.div_one]
    · intro a
      match a with
      | ⟨0, _⟩ => show 0 ≤ (j 0).val ∧ ((j 0).val - 0) % (0 + 1) = 0 ∧ ((j 0).val - 0) / (0 + 1) < B; omega
      | ⟨1, _⟩ => show 1 ≤ (j 1).val ∧ ((j 1).val - 1) % (0 + 1) = 0 ∧ ((j 1).val - 1) / (0 + 1) < M; omega
      | ⟨2, _⟩ => show 0 ≤ (j 2).val ∧ ((j 2).val - 0) % (0 + 1) = 0 ∧ ((j 2).val - 0) / (0 + 1) < C; omega
  · rw [if_neg hm, dif_neg, hv]
    intro hin
    have h1 : 1 ≤ (j 1).val ∧ ((j 1).val - 1) % (0 + 1) = 0 ∧ ((j 1).val - 1) / (0 + 1) < M := hin 1
    omega

end Cert.Rd
-- ==== Proof.Bounds.lean ====
module

public import proofs.«01_k».proof.Proof.Finite
public import proofs.«01_k».proof.Proof.RefOps
public import proofs.«01_k».proof.Proof.Gen.Pre_finite
public import proofs.«01_k».proof.Pre_finite
public import Idealize.ShloMosaic.Lib.ReduceAll

@[expose] public section

/-! What the precondition says: the first norm's gain and the pooled columns of the input weights are real numbers. -/

namespace Cert.Pre_finite
open Idealize.ShloMosaic Idealize.ShloMosaic.Tactic Cert.Rd Cert.Spec

instance : Subsingleton S_.Idx := ⟨fun a b => funext fun i => i.elim0⟩

/-- A number whose absolute value is below infinity is real. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      show BitVec.ofBool (decide _) = _
      rw [decide_eq_false hn]
      rfl
    rw [this] at h
    exact absurd h (by decide)
  induction x with
  | bot => simp at hlt
  | top => simp at hlt
  | coe r => exact ⟨r, rfl⟩

theorem and_one (a b : BitVec 1) (h : IntOp.andi a b = 1#1) : a = 1#1 ∧ b = 1#1 := by
  revert a b
  decide

variable {a0 : FVec Ideal S8x8192x1024 .f32} {a1 : FVec Ideal S1x8x8192x256 .f32} {a2 : FVec Ideal S1x1024 .f32} {a3 : FVec Ideal S1x1024x3072 .f32}
  {a4 : FVec Ideal S1x4x128x128 .f32} {a5 : FVec Ideal S1x512 .f32} {a6 : FVec Ideal S1x3x512 .f32} {a7 : FVec Ideal S1x1024x1024 .f32}
  {a8 : FVec Ideal S1x1024 .f32} {a9 : FVec Ideal S1x256x1024 .f32} {a10 : FVec Ideal S1x1024x1024 .f32} {a11 : FVec Ideal S1x1024 .f32}

theorem gain_real (h : fn (F := Ideal) a0 a1 a2 a3 a4 a5 a6 a7 a8 a9 a10 a11 = fun _ => 1#1) (k : ℕ) (hk : k < 1024) : IsReal (rd2 a2 0 k) := by
  have e := and_one _ _ (congrFun h (fun i => i.elim0))
  have := Host.reduce_andi_all _ _ _ _ _ e.1 (ix2 ⟨0, by decide⟩ ⟨k, hk⟩)
  rw [rd2_of _ (by decide) hk]
  exact isReal_of_lt _ this

theorem win_real (h : fn (F := Ideal) a0 a1 a2 a3 a4 a5 a6 a7 a8 a9 a10 a11 = fun _ => 1#1) (k : ℕ) (hk : k < 1024) (c : ℕ) (hc : c < 512) :
    IsReal (rd3 a3 0 k c) := by
  have e := and_one _ _ (congrFun h (fun i => i.elim0))
  have := Host.reduce_andi_all _ _ _ _ _ e.2 (ix3 ⟨0, by decide⟩ ⟨k, hk⟩ ⟨c, hc⟩)
  have h2 := isReal_of_lt _ this
  have e3 : extractStridedSlice S1x1024x512 ![0, 0, 0] a3 Facts.slices_S1x1024x3072_S1x1024x512_0_0_0 (ix3 ⟨0, by decide⟩ ⟨k, hk⟩ ⟨c, hc⟩) = rd3 a3 0 k c := by
    refine (val3 a3 _).trans ?_
    show rd3 a3 (0 + 0) (0 + k) (0 + c) = _
    rw [Nat.zero_add, Nat.zero_add, Nat.zero_add]
  exact e3 ▸ h2

end Cert.Pre_finite
-- ==== Proof.Blk.lean ====
module

public import Idealize.ShloMosaic.PureOps.Ideal
public import Idealize.ShloMosaic.Lib.Pipeline.ValueKit.Acc
public meta import Idealize.ShloMosaic.Lib.Pipeline.ValueKit.Acc
public import proofs.«01_k».proof.Proof.Gen.KernelIdeal.Value
import all proofs.«01_k».proof.Proof.Gen.KernelIdeal.Frame.RunA
import all proofs.«01_k».proof.Proof.Gen.KernelIdeal.Frame.RunB

/-! What the kernel's body computes at one grid point, step by step, over the blocks it reads: each load, each named
step and the two scratch arrays as a function of the input blocks and of the paired projection columns `wp`. -/

@[expose] public section

set_option maxRecDepth 16384

noncomputable section

namespace Cert.KernelIdeal.Blk

open Idealize.ShloMosaic Idealize.ShloMosaic.TcCoe Idealize.ShloMosaic.Tactic Idealize.SL.Sem
open Cert.KernelIdeal Cert.KernelIdeal.Gen

theorem readCov_ld {Val : EltTy → Type} [∀ e, Nonempty (Val e)] {sg : RefSig} {κ : Kind} {sp : Space} {s : Shape} {e : EltTy} (v : View sg κ sp s e)
    (L : List (View.Piece Val s e)) (r : Rect s) : v.readCov L r.toLoadRect = View.ld (View.canon L) r :=
  View.readCov_eq_canon' v L r.toLoadRect

def b_r_125 (x1 : Vec Ideal S1x1024x1024 .f32) :=
  k0_pay157 (View.ld x1 (Rect.unit ![0, 0, 0] S1x1024x1024.size inb_S1x1024x1024_S1x1024x1024_0_0_0))

def b_r_85 (x8 : Vec Ideal S3x512 .f32) :=
  k0_pay116 (View.ld x8 (Rect.unit ![0, 128] S1x128.size inb_S3x512_S1x128_0_128))

def b_r_86 (x8 : Vec Ideal S3x512 .f32) :=
  k0_pay117 (View.ld x8 (Rect.unit ![1, 128] S1x128.size inb_S3x512_S1x128_1_128))

def b_r_87 (x8 : Vec Ideal S3x512 .f32) :=
  k0_pay118 (View.ld x8 (Rect.unit ![2, 128] S1x128.size inb_S3x512_S1x128_2_128))

def b_r_1 (x4 : Vec Ideal S1x1024 .f32) :=
  k0_pay11 (View.ld x4 (Rect.unit ![0, 0] S1x1024.size inb_S1x1024_S1x1024_0_0))

def b_r_2 (x0 : Vec Ideal S1x16x1024 .f32) (x4 : Vec Ideal S1x1024 .f32) :=
  k0_pay12 (View.ld x4 (Rect.unit ![0, 0] S1x1024.size inb_S1x1024_S1x1024_0_0)) (View.ld x0 (Rect.unit ![0, 0, 0] S1x16x1024.size inb_S1x16x1024_S1x16x1024_0_0_0))

def b_r_3 (x2 : Vec Ideal S1x16x1024 .f32) :=
  k0_pay13 (View.ld x2 (Rect.unit ![0, 0, 0] S1x16x1024.size inb_S1x16x1024_S1x16x1024_0_0_0))

def b_r_4 (x2 : Vec Ideal S1x16x1024 .f32) :=
  k0_pay14 (View.ld x2 (Rect.unit ![0, 0, 0] S1x16x1024.size inb_S1x16x1024_S1x16x1024_0_0_0))

def b_HS0_3 (w1 : BitVec 32) (x0 : Vec Ideal S1x16x1024 .f32) (x1 : Vec Ideal S1x1024x1024 .f32) (x2 : Vec Ideal S1x16x1024 .f32) (x4 : Vec Ideal S1x1024 .f32) : List (View.Piece (Elt Ideal) S1056x1024 .bf16) :=
  [⟨Rect.unit ![1040, 0] S16x1024.size inb_S1056x1024_S16x1024_1040_0, k0_pay17 w1 (b_r_1 x4) (b_r_3 x2) (b_r_4 x2)⟩, ⟨Rect.unit ![16, 0] S1024x1024.size inb_S1056x1024_S1024x1024_16_0, k0_pay16 (b_r_1 x4) (View.ld x1 (Rect.unit ![0, 0, 0] S1x1024x1024.size inb_S1x1024x1024_S1x1024x1024_0_0_0))⟩, ⟨Rect.unit ![0, 0] S16x1024.size inb_S1056x1024_S16x1024_0_0, k0_pay15 w1 (b_r_2 x0 x4)⟩]

def b_v73 (w1 : BitVec 32) (x0 : Vec Ideal S1x16x1024 .f32) (x1 : Vec Ideal S1x1024x1024 .f32) (x2 : Vec Ideal S1x16x1024 .f32) (x4 : Vec Ideal S1x1024 .f32) : Vec Ideal S1056x1024 .bf16 :=
  View.ld (View.canon (b_HS0_3 w1 x0 x1 x2 x4)) (Rect.unit (s := S1056x1024) ![0, 0] S1056x1024.size inb_S1056x1024_S1056x1024_0_0)

def b_r_5 (w1 : BitVec 32) (x0 : Vec Ideal S1x16x1024 .f32) (x1 : Vec Ideal S1x1024x1024 .f32) (x2 : Vec Ideal S1x16x1024 .f32) (x4 : Vec Ideal S1x1024 .f32) (wp : Vec Ideal S1024x2048 .bf16) :=
  k0_pay25 (b_v73 w1 x0 x1 x2 x4) (View.ld wp (Rect.unit ![0, 0] S1024x512.size inb_S1024x2048_S1024x512_0_0))

def b_HS1_8 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : List (View.Piece (Elt Ideal) S8x1056x128 .f32) :=
  [⟨Rect.unit ![7, 0, 0] S1x1056x128.size inb_S8x1056x128_S1x1056x128_7_0_0, k0_pay29 (b_v73 w1 x0 x1 x2 x4) (View.ld wp (Rect.unit ![0, 512] S1024x512.size inb_S1024x2048_S1024x512_0_512))⟩, ⟨Rect.unit ![6, 0, 0] S1x1056x128.size inb_S8x1056x128_S1x1056x128_6_0_0, k0_pay28 (b_v73 w1 x0 x1 x2 x4) (View.ld wp (Rect.unit ![0, 512] S1024x512.size inb_S1024x2048_S1024x512_0_512))⟩, ⟨Rect.unit ![5, 0, 0] S1x1056x128.size inb_S8x1056x128_S1x1056x128_5_0_0, k0_pay26 (b_r_5 w1 x0 x1 x2 x4 wp)⟩, ⟨Rect.unit ![4, 0, 0] S1x1056x128.size inb_S8x1056x128_S1x1056x128_4_0_0, k0_pay24 (b_v73 w1 x0 x1 x2 x4) (View.ld wp (Rect.unit ![0, 0] S1024x512.size inb_S1024x2048_S1024x512_0_0))⟩, ⟨Rect.unit ![3, 0, 0] S1x1056x128.size inb_S8x1056x128_S1x1056x128_3_0_0, k0_pay22 (b_v73 w1 x0 x1 x2 x4) (View.ld x5 (Rect.unit ![0, 0] S1024x512.size inb_S1024x3072_S1024x512_0_0))⟩, ⟨Rect.unit ![2, 0, 0] S1x1056x128.size inb_S8x1056x128_S1x1056x128_2_0_0, k0_pay21 (b_v73 w1 x0 x1 x2 x4) (View.ld x5 (Rect.unit ![0, 0] S1024x512.size inb_S1024x3072_S1024x512_0_0))⟩, ⟨Rect.unit ![1, 0, 0] S1x1056x128.size inb_S8x1056x128_S1x1056x128_1_0_0, k0_pay20 (b_v73 w1 x0 x1 x2 x4) (View.ld x5 (Rect.unit ![0, 0] S1024x512.size inb_S1024x3072_S1024x512_0_0))⟩, ⟨Rect.unit ![0, 0, 0] S1x1056x128.size inb_S8x1056x128_S1x1056x128_0_0_0, k0_pay19 (b_v73 w1 x0 x1 x2 x4) (View.ld x5 (Rect.unit ![0, 0] S1024x512.size inb_S1024x3072_S1024x512_0_0))⟩]

def b_v805 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 783, 0] S1x136x128.size inb_S8x1056x128_S1x136x128_5_783_0)

def b_r_100 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay132 (b_r_85 x8) (b_r_86 x8) (b_r_87 x8) (b_v805 w1 x0 x1 x2 x4 x5 wp)

def b_v727 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 15, 0] S1x136x128.size inb_S8x1056x128_S1x136x128_5_15_0)

def b_r_88 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay119 (b_v727 w1 x0 x1 x2 x4 x5 wp)

def b_r_89 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay120 (View.ld x8 (Rect.unit ![0, 128] S1x128.size inb_S3x512_S1x128_0_128)) (b_v727 w1 x0 x1 x2 x4 x5 wp)

def b_r_90 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay121 (b_v727 w1 x0 x1 x2 x4 x5 wp)

def b_r_91 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay122 (b_r_86 x8) (b_r_87 x8) (b_r_88 w1 x0 x1 x2 x4 x5 wp) (b_r_89 w1 x0 x1 x2 x4 x5 x8 wp) (b_r_90 w1 x0 x1 x2 x4 x5 wp)

def b_v740 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 143, 0] S1x136x128.size inb_S8x1056x128_S1x136x128_5_143_0)

def b_r_92 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay123 (b_r_85 x8) (b_r_86 x8) (b_r_87 x8) (b_v740 w1 x0 x1 x2 x4 x5 wp)

def b_v753 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 271, 0] S1x136x128.size inb_S8x1056x128_S1x136x128_5_271_0)

def b_r_93 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay124 (b_r_85 x8) (b_r_86 x8) (b_r_87 x8) (b_v753 w1 x0 x1 x2 x4 x5 wp)

def b_v766 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 399, 0] S1x136x128.size inb_S8x1056x128_S1x136x128_5_399_0)

def b_r_94 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay126 (b_r_85 x8) (b_r_86 x8) (b_v766 w1 x0 x1 x2 x4 x5 wp)

def b_r_95 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay127 (b_v766 w1 x0 x1 x2 x4 x5 wp)

def b_r_96 (x8 : Vec Ideal S3x512 .f32) :=
  k0_pay128 (b_r_87 x8)

def b_r_97 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay129 (b_r_94 w1 x0 x1 x2 x4 x5 x8 wp) (b_r_95 w1 x0 x1 x2 x4 x5 wp) (b_r_96 x8)

def b_v779 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 527, 0] S1x136x128.size inb_S8x1056x128_S1x136x128_5_527_0)

def b_r_98 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay130 (b_r_85 x8) (b_r_86 x8) (b_r_87 x8) (b_v779 w1 x0 x1 x2 x4 x5 wp)

def b_v792 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 655, 0] S1x136x128.size inb_S8x1056x128_S1x136x128_5_655_0)

def b_r_99 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay131 (b_r_85 x8) (b_r_86 x8) (b_r_87 x8) (b_v792 w1 x0 x1 x2 x4 x5 wp)

def b_v818 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![5, 911, 0] S1x136x128.size inb_S8x1056x128_S1x136x128_5_911_0)

def b_r_101 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay133 (b_r_85 x8) (b_r_86 x8) (b_r_87 x8) (b_r_91 w1 x0 x1 x2 x4 x5 x8 wp) (b_r_92 w1 x0 x1 x2 x4 x5 x8 wp) (b_r_93 w1 x0 x1 x2 x4 x5 x8 wp) (b_r_97 w1 x0 x1 x2 x4 x5 x8 wp) (b_r_98 w1 x0 x1 x2 x4 x5 x8 wp) (b_r_99 w1 x0 x1 x2 x4 x5 x8 wp) (b_r_100 w1 x0 x1 x2 x4 x5 x8 wp) (b_v818 w1 x0 x1 x2 x4 x5 wp)

def b_r_102 (x8 : Vec Ideal S3x512 .f32) :=
  k0_pay134 (View.ld x8 (Rect.unit ![0, 256] S1x128.size inb_S3x512_S1x128_0_256))

def b_r_103 (x8 : Vec Ideal S3x512 .f32) :=
  k0_pay135 (View.ld x8 (Rect.unit ![1, 256] S1x128.size inb_S3x512_S1x128_1_256))

def b_r_104 (x8 : Vec Ideal S3x512 .f32) :=
  k0_pay136 (View.ld x8 (Rect.unit ![2, 256] S1x128.size inb_S3x512_S1x128_2_256))

def b_v838 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 15, 0] S1x136x128.size inb_S8x1056x128_S1x136x128_6_15_0)

def b_r_105 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay137 (View.ld x8 (Rect.unit ![0, 256] S1x128.size inb_S3x512_S1x128_0_256)) (View.ld x8 (Rect.unit ![1, 256] S1x128.size inb_S3x512_S1x128_1_256)) (View.ld x8 (Rect.unit ![2, 256] S1x128.size inb_S3x512_S1x128_2_256)) (b_v838 w1 x0 x1 x2 x4 x5 wp)

def b_v851 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 143, 0] S1x136x128.size inb_S8x1056x128_S1x136x128_6_143_0)

def b_r_106 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay139 (View.ld x8 (Rect.unit ![0, 256] S1x128.size inb_S3x512_S1x128_0_256)) (View.ld x8 (Rect.unit ![1, 256] S1x128.size inb_S3x512_S1x128_1_256)) (b_v851 w1 x0 x1 x2 x4 x5 wp)

def b_r_107 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay140 (b_v851 w1 x0 x1 x2 x4 x5 wp)

def b_r_108 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay141 (b_r_104 x8) (b_r_106 w1 x0 x1 x2 x4 x5 x8 wp) (b_r_107 w1 x0 x1 x2 x4 x5 wp)

def b_v864 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 271, 0] S1x136x128.size inb_S8x1056x128_S1x136x128_6_271_0)

def b_r_109 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay142 (b_r_102 x8) (b_r_103 x8) (b_r_104 x8) (b_v864 w1 x0 x1 x2 x4 x5 wp)

def b_v877 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 399, 0] S1x136x128.size inb_S8x1056x128_S1x136x128_6_399_0)

def b_r_110 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay143 (b_r_102 x8) (b_r_103 x8) (b_r_104 x8) (b_v877 w1 x0 x1 x2 x4 x5 wp)

def b_v890 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 527, 0] S1x136x128.size inb_S8x1056x128_S1x136x128_6_527_0)

def b_r_111 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay144 (b_r_102 x8) (b_r_103 x8) (b_r_104 x8) (b_v890 w1 x0 x1 x2 x4 x5 wp)

def b_v903 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 655, 0] S1x136x128.size inb_S8x1056x128_S1x136x128_6_655_0)

def b_v916 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 783, 0] S1x136x128.size inb_S8x1056x128_S1x136x128_6_783_0)

def b_v929 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![6, 911, 0] S1x136x128.size inb_S8x1056x128_S1x136x128_6_911_0)

def b_r_112 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay145 (b_r_102 x8) (b_r_103 x8) (b_r_104 x8) (b_r_105 w1 x0 x1 x2 x4 x5 x8 wp) (b_r_108 w1 x0 x1 x2 x4 x5 x8 wp) (b_r_109 w1 x0 x1 x2 x4 x5 x8 wp) (b_r_110 w1 x0 x1 x2 x4 x5 x8 wp) (b_r_111 w1 x0 x1 x2 x4 x5 x8 wp) (b_v903 w1 x0 x1 x2 x4 x5 wp) (b_v916 w1 x0 x1 x2 x4 x5 wp) (b_v929 w1 x0 x1 x2 x4 x5 wp)

def b_r_113 (x8 : Vec Ideal S3x512 .f32) :=
  k0_pay146 (View.ld x8 (Rect.unit ![0, 384] S1x128.size inb_S3x512_S1x128_0_384))

def b_r_114 (x8 : Vec Ideal S3x512 .f32) : Vec Ideal S1x128 .f32 :=
  View.ld x8 (Rect.unit ![1, 384] S1x128.size inb_S3x512_S1x128_1_384)

def b_r_115 (x8 : Vec Ideal S3x512 .f32) :=
  k0_pay147 (b_r_114 x8)

def b_r_116 (x8 : Vec Ideal S3x512 .f32) :=
  k0_pay148 (View.ld x8 (Rect.unit ![2, 384] S1x128.size inb_S3x512_S1x128_2_384))

def b_v949 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 15, 0] S1x136x128.size inb_S8x1056x128_S1x136x128_7_15_0)

def b_r_117 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay149 (b_r_113 x8) (b_r_114 x8) (View.ld x8 (Rect.unit ![2, 384] S1x128.size inb_S3x512_S1x128_2_384)) (b_v949 w1 x0 x1 x2 x4 x5 wp)

def b_v962 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 143, 0] S1x136x128.size inb_S8x1056x128_S1x136x128_7_143_0)

def b_r_118 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay150 (b_r_113 x8) (b_r_114 x8) (View.ld x8 (Rect.unit ![2, 384] S1x128.size inb_S3x512_S1x128_2_384)) (b_v962 w1 x0 x1 x2 x4 x5 wp)

def b_v975 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 271, 0] S1x136x128.size inb_S8x1056x128_S1x136x128_7_271_0)

def b_r_119 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay151 (b_r_113 x8) (b_r_114 x8) (View.ld x8 (Rect.unit ![2, 384] S1x128.size inb_S3x512_S1x128_2_384)) (b_v975 w1 x0 x1 x2 x4 x5 wp)

def b_v988 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 399, 0] S1x136x128.size inb_S8x1056x128_S1x136x128_7_399_0)

def b_r_120 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay152 (b_r_113 x8) (b_r_115 x8) (b_r_116 x8) (b_v988 w1 x0 x1 x2 x4 x5 wp)

def b_v1001 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 527, 0] S1x136x128.size inb_S8x1056x128_S1x136x128_7_527_0)

def b_r_121 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay153 (b_r_113 x8) (b_r_115 x8) (b_r_116 x8) (b_v1001 w1 x0 x1 x2 x4 x5 wp)

def b_v1014 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 655, 0] S1x136x128.size inb_S8x1056x128_S1x136x128_7_655_0)

def b_r_122 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay154 (b_r_113 x8) (b_r_115 x8) (b_r_116 x8) (b_v1014 w1 x0 x1 x2 x4 x5 wp)

def b_v1027 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 783, 0] S1x136x128.size inb_S8x1056x128_S1x136x128_7_783_0)

def b_r_123 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay155 (b_v1027 w1 x0 x1 x2 x4 x5 wp)

def b_r_124 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay156 (b_r_113 x8) (b_v1027 w1 x0 x1 x2 x4 x5 wp)

def b_v120 (w1 : BitVec 32) (x0 : Vec Ideal S1x16x1024 .f32) (x1 : Vec Ideal S1x1024x1024 .f32) (x2 : Vec Ideal S1x16x1024 .f32) (x4 : Vec Ideal S1x1024 .f32) : Vec Ideal S1024x1024 .bf16 :=
  View.ld (View.canon (b_HS0_3 w1 x0 x1 x2 x4)) (Rect.unit (s := S1056x1024) ![16, 0] S1024x1024.size inb_S1056x1024_S1024x1024_16_0)

def b_r_6 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x7 : Vec Ideal S1x512 .f32) :=
  k0_pay30 (b_v120 w1 x0 x1 x2 x4) (View.ld x7 (Rect.unit ![0, 0] S1x512.size inb_S1x512_S1x512_0_0)) (View.ld x5 (Rect.unit ![0, 512] S1024x512.size inb_S1024x3072_S1024x512_0_512))

def b_v187 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x1024x128 .f32 :=
  View.ld (View.canon (b_HS1_8 w1 x0 x1 x2 x4 x5 wp)) (Rect.unit (s := S8x1056x128) ![0, 16, 0] S1x1024x128.size inb_S8x1056x128_S1x1024x128_0_16_0)

def b_r_16 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay40 (b_v187 w1 x0 x1 x2 x4 x5 wp)

def b_v146 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 16, 0] S1x136x128.size inb_S8x1056x128_S1x136x128_0_16_0)

def b_r_10 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay33 (b_v146 w1 x0 x1 x2 x4 x5 wp)

def b_v151 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 144, 0] S1x136x128.size inb_S8x1056x128_S1x136x128_0_144_0)

def b_r_11 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay34 (b_v151 w1 x0 x1 x2 x4 x5 wp)

def b_v156 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 272, 0] S1x136x128.size inb_S8x1056x128_S1x136x128_0_272_0)

def b_r_12 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay35 (b_v156 w1 x0 x1 x2 x4 x5 wp)

def b_v161 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 400, 0] S1x136x128.size inb_S8x1056x128_S1x136x128_0_400_0)

def b_r_13 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay36 (b_v161 w1 x0 x1 x2 x4 x5 wp)

def b_v166 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 528, 0] S1x136x128.size inb_S8x1056x128_S1x136x128_0_528_0)

def b_r_14 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay37 (b_v166 w1 x0 x1 x2 x4 x5 wp)

def b_v171 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 656, 0] S1x136x128.size inb_S8x1056x128_S1x136x128_0_656_0)

def b_r_15 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay38 (b_v171 w1 x0 x1 x2 x4 x5 wp)

def b_v145 (w1 : BitVec 32) :=
  Scalar.muli w1 1024#32

def b_v176 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 784, 0] S1x136x128.size inb_S8x1056x128_S1x136x128_0_784_0)

def b_v181 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![0, 912, 0] S1x136x128.size inb_S8x1056x128_S1x136x128_0_912_0)

def b_r_17 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay41 (b_v145 w1) (b_r_10 w1 x0 x1 x2 x4 x5 wp) (b_r_11 w1 x0 x1 x2 x4 x5 wp) (b_r_12 w1 x0 x1 x2 x4 x5 wp) (b_r_13 w1 x0 x1 x2 x4 x5 wp) (b_r_14 w1 x0 x1 x2 x4 x5 wp) (b_r_15 w1 x0 x1 x2 x4 x5 wp) (b_v176 w1 x0 x1 x2 x4 x5 wp) (b_v181 w1 x0 x1 x2 x4 x5 wp) (b_v187 w1 x0 x1 x2 x4 x5 wp)

def b_r_18 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay42 (b_r_10 w1 x0 x1 x2 x4 x5 wp) (b_r_11 w1 x0 x1 x2 x4 x5 wp) (b_r_12 w1 x0 x1 x2 x4 x5 wp) (b_r_13 w1 x0 x1 x2 x4 x5 wp) (b_r_14 w1 x0 x1 x2 x4 x5 wp) (b_r_15 w1 x0 x1 x2 x4 x5 wp) (b_v176 w1 x0 x1 x2 x4 x5 wp) (b_v181 w1 x0 x1 x2 x4 x5 wp) (b_v187 w1 x0 x1 x2 x4 x5 wp)

def b_r_19 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay43 (b_r_10 w1 x0 x1 x2 x4 x5 wp) (b_r_11 w1 x0 x1 x2 x4 x5 wp) (b_r_12 w1 x0 x1 x2 x4 x5 wp) (b_r_13 w1 x0 x1 x2 x4 x5 wp) (b_r_14 w1 x0 x1 x2 x4 x5 wp) (b_r_15 w1 x0 x1 x2 x4 x5 wp) (b_v176 w1 x0 x1 x2 x4 x5 wp) (b_v181 w1 x0 x1 x2 x4 x5 wp)

def b_r_20 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay44 (b_v145 w1) (b_r_16 w1 x0 x1 x2 x4 x5 wp) (b_r_17 w1 x0 x1 x2 x4 x5 wp) (b_r_18 w1 x0 x1 x2 x4 x5 wp) (b_r_19 w1 x0 x1 x2 x4 x5 wp) 1024#32

def b_v292 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x1024x128 .f32 :=
  View.ld (View.canon (b_HS1_8 w1 x0 x1 x2 x4 x5 wp)) (Rect.unit (s := S8x1056x128) ![1, 16, 0] S1x1024x128.size inb_S8x1056x128_S1x1024x128_1_16_0)

def b_r_30 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay55 (b_v292 w1 x0 x1 x2 x4 x5 wp)

def b_v235 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 15, 0] S1x136x128.size inb_S8x1056x128_S1x136x128_1_15_0)

def b_r_21 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay45 (b_v235 w1 x0 x1 x2 x4 x5 wp)

def b_v242 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 143, 0] S1x136x128.size inb_S8x1056x128_S1x136x128_1_143_0)

def b_r_22 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay46 (b_v242 w1 x0 x1 x2 x4 x5 wp)

def b_v249 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 271, 0] S1x136x128.size inb_S8x1056x128_S1x136x128_1_271_0)

def b_r_23 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay47 (b_v249 w1 x0 x1 x2 x4 x5 wp)

def b_r_24 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay48 (b_r_23 w1 x0 x1 x2 x4 x5 wp) 134#32

def b_v256 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 399, 0] S1x136x128.size inb_S8x1056x128_S1x136x128_1_399_0)

def b_r_25 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay49 (b_v256 w1 x0 x1 x2 x4 x5 wp)

def b_v263 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 527, 0] S1x136x128.size inb_S8x1056x128_S1x136x128_1_527_0)

def b_r_26 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay50 (b_v263 w1 x0 x1 x2 x4 x5 wp)

def b_v270 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 655, 0] S1x136x128.size inb_S8x1056x128_S1x136x128_1_655_0)

def b_r_27 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay51 (b_v270 w1 x0 x1 x2 x4 x5 wp)

def b_v277 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 783, 0] S1x136x128.size inb_S8x1056x128_S1x136x128_1_783_0)

def b_r_28 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay52 (b_v277 w1 x0 x1 x2 x4 x5 wp)

def b_v284 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![1, 911, 0] S1x136x128.size inb_S8x1056x128_S1x136x128_1_911_0)

def b_r_29 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay53 (b_v284 w1 x0 x1 x2 x4 x5 wp)

def b_r_31 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay56 (b_v145 w1) (b_r_21 w1 x0 x1 x2 x4 x5 wp) (b_r_22 w1 x0 x1 x2 x4 x5 wp) (b_r_24 w1 x0 x1 x2 x4 x5 wp) (b_r_25 w1 x0 x1 x2 x4 x5 wp) (b_r_26 w1 x0 x1 x2 x4 x5 wp) (b_r_27 w1 x0 x1 x2 x4 x5 wp) (b_r_28 w1 x0 x1 x2 x4 x5 wp) (b_r_29 w1 x0 x1 x2 x4 x5 wp) (134#32) (b_v292 w1 x0 x1 x2 x4 x5 wp)

def b_r_32 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay57 (b_r_21 w1 x0 x1 x2 x4 x5 wp) (b_r_22 w1 x0 x1 x2 x4 x5 wp) (b_r_24 w1 x0 x1 x2 x4 x5 wp) (b_r_25 w1 x0 x1 x2 x4 x5 wp) (b_r_26 w1 x0 x1 x2 x4 x5 wp) (b_r_27 w1 x0 x1 x2 x4 x5 wp) (b_r_28 w1 x0 x1 x2 x4 x5 wp) (b_r_29 w1 x0 x1 x2 x4 x5 wp) (134#32) (b_v292 w1 x0 x1 x2 x4 x5 wp)

def b_r_33 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay58 (b_r_21 w1 x0 x1 x2 x4 x5 wp) (b_r_22 w1 x0 x1 x2 x4 x5 wp) (b_r_24 w1 x0 x1 x2 x4 x5 wp) (b_r_25 w1 x0 x1 x2 x4 x5 wp) (b_r_26 w1 x0 x1 x2 x4 x5 wp) (b_r_27 w1 x0 x1 x2 x4 x5 wp) (b_r_28 w1 x0 x1 x2 x4 x5 wp) (b_r_29 w1 x0 x1 x2 x4 x5 wp) 134#32

def b_r_34 (w1 : BitVec 32) :=
  k0_pay60 (b_v145 w1)

def b_r_35 (w1 : BitVec 32) :=
  k0_pay61 (b_v145 w1)

def b_r_36 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay62 (b_r_30 w1 x0 x1 x2 x4 x5 wp) (b_r_31 w1 x0 x1 x2 x4 x5 wp) (b_r_32 w1 x0 x1 x2 x4 x5 wp) (b_r_33 w1 x0 x1 x2 x4 x5 wp) (b_r_34 w1) (b_r_35 w1) 8192#32

def b_v413 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x1024x128 .f32 :=
  View.ld (View.canon (b_HS1_8 w1 x0 x1 x2 x4 x5 wp)) (Rect.unit (s := S8x1056x128) ![2, 16, 0] S1x1024x128.size inb_S8x1056x128_S1x1024x128_2_16_0)

def b_r_48 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay75 (b_v413 w1 x0 x1 x2 x4 x5 wp)

def b_v340 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 13, 0] S1x136x128.size inb_S8x1056x128_S1x136x128_2_13_0)

def b_r_37 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay63 (b_v340 w1 x0 x1 x2 x4 x5 wp)

def b_v349 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 141, 0] S1x136x128.size inb_S8x1056x128_S1x136x128_2_141_0)

def b_r_38 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay64 (b_v349 w1 x0 x1 x2 x4 x5 wp)

def b_v358 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 269, 0] S1x136x128.size inb_S8x1056x128_S1x136x128_2_269_0)

def b_r_39 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay65 (b_v358 w1 x0 x1 x2 x4 x5 wp)

def b_v367 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 397, 0] S1x136x128.size inb_S8x1056x128_S1x136x128_2_397_0)

def b_r_40 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay66 (b_v367 w1 x0 x1 x2 x4 x5 wp)

def b_r_41 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay67 (b_v367 w1 x0 x1 x2 x4 x5 wp)

def b_r_42 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay68 (b_r_40 w1 x0 x1 x2 x4 x5 wp) (b_r_41 w1 x0 x1 x2 x4 x5 wp)

def b_v376 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 525, 0] S1x136x128.size inb_S8x1056x128_S1x136x128_2_525_0)

def b_r_43 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay69 (b_v376 w1 x0 x1 x2 x4 x5 wp)

def b_v385 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 653, 0] S1x136x128.size inb_S8x1056x128_S1x136x128_2_653_0)

def b_r_44 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay70 (b_v385 w1 x0 x1 x2 x4 x5 wp)

def b_v394 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 781, 0] S1x136x128.size inb_S8x1056x128_S1x136x128_2_781_0)

def b_r_45 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay71 (b_v394 w1 x0 x1 x2 x4 x5 wp)

def b_v403 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![2, 909, 0] S1x136x128.size inb_S8x1056x128_S1x136x128_2_909_0)

def b_r_46 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay72 (b_v403 w1 x0 x1 x2 x4 x5 wp)

def b_r_47 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay73 (b_v403 w1 x0 x1 x2 x4 x5 wp)

def b_r_49 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay76 (b_v145 w1) (b_r_37 w1 x0 x1 x2 x4 x5 wp) (b_r_38 w1 x0 x1 x2 x4 x5 wp) (b_r_39 w1 x0 x1 x2 x4 x5 wp) (b_r_42 w1 x0 x1 x2 x4 x5 wp) (b_r_43 w1 x0 x1 x2 x4 x5 wp) (b_r_44 w1 x0 x1 x2 x4 x5 wp) (b_r_45 w1 x0 x1 x2 x4 x5 wp) (b_r_46 w1 x0 x1 x2 x4 x5 wp) (b_r_47 w1 x0 x1 x2 x4 x5 wp) (b_v413 w1 x0 x1 x2 x4 x5 wp)

def b_r_50 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay77 (b_r_37 w1 x0 x1 x2 x4 x5 wp) (b_r_38 w1 x0 x1 x2 x4 x5 wp) (b_r_39 w1 x0 x1 x2 x4 x5 wp) (b_r_42 w1 x0 x1 x2 x4 x5 wp) (b_r_43 w1 x0 x1 x2 x4 x5 wp) (b_r_44 w1 x0 x1 x2 x4 x5 wp) (b_r_45 w1 x0 x1 x2 x4 x5 wp) (b_r_46 w1 x0 x1 x2 x4 x5 wp) (b_r_47 w1 x0 x1 x2 x4 x5 wp) (b_v413 w1 x0 x1 x2 x4 x5 wp)

def b_r_51 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay78 (b_r_37 w1 x0 x1 x2 x4 x5 wp) (b_r_38 w1 x0 x1 x2 x4 x5 wp) (b_r_39 w1 x0 x1 x2 x4 x5 wp) (b_r_42 w1 x0 x1 x2 x4 x5 wp) (b_r_43 w1 x0 x1 x2 x4 x5 wp) (b_r_44 w1 x0 x1 x2 x4 x5 wp) (b_r_45 w1 x0 x1 x2 x4 x5 wp) (b_r_46 w1 x0 x1 x2 x4 x5 wp) (b_r_47 w1 x0 x1 x2 x4 x5 wp)

def b_r_52 (w1 : BitVec 32) :=
  k0_pay79 (b_v145 w1)

def b_r_53 (w1 : BitVec 32) :=
  k0_pay80 (b_v145 w1)

def b_r_54 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay82 (b_r_48 w1 x0 x1 x2 x4 x5 wp) (b_r_49 w1 x0 x1 x2 x4 x5 wp) (b_r_50 w1 x0 x1 x2 x4 x5 wp) (b_r_51 w1 x0 x1 x2 x4 x5 wp) (b_r_52 w1) (b_r_53 w1) k0_pay81

def b_v461 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 9, 0] S1x144x128.size inb_S8x1056x128_S1x144x128_3_9_0)

def b_r_55 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay83 (b_v461 w1 x0 x1 x2 x4 x5 wp)

def b_v472 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 137, 0] S1x144x128.size inb_S8x1056x128_S1x144x128_3_137_0)

def b_r_56 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay84 (b_v472 w1 x0 x1 x2 x4 x5 wp)

def b_v483 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 265, 0] S1x144x128.size inb_S8x1056x128_S1x144x128_3_265_0)

def b_r_57 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay85 (b_v483 w1 x0 x1 x2 x4 x5 wp)

def b_r_58 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay86 (b_r_57 w1 x0 x1 x2 x4 x5 wp)

def b_v494 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 393, 0] S1x144x128.size inb_S8x1056x128_S1x144x128_3_393_0)

def b_r_59 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay87 (b_v494 w1 x0 x1 x2 x4 x5 wp)

def b_v505 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 521, 0] S1x144x128.size inb_S8x1056x128_S1x144x128_3_521_0)

def b_r_60 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay88 (b_v505 w1 x0 x1 x2 x4 x5 wp)

def b_v516 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 649, 0] S1x144x128.size inb_S8x1056x128_S1x144x128_3_649_0)

def b_r_61 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay89 (b_v516 w1 x0 x1 x2 x4 x5 wp)

def b_v527 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 777, 0] S1x144x128.size inb_S8x1056x128_S1x144x128_3_777_0)

def b_v538 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x144x128 .f32 :=
  View.ld (View.canon (b_HS1_8 w1 x0 x1 x2 x4 x5 wp)) (Rect.unit (s := S8x1056x128) ![3, 905, 0] S1x144x128.size inb_S8x1056x128_S1x144x128_3_905_0)

def b_r_62 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay90 (b_r_55 w1 x0 x1 x2 x4 x5 wp) (b_r_56 w1 x0 x1 x2 x4 x5 wp) (b_r_58 w1 x0 x1 x2 x4 x5 wp) (b_r_59 w1 x0 x1 x2 x4 x5 wp) (b_r_60 w1 x0 x1 x2 x4 x5 wp) (b_r_61 w1 x0 x1 x2 x4 x5 wp) (b_v527 w1 x0 x1 x2 x4 x5 wp) (b_v538 w1 x0 x1 x2 x4 x5 wp)

def b_v550 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x1024x128 .f32 :=
  View.ld (View.canon (b_HS1_8 w1 x0 x1 x2 x4 x5 wp)) (Rect.unit (s := S8x1056x128) ![3, 16, 0] S1x1024x128.size inb_S8x1056x128_S1x1024x128_3_16_0)

def b_r_63 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay91 (b_v550 w1 x0 x1 x2 x4 x5 wp)

def b_r_64 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay92 (b_r_55 w1 x0 x1 x2 x4 x5 wp) (b_r_56 w1 x0 x1 x2 x4 x5 wp) (b_r_58 w1 x0 x1 x2 x4 x5 wp) (b_r_59 w1 x0 x1 x2 x4 x5 wp) (b_r_60 w1 x0 x1 x2 x4 x5 wp) (b_r_61 w1 x0 x1 x2 x4 x5 wp) (b_v527 w1 x0 x1 x2 x4 x5 wp) (b_v538 w1 x0 x1 x2 x4 x5 wp)

def b_r_65 (w1 : BitVec 32) :=
  k0_pay94 (b_v145 w1)

def b_r_66 (w1 : BitVec 32) :=
  k0_pay95 (b_v145 w1)

def b_r_67 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x6 : Vec Ideal S2x256x256 .bf16) (wp : Vec Ideal S1024x2048 .bf16) :=
  k0_pay97 (b_v145 w1) (b_r_20 w1 x0 x1 x2 x4 x5 wp) (b_r_36 w1 x0 x1 x2 x4 x5 wp) (b_r_54 w1 x0 x1 x2 x4 x5 wp) (b_r_62 w1 x0 x1 x2 x4 x5 wp) (b_r_63 w1 x0 x1 x2 x4 x5 wp) (b_r_64 w1 x0 x1 x2 x4 x5 wp) (b_r_65 w1) (b_r_66 w1) (8192#32) (View.ld x6 (Rect.unit ![0, 0, 0] S1x256x256.size inb_S2x256x256_S1x256x256_0_0_0))

def b_r_68 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x6 : Vec Ideal S2x256x256 .bf16) (wp : Vec Ideal S1024x2048 .bf16) :=
  k0_pay98 (b_v145 w1) (b_r_20 w1 x0 x1 x2 x4 x5 wp) (b_r_36 w1 x0 x1 x2 x4 x5 wp) (b_r_54 w1 x0 x1 x2 x4 x5 wp) (b_r_62 w1 x0 x1 x2 x4 x5 wp) (b_r_63 w1 x0 x1 x2 x4 x5 wp) (b_r_64 w1 x0 x1 x2 x4 x5 wp) (b_r_65 w1) (b_r_66 w1) (8192#32) (View.ld x6 (Rect.unit ![1, 0, 0] S1x256x256.size inb_S2x256x256_S1x256x256_1_0_0))

def b_r_69 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x6 : Vec Ideal S2x256x256 .bf16) (x7 : Vec Ideal S1x512 .f32) (wp : Vec Ideal S1024x2048 .bf16) :=
  k0_pay99 (b_r_6 w1 x0 x1 x2 x4 x5 x7) (b_r_67 w1 x0 x1 x2 x4 x5 x6 wp) (b_r_68 w1 x0 x1 x2 x4 x5 x6 wp)

def b_r_70 (x8 : Vec Ideal S3x512 .f32) :=
  k0_pay100 (View.ld x8 (Rect.unit ![0, 0] S1x128.size inb_S3x512_S1x128_0_0))

def b_r_71 (x8 : Vec Ideal S3x512 .f32) :=
  k0_pay101 (View.ld x8 (Rect.unit ![1, 0] S1x128.size inb_S3x512_S1x128_1_0))

def b_r_72 (x8 : Vec Ideal S3x512 .f32) :=
  k0_pay102 (View.ld x8 (Rect.unit ![2, 0] S1x128.size inb_S3x512_S1x128_2_0))

def b_v616 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 15, 0] S1x136x128.size inb_S8x1056x128_S1x136x128_4_15_0)

def b_r_73 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay103 (View.ld x8 (Rect.unit ![0, 0] S1x128.size inb_S3x512_S1x128_0_0)) (View.ld x8 (Rect.unit ![1, 0] S1x128.size inb_S3x512_S1x128_1_0)) (View.ld x8 (Rect.unit ![2, 0] S1x128.size inb_S3x512_S1x128_2_0)) (b_v616 w1 x0 x1 x2 x4 x5 wp)

def b_v629 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 143, 0] S1x136x128.size inb_S8x1056x128_S1x136x128_4_143_0)

def b_r_74 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay104 (View.ld x8 (Rect.unit ![0, 0] S1x128.size inb_S3x512_S1x128_0_0)) (View.ld x8 (Rect.unit ![1, 0] S1x128.size inb_S3x512_S1x128_1_0)) (View.ld x8 (Rect.unit ![2, 0] S1x128.size inb_S3x512_S1x128_2_0)) (b_v629 w1 x0 x1 x2 x4 x5 wp)

def b_v642 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 271, 0] S1x136x128.size inb_S8x1056x128_S1x136x128_4_271_0)

def b_r_75 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay105 (b_v642 w1 x0 x1 x2 x4 x5 wp)

def b_r_76 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay106 (View.ld x8 (Rect.unit ![0, 0] S1x128.size inb_S3x512_S1x128_0_0)) (b_v642 w1 x0 x1 x2 x4 x5 wp)

def b_r_77 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) :=
  k0_pay107 (b_v642 w1 x0 x1 x2 x4 x5 wp)

def b_r_78 (x8 : Vec Ideal S3x512 .f32) :=
  k0_pay108 (View.ld x8 (Rect.unit ![1, 0] S1x128.size inb_S3x512_S1x128_1_0))

def b_r_79 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay109 (b_r_72 x8) (b_r_75 w1 x0 x1 x2 x4 x5 wp) (b_r_76 w1 x0 x1 x2 x4 x5 x8 wp) (b_r_77 w1 x0 x1 x2 x4 x5 wp) (b_r_78 x8)

def b_v655 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 399, 0] S1x136x128.size inb_S8x1056x128_S1x136x128_4_399_0)

def b_r_80 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay110 (b_r_70 x8) (b_r_71 x8) (b_r_72 x8) (b_v655 w1 x0 x1 x2 x4 x5 wp)

def b_v668 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 527, 0] S1x136x128.size inb_S8x1056x128_S1x136x128_4_527_0)

def b_r_81 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay111 (b_r_70 x8) (b_r_71 x8) (b_r_72 x8) (b_v668 w1 x0 x1 x2 x4 x5 wp)

def b_v681 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 655, 0] S1x136x128.size inb_S8x1056x128_S1x136x128_4_655_0)

def b_r_82 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay113 (b_r_70 x8) (b_r_71 x8) (b_v681 w1 x0 x1 x2 x4 x5 wp)

def b_r_83 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay114 (b_r_72 x8) (b_v681 w1 x0 x1 x2 x4 x5 wp)

def b_v694 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 783, 0] S1x136x128.size inb_S8x1056x128_S1x136x128_4_783_0)

def b_v707 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![4, 911, 0] S1x136x128.size inb_S8x1056x128_S1x136x128_4_911_0)

def b_r_84 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x8 : Vec Ideal S3x512 .f32) (wp : Vec Ideal S1024x2048 .bf16) :=
  k0_pay115 (b_r_70 x8) (b_r_71 x8) (b_r_72 x8) (b_r_73 w1 x0 x1 x2 x4 x5 x8 wp) (b_r_74 w1 x0 x1 x2 x4 x5 x8 wp) (b_r_79 w1 x0 x1 x2 x4 x5 x8 wp) (b_r_80 w1 x0 x1 x2 x4 x5 x8 wp) (b_r_81 w1 x0 x1 x2 x4 x5 x8 wp) (b_r_82 w1 x0 x1 x2 x4 x5 x8 wp) (b_r_83 w1 x0 x1 x2 x4 x5 x8 wp) (b_v694 w1 x0 x1 x2 x4 x5 wp) (b_v707 w1 x0 x1 x2 x4 x5 wp)

def b_r_7 (w1 : BitVec 32) (x0 : Vec Ideal S1x16x1024 .f32) (x1 : Vec Ideal S1x1024x1024 .f32) (x2 : Vec Ideal S1x16x1024 .f32) (x4 : Vec Ideal S1x1024 .f32) (wp : Vec Ideal S1024x2048 .bf16) :=
  k0_pay31 (b_v120 w1 x0 x1 x2 x4) (View.ld wp (Rect.unit ![0, 1024] S1024x512.size inb_S1024x2048_S1024x512_0_1024))

def b_r_8 (wp : Vec Ideal S1024x2048 .bf16) : Vec Ideal S1024x512 .bf16 :=
  View.ld wp (Rect.unit ![0, 1536] S1024x512.size inb_S1024x2048_S1024x512_0_1536)

def b_r_9 (w1 : BitVec 32) (x0 : Vec Ideal S1x16x1024 .f32) (x1 : Vec Ideal S1x1024x1024 .f32) (x2 : Vec Ideal S1x16x1024 .f32) (x4 : Vec Ideal S1x1024 .f32) (wp : Vec Ideal S1024x2048 .bf16) :=
  k0_pay32 (b_v120 w1 x0 x1 x2 x4) (b_r_7 w1 x0 x1 x2 x4 wp) (b_r_8 wp)

def b_v1040 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (wp : Vec Ideal S1024x2048 .bf16) : Vec Ideal S1x136x128 .f32 :=
  View.ld (View.canon (b_HS1_8 w1 x0 x1 x2 x4 x5 wp)) (Rect.unit (s := S8x1056x128) ![7, 911, 0] S1x136x128.size inb_S8x1056x128_S1x136x128_7_911_0)

def b_r_126 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (wp : Vec Ideal S1024x2048 .bf16) :=
  k0_pay158 (b_r_9 w1 x0 x1 x2 x4 wp) (b_r_69 w1 x0 x1 x2 x4 x5 x6 x7 wp) (b_r_84 w1 x0 x1 x2 x4 x5 x8 wp) (b_r_101 w1 x0 x1 x2 x4 x5 x8 wp) (b_r_112 w1 x0 x1 x2 x4 x5 x8 wp) (b_r_113 x8) (b_r_115 x8) (b_r_116 x8) (b_r_117 w1 x0 x1 x2 x4 x5 x8 wp) (b_r_118 w1 x0 x1 x2 x4 x5 x8 wp) (b_r_119 w1 x0 x1 x2 x4 x5 x8 wp) (b_r_120 w1 x0 x1 x2 x4 x5 x8 wp) (b_r_121 w1 x0 x1 x2 x4 x5 x8 wp) (b_r_122 w1 x0 x1 x2 x4 x5 x8 wp) (b_r_123 w1 x0 x1 x2 x4 x5 wp) (b_r_124 w1 x0 x1 x2 x4 x5 x8 wp) (b_v1040 w1 x0 x1 x2 x4 x5 wp) (View.ld x9 (Rect.unit ![0, 0] S1024x1024.size inb_S1024x1024_S1024x1024_0_0))

def b_r_127 (w1 : BitVec 32) (x0 : Vec Ideal S1x16x1024 .f32) (x1 : Vec Ideal S1x1024x1024 .f32) (x2 : Vec Ideal S1x16x1024 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (wp : Vec Ideal S1024x2048 .bf16) :=
  k0_pay159 (b_r_125 x1) (b_r_126 w1 x0 x1 x2 x4 x5 x6 x7 x8 x9 wp) (View.ld x10 (Rect.unit ![0, 0] S1x1024.size inb_S1x1024_S1x1024_0_0))

def b_r (x3 : Vec Ideal S1x1024x256 .f32) (x11 : Vec Ideal S256x1024 .bf16) :=
  k0_pay10 (View.ld x3 (Rect.unit ![0, 0, 0] S1x1024x256.size inb_S1x1024x256_S1x1024x256_0_0_0)) (View.ld x11 (Rect.unit ![0, 0] S256x1024.size inb_S256x1024_S256x1024_0_0))

def b_r_128 (w1 : BitVec 32) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) (wp : Vec Ideal S1024x2048 .bf16) :=
  k0_pay160 (b_r x3 x11) (b_r_125 x1) (b_r_126 w1 x0 x1 x2 x4 x5 x6 x7 x8 x9 wp) (View.ld x10 (Rect.unit ![0, 0] S1x1024.size inb_S1x1024_S1x1024_0_0)) (View.ld x12 (Rect.unit ![0, 0] S1024x1024.size inb_S1024x1024_S1024x1024_0_0)) (View.ld x13 (Rect.unit ![0, 0] S1x1024.size inb_S1x1024_S1x1024_0_0))

/-- The block the body stores. -/
def b_out (w1 : BitVec 32) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) (wp : Vec Ideal S1024x2048 .bf16) : Vec Ideal S1x1024x1024 .f32 :=
  k0_pay1 (b_r_127 w1 x0 x1 x2 x4 x5 x6 x7 x8 x9 x10 wp) (b_r_128 w1 x0 x1 x2 x3 x4 x5 x6 x7 x8 x9 x10 x11 x12 x13 wp)

/-- The paired columns, as the first point writes them: two halves of 256 columns of the projection matrix side by side. -/
def b_wpL (x5 : Vec Ideal S1024x3072 .bf16) : List (View.Piece (Elt Ideal) S1024x2048 .bf16) :=
  [⟨Rect.unit (s := S1024x2048) ![0, 1792] S1024x256.size inb_S1024x2048_S1024x256_0_1792, k0_pay9 (View.ld x5 (Rect.unit (s := S1024x3072) ![0, 2816] S1024x256.size inb_S1024x3072_S1024x256_0_2816))⟩, ⟨Rect.unit (s := S1024x2048) ![0, 1536] S1024x256.size inb_S1024x2048_S1024x256_0_1536, k0_pay8 (View.ld x5 (Rect.unit (s := S1024x3072) ![0, 1792] S1024x256.size inb_S1024x3072_S1024x256_0_1792))⟩, ⟨Rect.unit (s := S1024x2048) ![0, 1280] S1024x256.size inb_S1024x2048_S1024x256_0_1280, k0_pay7 (View.ld x5 (Rect.unit (s := S1024x3072) ![0, 2560] S1024x256.size inb_S1024x3072_S1024x256_0_2560))⟩, ⟨Rect.unit (s := S1024x2048) ![0, 1024] S1024x256.size inb_S1024x2048_S1024x256_0_1024, k0_pay6 (View.ld x5 (Rect.unit (s := S1024x3072) ![0, 1536] S1024x256.size inb_S1024x3072_S1024x256_0_1536))⟩, ⟨Rect.unit (s := S1024x2048) ![0, 768] S1024x256.size inb_S1024x2048_S1024x256_0_768, k0_pay5 (View.ld x5 (Rect.unit (s := S1024x3072) ![0, 1280] S1024x256.size inb_S1024x3072_S1024x256_0_1280))⟩, ⟨Rect.unit (s := S1024x2048) ![0, 512] S1024x256.size inb_S1024x2048_S1024x256_0_512, k0_pay4 (View.ld x5 (Rect.unit (s := S1024x3072) ![0, 2304] S1024x256.size inb_S1024x3072_S1024x256_0_2304))⟩, ⟨Rect.unit (s := S1024x2048) ![0, 256] S1024x256.size inb_S1024x2048_S1024x256_0_256, k0_pay3 (View.ld x5 (Rect.unit (s := S1024x3072) ![0, 1024] S1024x256.size inb_S1024x3072_S1024x256_0_1024))⟩, ⟨Rect.unit (s := S1024x2048) ![0, 0] S1024x256.size inb_S1024x2048_S1024x256_0_0, k0_pay2 (View.ld x5 (Rect.unit (s := S1024x3072) ![0, 2048] S1024x256.size inb_S1024x3072_S1024x256_0_2048))⟩]

def b_wp (x5 : Vec Ideal S1024x3072 .bf16) : Vec Ideal S1024x2048 .bf16 := View.canon (b_wpL x5)

/-- The block stored at a point that finds the paired columns already there. -/
theorem outB_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : ¬cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) (xs2 : Vec Ideal S1024x2048 .bf16) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs2 = b_out (BitVec.ofNat 32 (i 1).val) x0 x1 x2 x3 x4 x5 x6 x7 x8 x9 x10 x11 x12 x13 xs2 := by
  frame_open
  simp only [View.read_writes_junk_eq_canon, readCov_ld, View.readAt_eq_ld, Memref.IsWhole.read_unread]
  rw [View.canon_cons_unit_lit' _ _ _ (by decide)]
  simp only [b_r_125, b_r_85, b_r_86, b_r_87, b_r_1, b_r_2, b_r_3, b_r_4, b_HS0_3, b_v73, b_r_5, b_HS1_8, b_v805, b_r_100, b_v727, b_r_88, b_r_89, b_r_90, b_r_91, b_v740, b_r_92, b_v753, b_r_93, b_v766, b_r_94, b_r_95, b_r_96, b_r_97, b_v779, b_r_98, b_v792, b_r_99, b_v818, b_r_101, b_r_102, b_r_103, b_r_104, b_v838, b_r_105, b_v851, b_r_106, b_r_107, b_r_108, b_v864, b_r_109, b_v877, b_r_110, b_v890, b_r_111, b_v903, b_v916, b_v929, b_r_112, b_r_113, b_r_114, b_r_115, b_r_116, b_v949, b_r_117, b_v962, b_r_118, b_v975, b_r_119, b_v988, b_r_120, b_v1001, b_r_121, b_v1014, b_r_122, b_v1027, b_r_123, b_r_124, b_v120, b_r_6, b_v187, b_r_16, b_v146, b_r_10, b_v151, b_r_11, b_v156, b_r_12, b_v161, b_r_13, b_v166, b_r_14, b_v171, b_r_15, b_v145, b_v176, b_v181, b_r_17, b_r_18, b_r_19, b_r_20, b_v292, b_r_30, b_v235, b_r_21, b_v242, b_r_22, b_v249, b_r_23, b_r_24, b_v256, b_r_25, b_v263, b_r_26, b_v270, b_r_27, b_v277, b_r_28, b_v284, b_r_29, b_r_31, b_r_32, b_r_33, b_r_34, b_r_35, b_r_36, b_v413, b_r_48, b_v340, b_r_37, b_v349, b_r_38, b_v358, b_r_39, b_v367, b_r_40, b_r_41, b_r_42, b_v376, b_r_43, b_v385, b_r_44, b_v394, b_r_45, b_v403, b_r_46, b_r_47, b_r_49, b_r_50, b_r_51, b_r_52, b_r_53, b_r_54, b_v461, b_r_55, b_v472, b_r_56, b_v483, b_r_57, b_r_58, b_v494, b_r_59, b_v505, b_r_60, b_v516, b_r_61, b_v527, b_v538, b_r_62, b_v550, b_r_63, b_r_64, b_r_65, b_r_66, b_r_67, b_r_68, b_r_69, b_r_70, b_r_71, b_r_72, b_v616, b_r_73, b_v629, b_r_74, b_v642, b_r_75, b_r_76, b_r_77, b_r_78, b_r_79, b_v655, b_r_80, b_v668, b_r_81, b_v681, b_r_82, b_r_83, b_v694, b_v707, b_r_84, b_r_7, b_r_8, b_r_9, b_v1040, b_r_126, b_r_127, b_r, b_r_128, b_out]

/-- The block stored at a point that first writes the paired columns. -/
theorem outA_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 = b_out (BitVec.ofNat 32 (i 1).val) x0 x1 x2 x3 x4 x5 x6 x7 x8 x9 x10 x11 x12 x13 (b_wp x5) := by
  frame_open
  simp only [View.read_writes_junk_eq_canon, readCov_ld, View.readAt_eq_ld, Memref.IsWhole.read_unread]
  rw [View.canon_cons_unit_lit' _ _ _ (by decide)]
  simp only [b_r_125, b_r_85, b_r_86, b_r_87, b_r_1, b_r_2, b_r_3, b_r_4, b_HS0_3, b_v73, b_r_5, b_HS1_8, b_v805, b_r_100, b_v727, b_r_88, b_r_89, b_r_90, b_r_91, b_v740, b_r_92, b_v753, b_r_93, b_v766, b_r_94, b_r_95, b_r_96, b_r_97, b_v779, b_r_98, b_v792, b_r_99, b_v818, b_r_101, b_r_102, b_r_103, b_r_104, b_v838, b_r_105, b_v851, b_r_106, b_r_107, b_r_108, b_v864, b_r_109, b_v877, b_r_110, b_v890, b_r_111, b_v903, b_v916, b_v929, b_r_112, b_r_113, b_r_114, b_r_115, b_r_116, b_v949, b_r_117, b_v962, b_r_118, b_v975, b_r_119, b_v988, b_r_120, b_v1001, b_r_121, b_v1014, b_r_122, b_v1027, b_r_123, b_r_124, b_v120, b_r_6, b_v187, b_r_16, b_v146, b_r_10, b_v151, b_r_11, b_v156, b_r_12, b_v161, b_r_13, b_v166, b_r_14, b_v171, b_r_15, b_v145, b_v176, b_v181, b_r_17, b_r_18, b_r_19, b_r_20, b_v292, b_r_30, b_v235, b_r_21, b_v242, b_r_22, b_v249, b_r_23, b_r_24, b_v256, b_r_25, b_v263, b_r_26, b_v270, b_r_27, b_v277, b_r_28, b_v284, b_r_29, b_r_31, b_r_32, b_r_33, b_r_34, b_r_35, b_r_36, b_v413, b_r_48, b_v340, b_r_37, b_v349, b_r_38, b_v358, b_r_39, b_v367, b_r_40, b_r_41, b_r_42, b_v376, b_r_43, b_v385, b_r_44, b_v394, b_r_45, b_v403, b_r_46, b_r_47, b_r_49, b_r_50, b_r_51, b_r_52, b_r_53, b_r_54, b_v461, b_r_55, b_v472, b_r_56, b_v483, b_r_57, b_r_58, b_v494, b_r_59, b_v505, b_r_60, b_v516, b_r_61, b_v527, b_v538, b_r_62, b_v550, b_r_63, b_r_64, b_r_65, b_r_66, b_r_67, b_r_68, b_r_69, b_r_70, b_r_71, b_r_72, b_v616, b_r_73, b_v629, b_r_74, b_v642, b_r_75, b_r_76, b_r_77, b_r_78, b_r_79, b_v655, b_r_80, b_v668, b_r_81, b_v681, b_r_82, b_r_83, b_v694, b_v707, b_r_84, b_r_7, b_r_8, b_r_9, b_v1040, b_r_126, b_r_127, b_r, b_r_128, b_out, k0_pay2, k0_pay3, k0_pay4, k0_pay5, k0_pay6, k0_pay7, k0_pay8, k0_pay9, b_wp, b_wpL]

/-- What the first point leaves in the carried scratch. -/
theorem soutA_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 = b_wp x5 := by
  frame_open
  simp only [View.read_writes_junk_eq_canon, readCov_ld, View.readAt_eq_ld, Memref.IsWhole.read_unread]
  simp only [k0_pay2, k0_pay3, k0_pay4, k0_pay5, k0_pay6, k0_pay7, k0_pay8, k0_pay9, b_wp, b_wpL]

end Cert.KernelIdeal.Blk
-- ==== Proof.BlkH.lean ====
module

public import proofs.«01_k».proof.Proof.Blk
public import proofs.«01_k».proof.Proof.Rd
public import proofs.«01_k».proof.Proof.Spec

/-! The normalised rows one block holds: sixteen before it, its own 1024, sixteen after it. -/

@[expose] public section
set_option maxRecDepth 16384
noncomputable section

namespace Cert.KernelIdeal.Blk
open Idealize.ShloMosaic Cert.KernelIdeal Cert.KernelIdeal.Gen Cert.Rd Cert.Spec

/-- The block's normalised rows, read at plain positions. -/
def hb (w1 : BitVec 32) (x0 : Vec Ideal S1x16x1024 .f32) (x1 : Vec Ideal S1x1024x1024 .f32) (x2 : Vec Ideal S1x16x1024 .f32)
    (x4 : Vec Ideal S1x1024 .f32) (n k : ℕ) : EReal := rd2 (View.canon (b_HS0_3 w1 x0 x1 x2 x4)) n k

variable (w1 : BitVec 32) (x0 : Vec Ideal S1x16x1024 .f32) (x1 : Vec Ideal S1x1024x1024 .f32) (x2 : Vec Ideal S1x16x1024 .f32)
    (x4 : Vec Ideal S1x1024 .f32)

theorem scalar_pick (w u : BitVec 32) (z x : EReal) :
    Scalar.select (Scalar.cmpi .eq w u) z x = if w = u then z else x := by
  by_cases h : w = u
  · subst h; simp [Scalar.select, Scalar.cmpi, IntOp.cmpi]
  · have e : (w == u) = false := by simpa using h
    simp [Scalar.select, Scalar.cmpi, IntOp.cmpi, h, e]

theorem hb_mid (n k : ℕ) (hn : 16 ≤ n) (hn' : n < 1040) (hk : k < 1024) :
    hb w1 x0 x1 x2 x4 n k = rms (rd3 x1 0 (n - 16)) (rd2 x4 0) k := by
  unfold hb b_HS0_3
  rw [rd2_miss_bf16 (h := by omega), rd2_hit_bf16 (hp := by omega) (ha := by omega) (hq := by omega) (hb := by omega)]
  simp (disch := first | omega | rfl) only [k0_pay16, b_r_1, k0_pay11, rd2_cast_same, rd2_truncf, rd2_mulf, rd2_bcast_row, rd2_bcast_col,
    rd2_rsqrt, rd2_addf, rd2_divf, rd2_broadcast, rd2_cast_col, rd1_sum, rd2_cast, rd2_ld_f32, rd3_ld_f32, Nat.zero_add, Nat.sub_zero]
  rfl

theorem hb_lo (n k : ℕ) (hn' : n < 16) (hk : k < 1024) :
    hb w1 x0 x1 x2 x4 n k = if w1 = 0#32 then 0 else rms (rd3 x0 0 n) (rd2 x4 0) k := by
  unfold hb b_HS0_3
  rw [rd2_miss_bf16 (h := by omega), rd2_miss_bf16 (h := by omega), rd2_hit_bf16 (hp := by omega) (ha := by omega) (hq := by omega) (hb := by omega)]
  simp (disch := first | omega | rfl) only [k0_pay15, b_r_2, k0_pay12, k0_pay11, rd2_select, rd2_cast_same, rd2_truncf, rd2_mulf, rd2_bcast_row, rd2_bcast_col,
    rd2_rsqrt, rd2_addf, rd2_divf, rd2_broadcast, rd2_cast_col, rd1_sum, rd2_cast, rd2_ld_f32, rd3_ld_f32, Nat.zero_add, Nat.sub_zero]
  rw [scalar_pick, show (FloatOps.ofBits (F := Ideal) .bf16 0#16) = 0 from Ideal.ofBits_zero_bf16]
  rfl

theorem hb_hi (n k : ℕ) (hn : 1040 ≤ n) (hn' : n < 1056) (hk : k < 1024) :
    hb w1 x0 x1 x2 x4 n k = if w1 = 7#32 then 0 else rms (rd3 x2 0 (n - 1040)) (rd2 x4 0) k := by
  unfold hb b_HS0_3
  rw [rd2_hit_bf16 (hp := by omega) (ha := by omega) (hq := by omega) (hb := by omega)]
  simp (disch := first | omega | rfl) only [k0_pay17, b_r_3, b_r_4, k0_pay13, k0_pay14, b_r_1, k0_pay11, rd2_select, rd2_cast_same, rd2_truncf, rd2_mulf, rd2_bcast_row, rd2_bcast_col,
    rd2_rsqrt, rd2_addf, rd2_divf, rd2_broadcast, rd2_cast_col, rd1_sum, rd2_cast, rd2_ld_f32, rd3_ld_f32, Nat.zero_add, Nat.sub_zero]
  rw [scalar_pick, show (FloatOps.ofBits (F := Ideal) .bf16 0#16) = 0 from Ideal.ofBits_zero_bf16]
  rfl

end Cert.KernelIdeal.Blk
-- ==== Proof.BlkM.lean ====
module

public import proofs.«01_k».proof.Proof.BlkH

/-! The projections one block keeps: four groups of pooled values and four groups of gated inputs of the short
convolution, each the product of the block's normalised rows with a stretch of weight columns. -/

@[expose] public section
set_option maxRecDepth 16384
noncomputable section

namespace Cert.KernelIdeal.Blk
open Idealize.ShloMosaic Cert.KernelIdeal Cert.KernelIdeal.Gen Cert.Rd Cert.Spec

/-- The projections, as one array of eight groups. -/
abbrev bM (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (wp : Vec Ideal S1024x2048 .bf16) : Vec Ideal S8x1056x128 .f32 :=
  View.canon (b_HS1_8 w1 x0 x1 x2 x4 x5 wp)

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (wp : Vec Ideal S1024x2048 .bf16)

theorem dot_rows_512 : dot_S1056x1024_S1024x512_S1056x512_1_0_0_1_n_n = DotDims.plain 1056 1024 512 := rfl
theorem dot_mid_512 : dot_S1024x1024_S1024x512_S1024x512_1_0_0_1_n_n = DotDims.plain 1024 1024 512 := rfl
theorem dot_mid_1024 : dot_S1024x1024_S1024x1024_S1024x1024_1_0_0_1_n_n = DotDims.plain 1024 1024 1024 := rfl
theorem dot_pair : dot_S1024x256_S256x256_S1024x256_1_0_0_1_n_n = DotDims.plain 1024 256 256 := rfl
theorem dot_ple : dot_S1024x256_S256x1024_S1024x1024_1_0_0_1_n_n = DotDims.plain 1024 256 1024 := rfl

theorem rows_eq (n k : ℕ) (hn : n < 1056) (hk : k < 1024) : rd2 (b_v73 w1 x0 x1 x2 x4) n k = hb w1 x0 x1 x2 x4 n k := by
  unfold b_v73 hb
  simp (disch := omega) only [rd2_ld_bf16, Nat.zero_add]

theorem mid_eq (n k : ℕ) (hn : n < 1024) (hk : k < 1024) : rd2 (b_v120 w1 x0 x1 x2 x4) n k = hb w1 x0 x1 x2 x4 (n + 16) k := by
  unfold b_v120 hb
  simp (disch := omega) only [rd2_ld_bf16, Nat.zero_add]
  rw [Nat.add_comm]

theorem val_col (e n c q : ℕ) (hq : q = e + c) (hn : n < 1056) (hc : e + c < 512) :
    rd2 (k0_pay18 (b_v73 w1 x0 x1 x2 x4) (View.ld x5 (Rect.unit (s := S1024x3072) ![0, 0] S1024x512.size inb_S1024x3072_S1024x512_0_0))) n q
      = zc (rd2 x5) (hb w1 x0 x1 x2 x4) n (e + c) := by
  subst hq
  simp (disch := omega) only [k0_pay18, dot_rows_512, rd2_matmul, rows_eq, rd2_cast_same, rd2_ld_bf16, Nat.zero_add, zc]

/-- How the carried columns are drawn from the weight. -/
def wcol (c : ℕ) : ℕ :=
  if c < 256 then 2048 + c else if c < 512 then 768 + c else if c < 768 then 1792 + c else if c < 1024 then 512 + c
  else if c < 1280 then 512 + c else if c < 1536 then 1280 + c else if c < 1792 then 256 + c else 1024 + c

theorem wp_col (k c : ℕ) (hk : k < 1024) (hc : c < 2048) : rd2 (b_wp x5) k c = rd2 x5 k (wcol c) := by
  unfold b_wp b_wpL
  by_cases h7 : 1792 ≤ c
  · rw [rd2_hit_bf16 (hp := by omega) (ha := by omega) (hq := by omega) (hb := by omega)]
    simp (disch := omega) only [k0_pay9, rd2_cast_same, rd2_ld_bf16, Nat.zero_add, Nat.sub_zero]
    congr 1; unfold wcol; split_ifs <;> omega
  rw [rd2_miss_bf16 (h := by omega)]
  by_cases h6 : 1536 ≤ c
  · rw [rd2_hit_bf16 (hp := by omega) (ha := by omega) (hq := by omega) (hb := by omega)]
    simp (disch := omega) only [k0_pay8, rd2_cast_same, rd2_ld_bf16, Nat.zero_add, Nat.sub_zero]
    congr 1; unfold wcol; split_ifs <;> omega
  rw [rd2_miss_bf16 (h := by omega)]
  by_cases h5 : 1280 ≤ c
  · rw [rd2_hit_bf16 (hp := by omega) (ha := by omega) (hq := by omega) (hb := by omega)]
    simp (disch := omega) only [k0_pay7, rd2_cast_same, rd2_ld_bf16, Nat.zero_add, Nat.sub_zero]
    congr 1; unfold wcol; split_ifs <;> omega
  rw [rd2_miss_bf16 (h := by omega)]
  by_cases h4 : 1024 ≤ c
  · rw [rd2_hit_bf16 (hp := by omega) (ha := by omega) (hq := by omega) (hb := by omega)]
    simp (disch := omega) only [k0_pay6, rd2_cast_same, rd2_ld_bf16, Nat.zero_add, Nat.sub_zero]
    congr 1; unfold wcol; split_ifs <;> omega
  rw [rd2_miss_bf16 (h := by omega)]
  by_cases h3 : 768 ≤ c
  · rw [rd2_hit_bf16 (hp := by omega) (ha := by omega) (hq := by omega) (hb := by omega)]
    simp (disch := omega) only [k0_pay5, rd2_cast_same, rd2_ld_bf16, Nat.zero_add, Nat.sub_zero]
    congr 1; unfold wcol; split_ifs <;> omega
  rw [rd2_miss_bf16 (h := by omega)]
  by_cases h2 : 512 ≤ c
  · rw [rd2_hit_bf16 (hp := by omega) (ha := by omega) (hq := by omega) (hb := by omega)]
    simp (disch := omega) only [k0_pay4, rd2_cast_same, rd2_ld_bf16, Nat.zero_add, Nat.sub_zero]
    congr 1; unfold wcol; split_ifs <;> omega
  rw [rd2_miss_bf16 (h := by omega)]
  by_cases h1 : 256 ≤ c
  · rw [rd2_hit_bf16 (hp := by omega) (ha := by omega) (hq := by omega) (hb := by omega)]
    simp (disch := omega) only [k0_pay3, rd2_cast_same, rd2_ld_bf16, Nat.zero_add, Nat.sub_zero]
    congr 1; unfold wcol; split_ifs <;> omega
  rw [rd2_miss_bf16 (h := by omega)]
  rw [rd2_hit_bf16 (hp := by omega) (ha := by omega) (hq := by omega) (hb := by omega)]
  simp (disch := omega) only [k0_pay2, rd2_cast_same, rd2_ld_bf16, Nat.zero_add, Nat.sub_zero]
  congr 1; unfold wcol; split_ifs <;> omega

variable (hwp : ∀ k < 1024, ∀ c < 2048, rd2 wp k c = rd2 x5 k (wcol c))
include hwp

theorem pair0 (e n c : ℕ) (hn : n < 1056) (hc : e + c < 256) :
    rd2 (k0_pay23 (b_v73 w1 x0 x1 x2 x4) (View.ld wp (Rect.unit (s := S1024x2048) ![0, 0] S1024x512.size inb_S1024x2048_S1024x512_0_0))) n (e + c)
      = cu (rd2 x5) (hb w1 x0 x1 x2 x4) n (e + c) := by
  simp (disch := omega) only [k0_pay23, dot_rows_512, rd2_matmul, rd2_mulf, rd2_slice, rows_eq, rd2_ld_bf16, hwp, Nat.zero_add, cu, zc]
  simp (disch := omega) only [wcol, if_pos, if_neg, ← Nat.add_assoc, Nat.reduceAdd]

theorem pair1 (e n c : ℕ) (hn : n < 1056) (hc : e + c < 256) :
    rd2 (k0_pay27 (b_v73 w1 x0 x1 x2 x4) (View.ld wp (Rect.unit (s := S1024x2048) ![0, 512] S1024x512.size inb_S1024x2048_S1024x512_0_512))) n (e + c)
      = cu (rd2 x5) (hb w1 x0 x1 x2 x4) n (256 + (e + c)) := by
  simp (disch := omega) only [k0_pay27, dot_rows_512, rd2_matmul, rd2_mulf, rd2_slice, rows_eq, rd2_ld_bf16, hwp, Nat.zero_add, cu, zc]
  simp (disch := omega) only [wcol, if_pos, if_neg, ← Nat.add_assoc, Nat.reduceAdd]

omit hwp in
theorem val_group (g n c : ℕ) (hg : g < 4) (hn : n < 1056) (hc : c < 128) :
    rd3 (bM w1 x0 x1 x2 x4 x5 wp) g n c = zc (rd2 x5) (hb w1 x0 x1 x2 x4) n (128 * g + c) := by
  unfold bM b_HS1_8
  rw [rd3_miss_f32 (h := by omega), rd3_miss_f32 (h := by omega), rd3_miss_f32 (h := by omega), rd3_miss_f32 (h := by omega)]
  interval_cases g
  · rw [rd3_miss_f32 (h := by omega), rd3_miss_f32 (h := by omega), rd3_miss_f32 (h := by omega),
      rd3_hit_f32 (hp := by omega) (hc := by omega) (hq := by omega) (ha := by omega) (ho := by omega) (hb := by omega)]
    simp (disch := omega) only [k0_pay19, rd3_cast, rd2_slice, Nat.sub_zero, Nat.sub_self, Nat.zero_add]
    exact val_col w1 x0 x1 x2 x4 x5 0 n c _ (by omega) hn (by omega)
  · rw [rd3_miss_f32 (h := by omega), rd3_miss_f32 (h := by omega),
      rd3_hit_f32 (hp := by omega) (hc := by omega) (hq := by omega) (ha := by omega) (ho := by omega) (hb := by omega)]
    simp (disch := omega) only [k0_pay20, rd3_cast, rd2_slice, Nat.sub_zero, Nat.sub_self, Nat.zero_add]
    exact val_col w1 x0 x1 x2 x4 x5 128 n c _ (by omega) hn (by omega)
  · rw [rd3_miss_f32 (h := by omega),
      rd3_hit_f32 (hp := by omega) (hc := by omega) (hq := by omega) (ha := by omega) (ho := by omega) (hb := by omega)]
    simp (disch := omega) only [k0_pay21, rd3_cast, rd2_slice, Nat.sub_zero, Nat.sub_self, Nat.zero_add]
    exact val_col w1 x0 x1 x2 x4 x5 256 n c _ (by omega) hn (by omega)
  · rw [rd3_hit_f32 (hp := by omega) (hc := by omega) (hq := by omega) (ha := by omega) (ho := by omega) (hb := by omega)]
    simp (disch := omega) only [k0_pay22, rd3_cast, rd2_slice, Nat.sub_zero, Nat.sub_self, Nat.zero_add]
    exact val_col w1 x0 x1 x2 x4 x5 384 n c _ (by omega) hn (by omega)

theorem cu_group (g n c : ℕ) (hg : g < 4) (hn : n < 1056) (hc : c < 128) :
    rd3 (bM w1 x0 x1 x2 x4 x5 wp) (4 + g) n c = cu (rd2 x5) (hb w1 x0 x1 x2 x4) n (128 * g + c) := by
  unfold bM b_HS1_8
  interval_cases g
  · rw [rd3_miss_f32 (h := by omega), rd3_miss_f32 (h := by omega), rd3_miss_f32 (h := by omega),
      rd3_hit_f32 (hp := by omega) (hc := by omega) (hq := by omega) (ha := by omega) (ho := by omega) (hb := by omega)]
    simp (disch := omega) only [k0_pay24, rd3_cast, rd2_slice, Nat.sub_zero, Nat.sub_self, Nat.zero_add, Nat.reduceAdd, Nat.reduceSub, Nat.reduceMul]
    rw [← Nat.zero_add c]
    exact pair0 w1 x0 x1 x2 x4 x5 wp hwp 0 n c hn (by omega)
  · rw [rd3_miss_f32 (h := by omega), rd3_miss_f32 (h := by omega),
      rd3_hit_f32 (hp := by omega) (hc := by omega) (hq := by omega) (ha := by omega) (ho := by omega) (hb := by omega)]
    simp (disch := omega) only [k0_pay26, b_r_5, k0_pay25, rd3_cast, rd2_slice, Nat.sub_zero, Nat.sub_self, Nat.zero_add, Nat.reduceAdd, Nat.reduceSub, Nat.reduceMul]
    exact pair0 w1 x0 x1 x2 x4 x5 wp hwp 128 n c hn (by omega)
  · rw [rd3_miss_f32 (h := by omega),
      rd3_hit_f32 (hp := by omega) (hc := by omega) (hq := by omega) (ha := by omega) (ho := by omega) (hb := by omega)]
    simp (disch := omega) only [k0_pay28, rd3_cast, rd2_slice, Nat.sub_zero, Nat.sub_self, Nat.zero_add, Nat.reduceAdd, Nat.reduceSub, Nat.reduceMul]
    have h := pair1 w1 x0 x1 x2 x4 x5 wp hwp 0 n c hn (by omega)
    rw [Nat.zero_add] at h
    exact h
  · rw [rd3_hit_f32 (hp := by omega) (hc := by omega) (hq := by omega) (ha := by omega) (ho := by omega) (hb := by omega)]
    simp (disch := omega) only [k0_pay29, rd3_cast, rd2_slice, Nat.sub_zero, Nat.sub_self, Nat.zero_add, Nat.reduceAdd, Nat.reduceSub, Nat.reduceMul]
    have h := pair1 w1 x0 x1 x2 x4 x5 wp hwp 128 n c hn (by omega)
    rw [← Nat.add_assoc] at h
    exact h

end Cert.KernelIdeal.Blk
-- ==== Proof.Wd.lean ====
module

public import proofs.«01_k».proof.Proof.Rd
public import proofs.«01_k».proof.Proof.Spec

/-! Arrays of whole numbers read at plain positions, and the counts of window positions they hold. -/

@[expose] public section
noncomputable section

namespace Cert.Rd
open Idealize.ShloMosaic Idealize.ShloMosaic.Tactic Cert.Spec

/-- A word array of two axes at a row and a column, zero outside. -/
def iv {m n : ℕ} (x : IVec ⟨2, ![m, n]⟩ 32) (a b : ℕ) : BitVec 32 :=
  if h : a < m ∧ b < n then x (ix2 ⟨a, h.1⟩ ⟨b, h.2⟩) else 0#32

variable {m n a b : ℕ}

theorem iv_of (x : IVec ⟨2, ![m, n]⟩ 32) (ha : a < m) (hb : b < n) : iv x a b = x (ix2 ⟨a, ha⟩ ⟨b, hb⟩) := dif_pos ⟨ha, hb⟩
theorem iv_addi (x y : IVec ⟨2, ![m, n]⟩ 32) (ha : a < m) (hb : b < n) : iv (addi x y) a b = IntOp.addi (iv x a b) (iv y a b) := by
  rw [iv_of _ ha hb, iv_of _ ha hb, iv_of _ ha hb]; rfl
theorem iv_subi (x y : IVec ⟨2, ![m, n]⟩ 32) (ha : a < m) (hb : b < n) : iv (subi x y) a b = IntOp.subi (iv x a b) (iv y a b) := by
  rw [iv_of _ ha hb, iv_of _ ha hb, iv_of _ ha hb]; rfl
theorem iv_maxsi (x y : IVec ⟨2, ![m, n]⟩ 32) (ha : a < m) (hb : b < n) : iv (maxsi x y) a b = IntOp.maxsi (iv x a b) (iv y a b) := by
  rw [iv_of _ ha hb, iv_of _ ha hb, iv_of _ ha hb]; rfl
theorem iv_minsi (x y : IVec ⟨2, ![m, n]⟩ 32) (ha : a < m) (hb : b < n) : iv (minsi x y) a b = IntOp.minsi (iv x a b) (iv y a b) := by
  rw [iv_of _ ha hb, iv_of _ ha hb, iv_of _ ha hb]; rfl
theorem iv_broadcast (w : BitVec 32) (ha : a < m) (hb : b < n) : iv (broadcast ⟨2, ![m, n]⟩ w) a b = w := by
  rw [iv_of _ ha hb]; rfl
theorem iv_iota {ds : List (Fin 2)} (h : (⟨2, ![m, n]⟩ : Shape).Iotas .tc 32 ds) (hd : ds = [0]) (ha : a < m) (hb : b < n) :
    iv (iota .tc ⟨2, ![m, n]⟩ 32 ds h) a b = BitVec.ofNat 32 a := by
  subst hd
  rw [iv_of _ ha hb]
  show BitVec.ofNat 32 (0 * m + a) = _
  rw [Nat.zero_mul, Nat.zero_add]
theorem rd2_sitofp (x : IVec ⟨2, ![m, n]⟩ 32) (ha : a < m) (hb : b < n) :
    rd2 (sitofp (F := Ideal) .f32 x) a b = (((iv x a b).toInt : ℝ) : EReal) := by
  rw [rd2_of _ ha hb, iv_of _ ha hb]; rfl

/-- The number of positions a window holds, from the words of its first position. -/
def cw (w lo hi : BitVec 32) (a : ℕ) : BitVec 32 :=
  IntOp.subi (IntOp.minsi (IntOp.addi (IntOp.addi (IntOp.addi w (BitVec.ofNat 32 a)) hi) 1#32) 8192#32)
    (IntOp.maxsi (IntOp.subi (IntOp.addi w (BitVec.ofNat 32 a)) lo) 0#32)

/-- The first position of a tile, as the word the block computes. -/
def tile (s : ℕ) : BitVec 32 := Scalar.muli (BitVec.ofNat 32 s) 1024#32
/-- The first of a tile's last eight positions. -/
def tileEnd (s : ℕ) : BitVec 32 := Scalar.subi (Scalar.addi (tile s) 1024#32) 8#32

theorem cw_top0 : ∀ s < 8, ∀ a < 8, (cw (tile s) 0#32 1#32 a).toInt = (cnt 0 (1024 * s + a) : ℤ) := by decide +kernel
theorem cw_top1 : ∀ s < 8, ∀ a < 8, (cw (tile s) 1#32 2#32 a).toInt = (cnt 1 (1024 * s + a) : ℤ) := by decide +kernel
theorem cw_top2 : ∀ s < 8, ∀ a < 8, (cw (tile s) 3#32 4#32 a).toInt = (cnt 2 (1024 * s + a) : ℤ) := by decide +kernel
theorem cw_top3 : ∀ s < 8, ∀ a < 8, (cw (tile s) 7#32 8#32 a).toInt = (cnt 3 (1024 * s + a) : ℤ) := by decide +kernel
theorem cw_bot0 : ∀ s < 8, ∀ a < 8, (cw (tileEnd s) 0#32 1#32 a).toInt = (cnt 0 (1024 * s + (1016 + a)) : ℤ) := by decide +kernel
theorem cw_bot1 : ∀ s < 8, ∀ a < 8, (cw (tileEnd s) 1#32 2#32 a).toInt = (cnt 1 (1024 * s + (1016 + a)) : ℤ) := by decide +kernel
theorem cw_bot2 : ∀ s < 8, ∀ a < 8, (cw (tileEnd s) 3#32 4#32 a).toInt = (cnt 2 (1024 * s + (1016 + a)) : ℤ) := by decide +kernel
theorem cw_bot3 : ∀ s < 8, ∀ a < 8, (cw (tileEnd s) 7#32 8#32 a).toInt = (cnt 3 (1024 * s + (1016 + a)) : ℤ) := by decide +kernel

theorem cnt_mid (g s a : ℕ) (hg : g < 4) (hs : s < 8) (h8 : 8 ≤ a) (h16 : a < 1016) : cnt g (1024 * s + a) = 2 ^ (g + 1) := by
  interval_cases g <;> simp only [cnt] <;> omega

theorem half_bits : Ideal.ofBits .f32 0x3F000000#32 = (((1 : ℝ) / 2 : ℝ) : EReal) := by
  simp [Ideal.ofBits, Ideal.ieee]; rw [← EReal.coe_mul]; norm_num
theorem quarter_bits : Ideal.ofBits .f32 0x3E800000#32 = (((1 : ℝ) / 4 : ℝ) : EReal) := by
  simp [Ideal.ofBits, Ideal.ieee]; rw [← EReal.coe_mul]; norm_num
theorem eighth_bits : Ideal.ofBits .f32 0x3E000000#32 = (((1 : ℝ) / 8 : ℝ) : EReal) := by
  simp [Ideal.ofBits, Ideal.ieee]; rw [← EReal.coe_mul]; norm_num
theorem sixteenth_bits : Ideal.ofBits .f32 0x3D800000#32 = (((1 : ℝ) / 16 : ℝ) : EReal) := by
  simp [Ideal.ofBits, Ideal.ieee]; rw [← EReal.coe_mul]; norm_num

theorem div_two (x : EReal) : Ideal.div x ((2 : ℝ) : EReal) = x * Ideal.ofBits .f32 0x3F000000#32 := by
  rw [half_bits, Ideal.div_coe (by norm_num)]
theorem div_four (x : EReal) : Ideal.div x ((4 : ℝ) : EReal) = x * Ideal.ofBits .f32 0x3E800000#32 := by
  rw [quarter_bits, Ideal.div_coe (by norm_num)]
theorem div_eight (x : EReal) : Ideal.div x ((8 : ℝ) : EReal) = x * Ideal.ofBits .f32 0x3E000000#32 := by
  rw [eighth_bits, Ideal.div_coe (by norm_num)]
theorem div_sixteen (x : EReal) : Ideal.div x ((16 : ℝ) : EReal) = x * Ideal.ofBits .f32 0x3D800000#32 := by
  rw [sixteenth_bits, Ideal.div_coe (by norm_num)]

end Cert.Rd
-- ==== Proof.Tree.lean ====
module

public import proofs.«01_k».proof.Proof.Wd

/-! Windowed sums taken by doubling, and the rest of what a pooling group needs. -/

@[expose] public section
noncomputable section

namespace Cert.Rd
open Idealize.ShloMosaic Cert.Spec

theorem sum2 (f : ℕ → EReal) (r : ℕ) : ∑ q ∈ Finset.range 2, f (r + q)
    = (f r + f (r + 1)) := by
  simp only [Finset.sum_range_succ, Finset.sum_range_zero, Nat.add_assoc, Nat.reduceAdd, Nat.add_zero, zero_add, add_assoc]

theorem sum4 (f : ℕ → EReal) (r : ℕ) : ∑ q ∈ Finset.range 4, f (r + q)
    = ((f r + f (r + 1)) + (f (r + 2) + f (r + 2 + 1))) := by
  simp only [Finset.sum_range_succ, Finset.sum_range_zero, Nat.add_assoc, Nat.reduceAdd, Nat.add_zero, zero_add, add_assoc]

theorem sum8 (f : ℕ → EReal) (r : ℕ) : ∑ q ∈ Finset.range 8, f (r + q)
    = (((f r + f (r + 1)) + (f (r + 2) + f (r + 2 + 1))) + ((f (r + 4) + f (r + 4 + 1)) + (f (r + 4 + 2) + f (r + 4 + 2 + 1)))) := by
  simp only [Finset.sum_range_succ, Finset.sum_range_zero, Nat.add_assoc, Nat.reduceAdd, Nat.add_zero, zero_add, add_assoc]

theorem sum16 (f : ℕ → EReal) (r : ℕ) : ∑ q ∈ Finset.range 16, f (r + q)
    = ((((f r + f (r + 1)) + (f (r + 2) + f (r + 2 + 1))) + ((f (r + 4) + f (r + 4 + 1)) + (f (r + 4 + 2) + f (r + 4 + 2 + 1)))) + (((f (r + 8) + f (r + 8 + 1)) + (f (r + 8 + 2) + f (r + 8 + 2 + 1))) + ((f (r + 8 + 4) + f (r + 8 + 4 + 1)) + (f (r + 8 + 4 + 2) + f (r + 8 + 4 + 2 + 1))))) := by
  simp only [Finset.sum_range_succ, Finset.sum_range_zero, Nat.add_assoc, Nat.reduceAdd, Nat.add_zero, zero_add, add_assoc]

theorem rd2_rot1_136 {a b : ℕ} {ax : Fin 2} {st : Option (ℕ × Fin 2)} (x : (⟨2, ![136, 128]⟩ : Shape).Idx → EReal) (h : (⟨2, ![136, 128]⟩ : Shape).Rotates ax st)
    (hx : ax = 0) (hs : st = none) (ha : a + 1 < 136) (hb : b < 128) : rd2 (dynamicRotate ax 135#32 st x h) a b = rd2 x (a + 1) b := by
  subst hx; subst hs; exact rd2_rot _ x h 1 rfl ha hb

theorem rd2_rot2_136 {a b : ℕ} {ax : Fin 2} {st : Option (ℕ × Fin 2)} (x : (⟨2, ![136, 128]⟩ : Shape).Idx → EReal) (h : (⟨2, ![136, 128]⟩ : Shape).Rotates ax st)
    (hx : ax = 0) (hs : st = none) (ha : a + 2 < 136) (hb : b < 128) : rd2 (dynamicRotate ax 134#32 st x h) a b = rd2 x (a + 2) b := by
  subst hx; subst hs; exact rd2_rot _ x h 2 rfl ha hb

theorem rd2_rot4_136 {a b : ℕ} {ax : Fin 2} {st : Option (ℕ × Fin 2)} (x : (⟨2, ![136, 128]⟩ : Shape).Idx → EReal) (h : (⟨2, ![136, 128]⟩ : Shape).Rotates ax st)
    (hx : ax = 0) (hs : st = none) (ha : a + 4 < 136) (hb : b < 128) : rd2 (dynamicRotate ax 132#32 st x h) a b = rd2 x (a + 4) b := by
  subst hx; subst hs; exact rd2_rot _ x h 4 rfl ha hb

theorem rd2_rot1_144 {a b : ℕ} {ax : Fin 2} {st : Option (ℕ × Fin 2)} (x : (⟨2, ![144, 128]⟩ : Shape).Idx → EReal) (h : (⟨2, ![144, 128]⟩ : Shape).Rotates ax st)
    (hx : ax = 0) (hs : st = none) (ha : a + 1 < 144) (hb : b < 128) : rd2 (dynamicRotate ax 143#32 st x h) a b = rd2 x (a + 1) b := by
  subst hx; subst hs; exact rd2_rot _ x h 1 rfl ha hb

theorem rd2_rot2_144 {a b : ℕ} {ax : Fin 2} {st : Option (ℕ × Fin 2)} (x : (⟨2, ![144, 128]⟩ : Shape).Idx → EReal) (h : (⟨2, ![144, 128]⟩ : Shape).Rotates ax st)
    (hx : ax = 0) (hs : st = none) (ha : a + 2 < 144) (hb : b < 128) : rd2 (dynamicRotate ax 142#32 st x h) a b = rd2 x (a + 2) b := by
  subst hx; subst hs; exact rd2_rot _ x h 2 rfl ha hb

theorem rd2_rot4_144 {a b : ℕ} {ax : Fin 2} {st : Option (ℕ × Fin 2)} (x : (⟨2, ![144, 128]⟩ : Shape).Idx → EReal) (h : (⟨2, ![144, 128]⟩ : Shape).Rotates ax st)
    (hx : ax = 0) (hs : st = none) (ha : a + 4 < 144) (hb : b < 128) : rd2 (dynamicRotate ax 140#32 st x h) a b = rd2 x (a + 4) b := by
  subst hx; subst hs; exact rd2_rot _ x h 4 rfl ha hb

theorem rd2_rot8_144 {a b : ℕ} {ax : Fin 2} {st : Option (ℕ × Fin 2)} (x : (⟨2, ![144, 128]⟩ : Shape).Idx → EReal) (h : (⟨2, ![144, 128]⟩ : Shape).Rotates ax st)
    (hx : ax = 0) (hs : st = none) (ha : a + 8 < 144) (hb : b < 128) : rd2 (dynamicRotate ax 136#32 st x h) a b = rd2 x (a + 8) b := by
  subst hx; subst hs; exact rd2_rot _ x h 8 rfl ha hb

theorem cwE_top0 (s : ℕ) (hs : s < 8) (a : ℕ) (ha : a < 8) :
    (((cw (tile s) 0#32 1#32 a).toInt : ℝ) : EReal) = ((cnt 0 (1024 * s + a) : ℝ) : EReal) := by
  rw [cw_top0 s hs a ha, Int.cast_natCast]
theorem cwE_bot0 (s : ℕ) (hs : s < 8) (a : ℕ) (ha : a < 8) :
    (((cw (tileEnd s) 0#32 1#32 a).toInt : ℝ) : EReal) = ((cnt 0 (1024 * s + (1016 + a)) : ℝ) : EReal) := by
  rw [cw_bot0 s hs a ha, Int.cast_natCast]
theorem mid_two (x : EReal) : Ideal.div x (((2 ^ (0 + 1) : ℕ) : ℝ) : EReal) = x * FloatOps.ofBits (F := Ideal) .f32 0x3F000000#32 := by
  rw [show (((2 ^ (0 + 1) : ℕ) : ℝ)) = 2 by norm_num]
  exact div_two x

theorem cwE_top1 (s : ℕ) (hs : s < 8) (a : ℕ) (ha : a < 8) :
    (((cw (tile s) 1#32 2#32 a).toInt : ℝ) : EReal) = ((cnt 1 (1024 * s + a) : ℝ) : EReal) := by
  rw [cw_top1 s hs a ha, Int.cast_natCast]
theorem cwE_bot1 (s : ℕ) (hs : s < 8) (a : ℕ) (ha : a < 8) :
    (((cw (tileEnd s) 1#32 2#32 a).toInt : ℝ) : EReal) = ((cnt 1 (1024 * s + (1016 + a)) : ℝ) : EReal) := by
  rw [cw_bot1 s hs a ha, Int.cast_natCast]
theorem mid_four (x : EReal) : Ideal.div x (((2 ^ (1 + 1) : ℕ) : ℝ) : EReal) = x * FloatOps.ofBits (F := Ideal) .f32 0x3E800000#32 := by
  rw [show (((2 ^ (1 + 1) : ℕ) : ℝ)) = 4 by norm_num]
  exact div_four x

theorem cwE_top2 (s : ℕ) (hs : s < 8) (a : ℕ) (ha : a < 8) :
    (((cw (tile s) 3#32 4#32 a).toInt : ℝ) : EReal) = ((cnt 2 (1024 * s + a) : ℝ) : EReal) := by
  rw [cw_top2 s hs a ha, Int.cast_natCast]
theorem cwE_bot2 (s : ℕ) (hs : s < 8) (a : ℕ) (ha : a < 8) :
    (((cw (tileEnd s) 3#32 4#32 a).toInt : ℝ) : EReal) = ((cnt 2 (1024 * s + (1016 + a)) : ℝ) : EReal) := by
  rw [cw_bot2 s hs a ha, Int.cast_natCast]
theorem mid_eight (x : EReal) : Ideal.div x (((2 ^ (2 + 1) : ℕ) : ℝ) : EReal) = x * FloatOps.ofBits (F := Ideal) .f32 0x3E000000#32 := by
  rw [show (((2 ^ (2 + 1) : ℕ) : ℝ)) = 8 by norm_num]
  exact div_eight x

theorem cwE_top3 (s : ℕ) (hs : s < 8) (a : ℕ) (ha : a < 8) :
    (((cw (tile s) 7#32 8#32 a).toInt : ℝ) : EReal) = ((cnt 3 (1024 * s + a) : ℝ) : EReal) := by
  rw [cw_top3 s hs a ha, Int.cast_natCast]
theorem cwE_bot3 (s : ℕ) (hs : s < 8) (a : ℕ) (ha : a < 8) :
    (((cw (tileEnd s) 7#32 8#32 a).toInt : ℝ) : EReal) = ((cnt 3 (1024 * s + (1016 + a)) : ℝ) : EReal) := by
  rw [cw_bot3 s hs a ha, Int.cast_natCast]
theorem mid_sixteen (x : EReal) : Ideal.div x (((2 ^ (3 + 1) : ℕ) : ℝ) : EReal) = x * FloatOps.ofBits (F := Ideal) .f32 0x3D800000#32 := by
  rw [show (((2 ^ (3 + 1) : ℕ) : ℝ)) = 16 by norm_num]
  exact div_sixteen x

theorem dev_at (win : ℕ → ℕ → EReal) (P : ℕ) (H : ℕ → ℕ → EReal) (g p c : ℕ) (hc : c < 128) :
    dev win P H p (128 * g + c)
      = Ideal.div (tot win H g p (128 * g + c)) (((cnt g (P + p) : ℝ)) : EReal) - zc win H (p + 16) (128 * g + c) := by
  unfold dev
  rw [show (128 * g + c) / 128 = g by omega]

end Cert.Rd
-- ==== Proof.BlkPa.lean ====
module

public import proofs.«01_k».proof.Proof.BlkM
public import proofs.«01_k».proof.Proof.Tree

/-! The first two pooling groups of a block. -/

@[expose] public section
set_option maxRecDepth 16384
noncomputable section

namespace Cert.KernelIdeal.Blk
open Idealize.ShloMosaic Cert.KernelIdeal Cert.KernelIdeal.Gen Cert.Rd Cert.Spec

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (wp : Vec Ideal S1024x2048 .bf16)

theorem tot0 (a c : ℕ) (ha : a < 1024) (hc : c < 128) :
    rd2 (k0_pay39 (b_r_10 w1 x0 x1 x2 x4 x5 wp) (b_r_11 w1 x0 x1 x2 x4 x5 wp) (b_r_12 w1 x0 x1 x2 x4 x5 wp) (b_r_13 w1 x0 x1 x2 x4 x5 wp) (b_r_14 w1 x0 x1 x2 x4 x5 wp) (b_r_15 w1 x0 x1 x2 x4 x5 wp) (b_v176 w1 x0 x1 x2 x4 x5 wp) (b_v181 w1 x0 x1 x2 x4 x5 wp)) a c
      = tot (rd2 x5) (hb w1 x0 x1 x2 x4) 0 a (128 * 0 + c) := by
  unfold k0_pay39
  refine rd2_concat8 _ _ _ _ _ _ _ _ _ (fun a c => tot (rd2 x5) (hb w1 x0 x1 x2 x4) 0 a (128 * 0 + c)) ?_ ?_ ?_ ?_ ?_ ?_ ?_ ?_ ha hc
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (16 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (144 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (272 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (400 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (528 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (656 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (784 + n) (128 * 0 + q)) r).symm.trans ?_
    exact Finset.sum_congr rfl fun i _ => congrArg (zc (rd2 x5) (hb w1 x0 x1 x2 x4) · (128 * 0 + q)) (by omega)
  · intro r hr q hq
    simp (disch := first | omega | rfl) only [b_r_10, b_r_11, b_r_12, b_r_13, b_r_14, b_r_15, b_r_16, k0_pay33, k0_pay34, k0_pay35, k0_pay36, k0_pay37, k0_pay38, k0_pay40, b_v146, b_v151, b_v156, b_v161, b_v166, b_v171, b_v176, b_v181, b_v187, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum2 (fun n => zc (rd2 x5) (hb w1 x0 x1 x2 x4) (912 + n) (128 * 0 + q)) r).symm.trans ?_
    exact Finset.sum_congr rfl fun i _ => congrArg (zc (rd2 x5) (hb w1 x0 x1 x2 x4) · (128 * 0 + q)) (by omega)

theorem dev0 (s a c : ℕ) (hs : s < 8) (ha : a < 1024) (hc : c < 128) :
    rd2 (b_r_20 (BitVec.ofNat 32 s) x0 x1 x2 x4 x5 wp) a c = dev (rd2 x5) (1024 * s) (hb (BitVec.ofNat 32 s) x0 x1 x2 x4) a (128 * 0 + c) := by
  unfold b_r_20 k0_pay44
  rw [rd2_concat3 _ _ _ _ ha hc, dev_at _ _ _ _ _ _ hc]
  split_ifs with h1 h2
  · simp (disch := first | omega | rfl) only [b_r_17, b_r_18, b_r_19, b_r_16, k0_pay40, k0_pay41, k0_pay42, k0_pay43, b_v145, tot0, b_v187, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_top0 s hs a h1)) (by rw [Nat.add_comm a 16])
  · obtain ⟨b, rfl⟩ := Nat.exists_eq_add_of_le (Nat.le_of_not_lt h1)
    rw [Nat.add_sub_cancel_left, cnt_mid _ _ _ (by omega) hs (by omega) h2]
    simp (disch := first | omega | rfl) only [b_r_17, b_r_18, b_r_19, b_r_16, k0_pay40, k0_pay41, k0_pay42, k0_pay43, b_v145, tot0, b_v187, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (mid_two _).symm (by congr 1; omega)
  · obtain ⟨b, rfl⟩ := Nat.exists_eq_add_of_le (Nat.le_of_not_lt h2)
    rw [Nat.add_sub_cancel_left]
    simp (disch := first | omega | rfl) only [b_r_17, b_r_18, b_r_19, b_r_16, k0_pay40, k0_pay41, k0_pay42, k0_pay43, b_v145, tot0, b_v187, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_bot0 s hs b (by omega))) (by congr 1; omega)

theorem tot1 (a c : ℕ) (ha : a < 1024) (hc : c < 128) :
    rd2 (k0_pay54 (b_r_21 w1 x0 x1 x2 x4 x5 wp) (b_r_22 w1 x0 x1 x2 x4 x5 wp) (b_r_24 w1 x0 x1 x2 x4 x5 wp) (b_r_25 w1 x0 x1 x2 x4 x5 wp) (b_r_26 w1 x0 x1 x2 x4 x5 wp) (b_r_27 w1 x0 x1 x2 x4 x5 wp) (b_r_28 w1 x0 x1 x2 x4 x5 wp) (b_r_29 w1 x0 x1 x2 x4 x5 wp) 134#32) a c
      = tot (rd2 x5) (hb w1 x0 x1 x2 x4) 1 a (128 * 1 + c) := by
  unfold k0_pay54
  refine rd2_concat8 _ _ _ _ _ _ _ _ _ (fun a c => tot (rd2 x5) (hb w1 x0 x1 x2 x4) 1 a (128 * 1 + c)) ?_ ?_ ?_ ?_ ?_ ?_ ?_ ?_ ha hc
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (15 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (143 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (271 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (399 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (527 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (655 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (783 + n) (128 * 1 + q)) r).symm.trans ?_
    exact Finset.sum_congr rfl fun i _ => congrArg (zc (rd2 x5) (hb w1 x0 x1 x2 x4) · (128 * 1 + q)) (by omega)
  · intro r hr q hq
    simp (disch := first | omega | rfl) only [b_r_21, b_r_22, b_r_23, b_r_24, b_r_25, b_r_26, b_r_27, b_r_28, b_r_29, b_r_30, k0_pay45, k0_pay46, k0_pay47, k0_pay48, k0_pay49, k0_pay50, k0_pay51, k0_pay52, k0_pay53, k0_pay55, b_v235, b_v242, b_v249, b_v256, b_v263, b_v270, b_v277, b_v284, b_v292, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum4 (fun n => zc (rd2 x5) (hb w1 x0 x1 x2 x4) (911 + n) (128 * 1 + q)) r).symm.trans ?_
    exact Finset.sum_congr rfl fun i _ => congrArg (zc (rd2 x5) (hb w1 x0 x1 x2 x4) · (128 * 1 + q)) (by omega)

theorem dev1 (s a c : ℕ) (hs : s < 8) (ha : a < 1024) (hc : c < 128) :
    rd2 (b_r_36 (BitVec.ofNat 32 s) x0 x1 x2 x4 x5 wp) a c = dev (rd2 x5) (1024 * s) (hb (BitVec.ofNat 32 s) x0 x1 x2 x4) a (128 * 1 + c) := by
  unfold b_r_36 k0_pay62
  rw [rd2_concat3 _ _ _ _ ha hc, dev_at _ _ _ _ _ _ hc]
  split_ifs with h1 h2
  · simp (disch := first | omega | rfl) only [b_r_31, b_r_32, b_r_33, b_r_30, b_r_34, b_r_35, k0_pay55, k0_pay56, k0_pay57, k0_pay58, k0_pay59, k0_pay60, k0_pay61, b_v145, tot1, b_v292, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_top1 s hs a h1)) (by rw [Nat.add_comm a 16])
  · obtain ⟨b, rfl⟩ := Nat.exists_eq_add_of_le (Nat.le_of_not_lt h1)
    rw [Nat.add_sub_cancel_left, cnt_mid _ _ _ (by omega) hs (by omega) h2]
    simp (disch := first | omega | rfl) only [b_r_31, b_r_32, b_r_33, b_r_30, b_r_34, b_r_35, k0_pay55, k0_pay56, k0_pay57, k0_pay58, k0_pay59, k0_pay60, k0_pay61, b_v145, tot1, b_v292, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (mid_four _).symm (by congr 1; omega)
  · obtain ⟨b, rfl⟩ := Nat.exists_eq_add_of_le (Nat.le_of_not_lt h2)
    rw [Nat.add_sub_cancel_left]
    simp (disch := first | omega | rfl) only [b_r_31, b_r_32, b_r_33, b_r_30, b_r_34, b_r_35, k0_pay55, k0_pay56, k0_pay57, k0_pay58, k0_pay59, k0_pay60, k0_pay61, b_v145, tot1, b_v292, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_bot1 s hs b (by omega))) (by congr 1; omega)

end Cert.KernelIdeal.Blk
-- ==== Proof.BlkPb.lean ====
module

public import proofs.«01_k».proof.Proof.BlkM
public import proofs.«01_k».proof.Proof.Tree

/-! The third pooling group of a block. -/

@[expose] public section
set_option maxRecDepth 16384
noncomputable section

namespace Cert.KernelIdeal.Blk
open Idealize.ShloMosaic Cert.KernelIdeal Cert.KernelIdeal.Gen Cert.Rd Cert.Spec

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (wp : Vec Ideal S1024x2048 .bf16)

theorem tot2 (a c : ℕ) (ha : a < 1024) (hc : c < 128) :
    rd2 (k0_pay74 (b_r_37 w1 x0 x1 x2 x4 x5 wp) (b_r_38 w1 x0 x1 x2 x4 x5 wp) (b_r_39 w1 x0 x1 x2 x4 x5 wp) (b_r_42 w1 x0 x1 x2 x4 x5 wp) (b_r_43 w1 x0 x1 x2 x4 x5 wp) (b_r_44 w1 x0 x1 x2 x4 x5 wp) (b_r_45 w1 x0 x1 x2 x4 x5 wp) (b_r_46 w1 x0 x1 x2 x4 x5 wp) (b_r_47 w1 x0 x1 x2 x4 x5 wp)) a c
      = tot (rd2 x5) (hb w1 x0 x1 x2 x4) 2 a (128 * 2 + c) := by
  unfold k0_pay74
  refine rd2_concat8 _ _ _ _ _ _ _ _ _ (fun a c => tot (rd2 x5) (hb w1 x0 x1 x2 x4) 2 a (128 * 2 + c)) ?_ ?_ ?_ ?_ ?_ ?_ ?_ ?_ ha hc
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (13 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (141 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (269 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (397 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (525 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (653 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (781 + n) (128 * 2 + q)) r).symm.trans ?_
    exact Finset.sum_congr rfl fun i _ => congrArg (zc (rd2 x5) (hb w1 x0 x1 x2 x4) · (128 * 2 + q)) (by omega)
  · intro r hr q hq
    simp (disch := first | omega | rfl) only [b_r_37, b_r_38, b_r_39, b_r_40, b_r_41, b_r_42, b_r_43, b_r_44, b_r_45, b_r_46, b_r_47, b_r_48, k0_pay63, k0_pay64, k0_pay65, k0_pay66, k0_pay67, k0_pay68, k0_pay69, k0_pay70, k0_pay71, k0_pay72, k0_pay73, k0_pay75, b_v340, b_v349, b_v358, b_v367, b_v376, b_v385, b_v394, b_v403, b_v413, rd2_cast, rd2_cast_same, rd2_slice, rd2_addf, rd2_subf, rd2_mulf, rd2_divf, rd3_ld_f32, rd2_broadcast, Nat.zero_add, rd2_rot1_136, rd2_rot2_136, rd2_rot4_136]
    simp (disch := first | omega | rfl) only [val_group]
    refine (sum8 (fun n => zc (rd2 x5) (hb w1 x0 x1 x2 x4) (909 + n) (128 * 2 + q)) r).symm.trans ?_
    exact Finset.sum_congr rfl fun i _ => congrArg (zc (rd2 x5) (hb w1 x0 x1 x2 x4) · (128 * 2 + q)) (by omega)

theorem dev2 (s a c : ℕ) (hs : s < 8) (ha : a < 1024) (hc : c < 128) :
    rd2 (b_r_54 (BitVec.ofNat 32 s) x0 x1 x2 x4 x5 wp) a c = dev (rd2 x5) (1024 * s) (hb (BitVec.ofNat 32 s) x0 x1 x2 x4) a (128 * 2 + c) := by
  unfold b_r_54 k0_pay82
  rw [rd2_concat3 _ _ _ _ ha hc, dev_at _ _ _ _ _ _ hc]
  split_ifs with h1 h2
  · simp (disch := first | omega | rfl) only [b_r_49, b_r_50, b_r_51, b_r_48, b_r_52, b_r_53, k0_pay75, k0_pay76, k0_pay77, k0_pay78, k0_pay79, k0_pay80, k0_pay81, b_v145, tot2, b_v413, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_top2 s hs a h1)) (by rw [Nat.add_comm a 16])
  · obtain ⟨b, rfl⟩ := Nat.exists_eq_add_of_le (Nat.le_of_not_lt h1)
    rw [Nat.add_sub_cancel_left, cnt_mid _ _ _ (by omega) hs (by omega) h2]
    simp (disch := first | omega | rfl) only [b_r_49, b_r_50, b_r_51, b_r_48, b_r_52, b_r_53, k0_pay75, k0_pay76, k0_pay77, k0_pay78, k0_pay79, k0_pay80, k0_pay81, b_v145, tot2, b_v413, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (mid_eight _).symm (by congr 1; omega)
  · obtain ⟨b, rfl⟩ := Nat.exists_eq_add_of_le (Nat.le_of_not_lt h2)
    rw [Nat.add_sub_cancel_left]
    simp (disch := first | omega | rfl) only [b_r_49, b_r_50, b_r_51, b_r_48, b_r_52, b_r_53, k0_pay75, k0_pay76, k0_pay77, k0_pay78, k0_pay79, k0_pay80, k0_pay81, b_v145, tot2, b_v413, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_bot2 s hs b (by omega))) (by congr 1; omega)

end Cert.KernelIdeal.Blk
-- ==== Proof.BlkPc.lean ====
module

public import proofs.«01_k».proof.Proof.BlkPa
public import proofs.«01_k».proof.Proof.BlkPb

/-! The fourth pooling group of a block, and the four side by side. -/

@[expose] public section
set_option maxRecDepth 16384
noncomputable section

namespace Cert.KernelIdeal.Blk
open Idealize.ShloMosaic Cert.KernelIdeal Cert.KernelIdeal.Gen Cert.Rd Cert.Spec

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (wp : Vec Ideal S1024x2048 .bf16)

theorem tot3 (a c : ℕ) (ha : a < 1024) (hc : c < 128) :
    rd2 (k0_pay90 (b_r_55 w1 x0 x1 x2 x4 x5 wp) (b_r_56 w1 x0 x1 x2 x4 x5 wp) (b_r_58 w1 x0 x1 x2 x4 x5 wp) (b_r_59 w1 x0 x1 x2 x4 x5 wp) (b_r_60 w1 x0 x1 x2 x4 x5 wp) (b_r_61 w1 x0 x1 x2 x4 x5 wp) (b_v527 w1 x0 x1 x2 x4 x5 wp) (b_v538 w1 x0 x1 x2 x4 x5 wp)) a c
      = tot (rd2 x5) (hb w1 x0 x1 x2 x4) 3 a (128 * 3 + c) := by
  unfold k0_pay90
  refine rd2_concat8 _ _ _ _ _ _ _ _ _ (fun a c => tot (rd2 x5) (hb w1 x0 x1 x2 x4) 3 a (128 * 3 + c)) ?_ ?_ ?_ ?_ ?_ ?_ ?_ ?_ ha hc
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (9 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (137 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (265 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (393 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (521 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (649 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (777 + n) (128 * 3 + q)) r).symm.trans ?_
    exact Finset.sum_congr rfl fun i _ => congrArg (zc (rd2 x5) (hb w1 x0 x1 x2 x4) · (128 * 3 + q)) (by omega)
  · intro r hr q hq
    simp (disch := first | omega | rfl) only [b_r_55, b_r_56, b_r_57, b_r_58, b_r_59, b_r_60, b_r_61, b_r_63, k0_pay83, k0_pay84, k0_pay85, k0_pay86, k0_pay87, k0_pay88, k0_pay89, k0_pay91, b_v461, b_v472, b_v483, b_v494, b_v505, b_v516, b_v527, b_v538, b_v550, rd2_cast, rd2_cast_same, rd2_slice, rd2_addf, rd2_subf, rd2_mulf, rd2_divf, rd3_ld_f32, rd2_broadcast, Nat.zero_add, rd2_rot1_144, rd2_rot2_144, rd2_rot4_144, rd2_rot8_144]
    simp (disch := first | omega | rfl) only [val_group]
    refine (sum16 (fun n => zc (rd2 x5) (hb w1 x0 x1 x2 x4) (905 + n) (128 * 3 + q)) r).symm.trans ?_
    exact Finset.sum_congr rfl fun i _ => congrArg (zc (rd2 x5) (hb w1 x0 x1 x2 x4) · (128 * 3 + q)) (by omega)

theorem tot3_r (a c : ℕ) (ha : a < 1024) (hc : c < 128) :
    rd2 (b_r_62 w1 x0 x1 x2 x4 x5 wp) a c = tot (rd2 x5) (hb w1 x0 x1 x2 x4) 3 a (128 * 3 + c) := by
  unfold b_r_62
  exact tot3 w1 x0 x1 x2 x4 x5 wp a c ha hc

theorem tot3_top (a c : ℕ) (ha : a < 8) (hc : c < 128) :
    rd2 (b_r_64 w1 x0 x1 x2 x4 x5 wp) a c = tot (rd2 x5) (hb w1 x0 x1 x2 x4) 3 a (128 * 3 + c) := by
  simp (disch := first | omega | rfl) only [b_r_64, k0_pay92, tot3, rd2_slice, Nat.zero_add]

theorem devs (s a c : ℕ) (hs : s < 8) (ha : a < 1024) (hc : c < 512) :
    rd2 (k0_pay96 (b_v145 (BitVec.ofNat 32 s)) (b_r_20 (BitVec.ofNat 32 s) x0 x1 x2 x4 x5 wp) (b_r_36 (BitVec.ofNat 32 s) x0 x1 x2 x4 x5 wp) (b_r_54 (BitVec.ofNat 32 s) x0 x1 x2 x4 x5 wp) (b_r_62 (BitVec.ofNat 32 s) x0 x1 x2 x4 x5 wp) (b_r_63 (BitVec.ofNat 32 s) x0 x1 x2 x4 x5 wp) (b_r_64 (BitVec.ofNat 32 s) x0 x1 x2 x4 x5 wp) (b_r_65 (BitVec.ofNat 32 s)) (b_r_66 (BitVec.ofNat 32 s)) (8192#32)) a c
      = dev (rd2 x5) (1024 * s) (hb (BitVec.ofNat 32 s) x0 x1 x2 x4) a c := by
  unfold k0_pay96
  simp (disch := first | omega | rfl) only [rd2_truncf]
  rw [rd2_concat4 _ _ _ _ _ ha hc]
  split_ifs with c1 c2 c3
  · refine (dev0 x0 x1 x2 x4 x5 wp s a c hs ha c1).trans ?_
    congr 1; omega
  · refine (dev1 x0 x1 x2 x4 x5 wp s a (c - 128) hs ha (by omega)).trans ?_
    congr 1; omega
  · refine (dev2 x0 x1 x2 x4 x5 wp s a (c - 256) hs ha (by omega)).trans ?_
    congr 1; omega
  obtain ⟨c, rfl⟩ := Nat.exists_eq_add_of_le (Nat.le_of_not_lt c3)
  rw [Nat.add_sub_cancel_left]
  have hc' : c < 128 := by omega
  rw [rd2_concat3 _ _ _ _ ha hc', show 384 + c = 128 * 3 + c from rfl, dev_at _ _ _ _ _ _ hc']
  split_ifs with h1 h2
  · simp (disch := first | omega | rfl) only [tot3_top, b_r_63, b_r_65, b_r_66, k0_pay91, k0_pay93, k0_pay94, k0_pay95, b_v145, b_v550, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_top3 s hs a h1)) (by rw [Nat.add_comm a 16])
  · obtain ⟨b, rfl⟩ := Nat.exists_eq_add_of_le (Nat.le_of_not_lt h1)
    rw [Nat.add_sub_cancel_left, cnt_mid _ _ _ (by omega) hs (by omega) h2]
    simp (disch := first | omega | rfl) only [tot3_r, b_r_63, k0_pay91, b_v550, val_group, rd2_cast, rd2_cast_same, rd2_slice, rd2_addf, rd2_subf, rd2_mulf, rd2_divf, rd3_ld_f32, rd2_broadcast, Nat.zero_add]
    exact congrArg₂ (· - ·) (mid_sixteen _).symm (by congr 1; omega)
  · obtain ⟨b, rfl⟩ := Nat.exists_eq_add_of_le (Nat.le_of_not_lt h2)
    rw [Nat.add_sub_cancel_left]
    simp (disch := first | omega | rfl) only [tot3_r, b_r_63, k0_pay91, b_v145, b_v550, val_group, rd2_cast, rd2_cast_same, rd2_slice, rd2_addf, rd2_subf, rd2_mulf, rd2_divf, rd3_ld_f32, rd2_broadcast, Nat.zero_add, rd2_sitofp, iv_addi, iv_subi, iv_maxsi, iv_minsi, iv_broadcast, iv_iota]
    exact congrArg₂ (· - ·) (congrArg (Ideal.div _) (cwE_bot3 s hs b (by omega))) (by congr 1; omega)

end Cert.KernelIdeal.Blk
-- ==== Proof.BlkCa.lean ====
module

public import proofs.«01_k».proof.Proof.BlkM
public import proofs.«01_k».proof.Proof.Tree

/-! The short convolution of a block: three taps on the gated inputs. -/

@[expose] public section
set_option maxRecDepth 16384
noncomputable section

namespace Cert.KernelIdeal.Blk
open Idealize.ShloMosaic Cert.KernelIdeal Cert.KernelIdeal.Gen Cert.Rd Cert.Spec

/-- The three taps about position `p`. -/
def conv (win H t : ℕ → ℕ → EReal) (p j : ℕ) : EReal :=
  cu win H (p + 15) j * t 0 j + cu win H (p + 16) j * t 1 j + cu win H (p + 17) j * t 2 j

theorem conv_pos (win H t : ℕ → ℕ → EReal) (p j n0 n1 n2 c0 c1 c2 d0 d1 d2 : ℕ) (h0 : n0 = p + 15) (h1 : n1 = p + 16)
    (h2 : n2 = p + 17) (hc0 : c0 = j) (hc1 : c1 = j) (hc2 : c2 = j) (hd0 : d0 = j) (hd1 : d1 = j) (hd2 : d2 = j) :
    cu win H n0 c0 * t 0 d0 + cu win H n1 c1 * t 1 d1 + cu win H n2 c2 * t 2 d2 = conv win H t p j := by
  rw [h0, h1, h2, hc0, hc1, hc2, hd0, hd1, hd2]
  rfl

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (x8 : Vec Ideal S3x512 .f32) (wp : Vec Ideal S1024x2048 .bf16)
variable (hwp : ∀ k < 1024, ∀ c < 2048, rd2 wp k c = rd2 x5 k (wcol c))
include hwp

theorem cu_at0 (n c : ℕ) (hn : n < 1056) (hc : c < 128) :
    rd3 (bM w1 x0 x1 x2 x4 x5 wp) 4 n c = cu (rd2 x5) (hb w1 x0 x1 x2 x4) n (128 * 0 + c) :=
  cu_group w1 x0 x1 x2 x4 x5 wp hwp 0 n c (by omega) hn hc

theorem cu_at1 (n c : ℕ) (hn : n < 1056) (hc : c < 128) :
    rd3 (bM w1 x0 x1 x2 x4 x5 wp) 5 n c = cu (rd2 x5) (hb w1 x0 x1 x2 x4) n (128 * 1 + c) :=
  cu_group w1 x0 x1 x2 x4 x5 wp hwp 1 n c (by omega) hn hc

theorem cu_at2 (n c : ℕ) (hn : n < 1056) (hc : c < 128) :
    rd3 (bM w1 x0 x1 x2 x4 x5 wp) 6 n c = cu (rd2 x5) (hb w1 x0 x1 x2 x4) n (128 * 2 + c) :=
  cu_group w1 x0 x1 x2 x4 x5 wp hwp 2 n c (by omega) hn hc

theorem cu_at3 (n c : ℕ) (hn : n < 1056) (hc : c < 128) :
    rd3 (bM w1 x0 x1 x2 x4 x5 wp) 7 n c = cu (rd2 x5) (hb w1 x0 x1 x2 x4) n (128 * 3 + c) :=
  cu_group w1 x0 x1 x2 x4 x5 wp hwp 3 n c (by omega) hn hc

theorem conv0 (a c : ℕ) (ha : a < 1024) (hc : c < 128) :
    rd2 (b_r_84 w1 x0 x1 x2 x4 x5 x8 wp) a c = conv (rd2 x5) (hb w1 x0 x1 x2 x4) (rd2 x8) a (128 * 0 + c) := by
  unfold b_r_84 k0_pay115
  refine rd2_concat8 _ _ _ _ _ _ _ _ _ (fun a c => conv (rd2 x5) (hb w1 x0 x1 x2 x4) (rd2 x8) a (128 * 0 + c)) ?_ ?_ ?_ ?_ ?_ ?_ ?_ ?_ ha hc
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_70, b_r_71, b_r_72, b_r_73, b_r_74, b_r_75, b_r_76, b_r_77, b_r_78, b_r_79, b_r_80, b_r_81, b_r_82, b_r_83, k0_pay100, k0_pay101, k0_pay102, k0_pay103, k0_pay104, k0_pay105, k0_pay106, k0_pay107, k0_pay108, k0_pay109, k0_pay110, k0_pay111, k0_pay112, k0_pay113, k0_pay114, b_v616, b_v629, b_v642, b_v655, b_v668, b_v681, b_v694, b_v707, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at0 (hwp := hwp)]
    exact conv_pos _ _ _ _ _ _ _ _ _ _ _ _ _ _ (by omega) (by omega) (by omega) (by omega) (by omega) (by omega) (by omega) (by omega) (by omega)

end Cert.KernelIdeal.Blk
-- ==== Proof.BlkCb.lean ====
module

public import proofs.«01_k».proof.Proof.BlkM
public import proofs.«01_k».proof.Proof.BlkCa

/-! The short convolution of a block: three taps on the gated inputs. -/

@[expose] public section
set_option maxRecDepth 16384
noncomputable section

namespace Cert.KernelIdeal.Blk
open Idealize.ShloMosaic Cert.KernelIdeal Cert.KernelIdeal.Gen Cert.Rd Cert.Spec

variable (w1 : BitVec 32) (x0 : Vec Ideal S1x16x1024 .f32) (x1 : Vec Ideal S1x1024x1024 .f32) (x2 : Vec Ideal S1x16x1024 .f32)
    (x4 : Vec Ideal S1x1024 .f32) (x5 : Vec Ideal S1024x3072 .bf16) (x8 : Vec Ideal S3x512 .f32) (wp : Vec Ideal S1024x2048 .bf16)
variable (hwp : ∀ k < 1024, ∀ c < 2048, rd2 wp k c = rd2 x5 k (wcol c))
include hwp

theorem conv1 (a c : ℕ) (ha : a < 1024) (hc : c < 128) :
    rd2 (b_r_101 w1 x0 x1 x2 x4 x5 x8 wp) a c = conv (rd2 x5) (hb w1 x0 x1 x2 x4) (rd2 x8) a (128 * 1 + c) := by
  unfold b_r_101 k0_pay133
  refine rd2_concat8 _ _ _ _ _ _ _ _ _ (fun a c => conv (rd2 x5) (hb w1 x0 x1 x2 x4) (rd2 x8) a (128 * 1 + c)) ?_ ?_ ?_ ?_ ?_ ?_ ?_ ?_ ha hc
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_85, b_r_86, b_r_87, b_r_88, b_r_89, b_r_90, b_r_91, b_r_92, b_r_93, b_r_94, b_r_95, b_r_96, b_r_97, b_r_98, b_r_99, b_r_100, k0_pay116, k0_pay117, k0_pay118, k0_pay119, k0_pay120, k0_pay121, k0_pay122, k0_pay123, k0_pay124, k0_pay125, k0_pay126, k0_pay127, k0_pay128, k0_pay129, k0_pay130, k0_pay131, k0_pay132, b_v727, b_v740, b_v753, b_v766, b_v779, b_v792, b_v805, b_v818, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at1 (hwp := hwp)]
    exact conv_pos _ _ _ _ _ _ _ _ _ _ _ _ _ _ (by omega) (by omega) (by omega) (by omega) (by omega) (by omega) (by omega) (by omega) (by omega)

theorem conv2 (a c : ℕ) (ha : a < 1024) (hc : c < 128) :
    rd2 (b_r_112 w1 x0 x1 x2 x4 x5 x8 wp) a c = conv (rd2 x5) (hb w1 x0 x1 x2 x4) (rd2 x8) a (128 * 2 + c) := by
  unfold b_r_112 k0_pay145
  refine rd2_concat8 _ _ _ _ _ _ _ _ _ (fun a c => conv (rd2 x5) (hb w1 x0 x1 x2 x4) (rd2 x8) a (128 * 2 + c)) ?_ ?_ ?_ ?_ ?_ ?_ ?_ ?_ ha hc
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)
  · intro r hr q hq
    simp (disch := first | omega | rfl) only [b_r_102, b_r_103, b_r_104, b_r_105, b_r_106, b_r_107, b_r_108, b_r_109, b_r_110, b_r_111, k0_pay134, k0_pay135, k0_pay136, k0_pay137, k0_pay138, k0_pay139, k0_pay140, k0_pay141, k0_pay142, k0_pay143, k0_pay144, b_v838, b_v851, b_v864, b_v877, b_v890, b_v903, b_v916, b_v929, rd2_cast, rd2_cast_same, rd2_slice, rd2_addf, rd2_mulf, rd3_ld_f32, rd2_ld_f32, rd2_bcast_row, Nat.zero_add, Nat.add_zero, rd2_rot1_136, rd2_rot2_136]
    simp (disch := first | omega | assumption) only [cu_at2 (hwp := hwp)]
    exact conv_pos _ _ _ _ _ _ _ _ _ _ _ _ _ _ (by omega) (by omega) (by omega) (by omega) (by omega) (by omega) (by omega) (by omega) (by omega)

end Cert.KernelIdeal.Blk
-- ==== Proof.BlkO.lean ====
module

public import proofs.«01_k».proof.Proof.BlkPc
public import proofs.«01_k».proof.Proof.BlkCb

/-! What one block computes: the layer on its own rows. -/

@[expose] public section
set_option maxRecDepth 16384
noncomputable section

namespace Cert.KernelIdeal.Blk
open Idealize.ShloMosaic Cert.KernelIdeal Cert.KernelIdeal.Gen Cert.Rd Cert.Spec

/-- The weights as the block holds them. -/
def wts (x4 : Vec Ideal S1x1024 .f32) (x5 : Vec Ideal S1024x3072 .bf16) (x6 : Vec Ideal S2x256x256 .bf16)
    (x7 : Vec Ideal S1x512 .f32) (x8 : Vec Ideal S3x512 .f32) (x9 : Vec Ideal S1024x1024 .bf16) (x10 : Vec Ideal S1x1024 .f32)
    (x11 : Vec Ideal S256x1024 .bf16) (x12 : Vec Ideal S1024x1024 .bf16) (x13 : Vec Ideal S1x1024 .f32) : Wts where
  gpre := rd2 x4 0
  win := rd2 x5
  wpool g i o := if i < 128 ∧ o < 128 then rd3 x6 (g / 2) (128 * (g % 2) + i) (128 * (g % 2) + o) else 0
  psc := rd2 x7 0
  cw := rd2 x8
  wout := rd2 x9
  gpost := rd2 x10 0
  wple := rd2 x11
  wgate := rd2 x12
  gple := rd2 x13 0

theorem at_eq (f : ℕ → ℕ → ℕ → EReal) {a b c a' b' c' : ℕ} (h1 : a = a') (h2 : b = b') (h3 : c = c') : f a b c = f a' b' c' := by
  rw [h1, h2, h3]

/-- A product with a pair of groups side by side only meets the group its column lies in. -/
theorem pair_sum (f : ℕ → EReal) (w : ℕ → ℕ → EReal) (o : ℕ) (ho : o < 256)
    (h0 : ∀ i < 256, i / 128 ≠ o / 128 → w i o = 0) :
    ∑ k : Fin 256, f k * w k o = ∑ i : Fin 128, f (128 * (o / 128) + i) * w (128 * (o / 128) + i) o := by
  rw [show (∑ k : Fin 256, f k * w k o) = (∑ k : Fin 128, f k * w k o) + ∑ k : Fin 128, f (128 + k) * w (128 + k) o from
    Fin.sum_univ_add (a := 128) (b := 128) (fun k : Fin (128 + 128) => f k * w k o)]
  rcases Nat.lt_or_ge o 128 with h | h
  · rw [Finset.sum_eq_zero (s := Finset.univ) (f := fun k : Fin 128 => f (128 + k) * w (128 + k) o)
      (fun k _ => by rw [h0 (128 + k) (by omega) (by omega), mul_zero]), add_zero]
    exact Finset.sum_congr rfl fun k _ => by rw [show 128 * (o / 128) + (k : ℕ) = k by omega]
  · rw [Finset.sum_eq_zero (s := Finset.univ) (f := fun k : Fin 128 => f k * w k o)
      (fun k _ => by rw [h0 k (by omega) (by omega), mul_zero]), zero_add]
    exact Finset.sum_congr rfl fun k _ => by rw [show 128 * (o / 128) + (k : ℕ) = 128 + k by omega]

variable (w1 : BitVec 32) (x0 : Vec Ideal S1x16x1024 .f32) (x1 : Vec Ideal S1x1024x1024 .f32) (x2 : Vec Ideal S1x16x1024 .f32)
    (x3 : Vec Ideal S1x1024x256 .f32) (x4 : Vec Ideal S1x1024 .f32) (x5 : Vec Ideal S1024x3072 .bf16) (x6 : Vec Ideal S2x256x256 .bf16)
    (x7 : Vec Ideal S1x512 .f32) (x8 : Vec Ideal S3x512 .f32) (x9 : Vec Ideal S1024x1024 .bf16) (x10 : Vec Ideal S1x1024 .f32)
    (x11 : Vec Ideal S256x1024 .bf16) (x12 : Vec Ideal S1024x1024 .bf16) (x13 : Vec Ideal S1x1024 .f32) (wp : Vec Ideal S1024x2048 .bf16)

theorem gate_a (a c : ℕ) (ha : a < 1024) (hc : c < 512) :
    rd2 (b_r_6 w1 x0 x1 x2 x4 x5 x7) a c
      = rd2 x7 0 c * (zc (rd2 x5) (hb w1 x0 x1 x2 x4) (a + 16) (512 + c) * Ideal.logistic (zc (rd2 x5) (hb w1 x0 x1 x2 x4) (a + 16) (512 + c))) := by
  simp (disch := first | omega | rfl) only [b_r_6, k0_pay30, dot_mid_512, rd2_matmul, rd2_mulf, rd2_logistic, rd2_bcast_row, rd2_cast_same,
    rd2_ld_f32, rd2_ld_bf16, mid_eq, Nat.zero_add, zc]

variable (hwp : ∀ k < 1024, ∀ c < 2048, rd2 wp k c = rd2 x5 k (wcol c))
variable (hx6 : ∀ q < 2, ∀ i < 256, ∀ o < 256, i / 128 ≠ o / 128 → rd3 x6 q i o = 0)

include hwp in
theorem gate_b (a c : ℕ) (ha : a < 1024) (hc : c < 512) :
    rd2 (b_r_9 w1 x0 x1 x2 x4 wp) a c
      = zc (rd2 x5) (hb w1 x0 x1 x2 x4) (a + 16) (1536 + c) * (zc (rd2 x5) (hb w1 x0 x1 x2 x4) (a + 16) (2560 + c) * Ideal.logistic (zc (rd2 x5) (hb w1 x0 x1 x2 x4) (a + 16) (2560 + c))) := by
  unfold b_r_9 k0_pay32
  refine (rd2_concat2 _ _ _ ha hc).trans ?_
  split_ifs with h
  · simp (disch := first | omega | rfl) only [b_r_7, k0_pay31, dot_mid_512, rd2_matmul, rd2_mulf, rd2_logistic, rd2_slice,
      rd2_ld_bf16, mid_eq, hwp, Nat.zero_add, zc]
    simp (disch := omega) only [wcol, if_pos, if_neg, ← Nat.add_assoc, Nat.reduceAdd]
  · obtain ⟨c, rfl⟩ := Nat.exists_eq_add_of_le (Nat.le_of_not_lt h)
    rw [Nat.add_sub_cancel_left]
    simp (disch := first | omega | rfl) only [b_r_8, dot_mid_512, rd2_matmul, rd2_mulf, rd2_logistic, rd2_slice,
      rd2_ld_bf16, mid_eq, hwp, Nat.zero_add, zc]
    simp (disch := omega) only [wcol, if_pos, if_neg, ← Nat.add_assoc, Nat.reduceAdd]

variable (s : ℕ) (hs : s < 8)
include hs

include hx6 in
theorem ya_val (a c : ℕ) (ha : a < 1024) (hc : c < 512) :
    rd2 (b_r_69 (BitVec.ofNat 32 s) x0 x1 x2 x4 x5 x6 x7 wp) a c
      = ya (wts x4 x5 x6 x7 x8 x9 x10 x11 x12 x13) (1024 * s) (hb (BitVec.ofNat 32 s) x0 x1 x2 x4) a c := by
  unfold b_r_69 k0_pay99
  rw [rd2_mulf _ _ ha hc, gate_a _ _ _ _ _ _ _ _ _ ha hc]
  refine congrArg₂ (· * ·) ((rd2_concat2 _ _ _ ha hc).trans ?_) rfl
  split_ifs with h
  · simp (disch := first | omega | rfl | assumption) only [b_r_67, k0_pay97, dot_pair, rd2_matmul, rd2_slice, rd2_cast, rd3_ld_bf16, devs, Nat.zero_add, Nat.add_zero]
    refine (pair_sum (fun k => dev (rd2 x5) (1024 * s) (hb (BitVec.ofNat 32 s) x0 x1 x2 x4) a k) (fun k o => rd3 x6 0 k o) c h
      (fun i hi hne => hx6 0 (by omega) i hi c h hne)).trans (Finset.sum_congr rfl fun i _ => ?_)
    exact congrArg₂ (· * ·) rfl ((at_eq _ (by omega) (by omega) (by omega)).trans (if_pos ⟨i.isLt, Nat.mod_lt _ (by norm_num)⟩).symm)
  · obtain ⟨c, rfl⟩ := Nat.exists_eq_add_of_le (Nat.le_of_not_lt h)
    rw [Nat.add_sub_cancel_left]
    simp (disch := first | omega | rfl | assumption) only [b_r_68, k0_pay98, dot_pair, rd2_matmul, rd2_slice, rd2_cast, rd3_ld_bf16, devs, Nat.zero_add, Nat.add_zero]
    refine (pair_sum (fun k => dev (rd2 x5) (1024 * s) (hb (BitVec.ofNat 32 s) x0 x1 x2 x4) a (256 + k)) (fun k o => rd3 x6 1 k o) c (by omega)
      (fun i hi hne => hx6 1 (by omega) i hi c (by omega) hne)).trans (Finset.sum_congr rfl fun i _ => ?_)
    exact congrArg₂ (· * ·) (congrArg (dev (rd2 x5) (1024 * s) (hb (BitVec.ofNat 32 s) x0 x1 x2 x4) a) (by omega)) ((at_eq _ (by omega) (by omega) (by omega)).trans (if_pos ⟨i.isLt, Nat.mod_lt _ (by norm_num)⟩).symm)

include hwp hx6 in
theorem o_val (a j : ℕ) (ha : a < 1024) (hj : j < 1024) :
    rd2 (b_r_126 (BitVec.ofNat 32 s) x0 x1 x2 x4 x5 x6 x7 x8 x9 wp) a j
      = o (wts x4 x5 x6 x7 x8 x9 x10 x11 x12 x13) (1024 * s) (hb (BitVec.ofNat 32 s) x0 x1 x2 x4) a j * Ideal.rsqrt (Ideal.div
          (∑ i : Fin 1024, o (wts x4 x5 x6 x7 x8 x9 x10 x11 x12 x13) (1024 * s) (hb (BitVec.ofNat 32 s) x0 x1 x2 x4) a i * o (wts x4 x5 x6 x7 x8 x9 x10 x11 x12 x13) (1024 * s) (hb (BitVec.ofNat 32 s) x0 x1 x2 x4) a i) cLen + cEps) := by
  unfold b_r_126 k0_pay158
  simp (disch := first | omega | rfl) only [rd2_mulf, rd2_bcast_col, rd2_rsqrt, rd2_addf, rd2_divf, rd2_broadcast, rd2_cast_col, rd1_sum, dot_mid_1024,
    rd2_matmul, rd2_truncf, rd2_cast_same, rd2_ld_bf16, Nat.zero_add]
  generalize hA : concatenate S1024x1024 1 _ _ = A
  have hy : ∀ k : Fin 1024, rd2 A a k = y (wts x4 x5 x6 x7 x8 x9 x10 x11 x12 x13) (1024 * s) (hb (BitVec.ofNat 32 s) x0 x1 x2 x4) a k := by
    intro k
    have hk := k.isLt
    rw [← hA]
    refine (rd2_concat2' _ _ _ ha hk).trans ?_
    unfold y
    split_ifs with h
    · exact ya_val x0 x1 x2 x4 x5 x6 x7 x8 x9 x10 x11 x12 x13 wp hx6 s hs a k ha h
    · rw [rd2_mulf _ _ ha (by omega), gate_b (hwp := hwp) (ha := ha) (hc := by omega)]
      refine congrArg₂ (· * ·) ?_ rfl
      generalize hc : (k : ℕ) - 512 = c
      have hc' : c < 512 := by omega
      refine Eq.trans (b := conv (rd2 x5) (hb (BitVec.ofNat 32 s) x0 x1 x2 x4) (rd2 x8) a c) ?_ rfl
      refine (rd2_concat4 _ _ _ _ _ ha hc').trans ?_
      split_ifs with c1 c2 c3
      · rw [conv0 (hwp := hwp) (ha := ha) (hc := c1)]; congr 1; omega
      · rw [conv1 (hwp := hwp) (ha := ha) (hc := by omega)]; congr 1; omega
      · rw [conv2 (hwp := hwp) (ha := ha) (hc := by omega)]; congr 1; omega
      refine Eq.trans ?_ (congrArg (conv (rd2 x5) (hb (BitVec.ofNat 32 s) x0 x1 x2 x4) (rd2 x8) a) (show 128 * 3 + (c - 384) = c by omega))
      refine rd2_concat8 _ _ _ _ _ _ _ _ _ (fun a c => conv (rd2 x5) (hb (BitVec.ofNat 32 s) x0 x1 x2 x4) (rd2 x8) a (128 * 3 + c)) ?_ ?_ ?_ ?_ ?_ ?_ ?_ ?_ ha (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
      · intro r hr q hq
        simp (disch := first | omega | rfl) only [b_r_113, b_r_114, b_r_115, b_r_116, b_r_117, b_r_118, b_r_119, b_r_120, b_r_121, b_r_122, b_r_123, b_r_124, k0_pay146, k0_pay147, k0_pay148, k0_pay149, k0_pay150, k0_pay151, k0_pay152, k0_pay153, k0_pay154, k0_pay155, k0_pay156, b_v949, b_v962, b_v975, b_v988, b_v1001, b_v1014, b_v1027, b_v1040, rd2_cast, rd2_cast_same, rd2_slice, rd2_addf, rd2_mulf, rd3_ld_f32, rd2_ld_f32, rd2_bcast_row, Nat.zero_add, Nat.add_zero, rd2_rot1_136, rd2_rot2_136]
        simp (disch := first | omega | assumption) only [cu_at3 (hwp := hwp)]
        exact conv_pos _ _ _ _ _ _ _ _ _ _ _ _ _ _ (by omega) (by omega) (by omega) (by omega) (by omega) (by omega) (by omega) (by omega) (by omega)
  simp only [hy]
  rfl

include hwp hx6 in
theorem out_val (a j : ℕ) (ha : a < 1024) (hj : j < 1024) :
    rd3 (b_out (BitVec.ofNat 32 s) x0 x1 x2 x3 x4 x5 x6 x7 x8 x9 x10 x11 x12 x13 wp) 0 a j
      = out (wts x4 x5 x6 x7 x8 x9 x10 x11 x12 x13) (1024 * s) (hb (BitVec.ofNat 32 s) x0 x1 x2 x4) (fun p k => rd3 x1 0 p k) (fun p k => rd3 x3 0 p k) a j := by
  have hres : ∀ i < 1024, rd2 (b_r_127 (BitVec.ofNat 32 s) x0 x1 x2 x4 x5 x6 x7 x8 x9 x10 wp) a i
      = res (wts x4 x5 x6 x7 x8 x9 x10 x11 x12 x13) (1024 * s) (hb (BitVec.ofNat 32 s) x0 x1 x2 x4) (fun p k => rd3 x1 0 p k) a i := by
    intro i hi
    unfold b_r_127 k0_pay159
    simp (disch := first | omega | rfl) only [rd2_addf, rd2_mulf, rd2_bcast_row, rd2_cast_same, rd2_ld_f32, b_r_125, k0_pay157, rd2_cast, rd3_ld_f32, Nat.zero_add]
    rw [o_val (hwp := hwp) (hx6 := hx6) (hs := hs) (ha := ha) (hj := hi) (x10 := x10) (x11 := x11) (x12 := x12) (x13 := x13)]
    rfl
  unfold b_out k0_pay1
  rw [rd3_cast _ _ ha hj, rd2_addf _ _ ha hj, hres j hj]
  unfold b_r_128 k0_pay160
  rw [show k0_pay159 (b_r_125 x1) (b_r_126 (BitVec.ofNat 32 s) x0 x1 x2 x4 x5 x6 x7 x8 x9 wp) (View.ld x10 (Rect.unit ![0, 0] S1x1024.size inb_S1x1024_S1x1024_0_0)) = b_r_127 (BitVec.ofNat 32 s) x0 x1 x2 x4 x5 x6 x7 x8 x9 x10 wp from rfl]
  simp (disch := first | omega | rfl) only [rd2_mulf, rd2_bcast_col, rd2_bcast_row, rd2_rsqrt, rd2_addf, rd2_divf, rd2_broadcast, rd2_cast_col, rd1_sum, dot_mid_1024, dot_ple,
    rd2_matmul, rd2_truncf, rd2_cast_same, rd2_cast, rd2_ld_bf16, rd2_ld_f32, rd3_ld_f32, rd2_logistic, b_r, k0_pay10, hres, Nat.zero_add]
  rfl

end Cert.KernelIdeal.Blk
-- ==== Proof.Host.lean ====
module

public import proofs.«01_k».proof.Proof.Args
public import proofs.«01_k».proof.Proof.BlkO
public import Idealize.ShloMosaic.Lib.Pipeline.ValueKit.Point
public meta import Idealize.ShloMosaic.Lib.Pipeline.ValueKit.Point
public import Idealize.ShloMosaic.Lib.Claim
public meta import Idealize.ShloMosaic.Lib.Claim

@[expose] public section

/-! What the host prepares for the kernel: the weights, reshaped, and the pooling weights in pairs. -/

noncomputable section

namespace Cert.KernelIdeal.Arr

open Idealize.ShloMosaic Idealize.ShloMosaic.TcCoe Idealize.ShloMosaic.Tactic Idealize.SL.Sem
open Cert.KernelIdeal Cert.KernelIdeal.Gen Cert.Rd Cert.Spec

variable (m : (ℓ : Loc nD τ sig) → Buf (Elt Ideal) ℓ) (c : Dev nD)

theorem v1_at (k : Fin 1024) : (V m c main_v1 : Vec Ideal S1x1024 .f32) (ix2 0 k) = (m ((c : Thread nD τ).loc main_arg2) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v23_at (k : Fin 512) : (V m c main_v23 : Vec Ideal S1x512 .f32) (ix2 0 k) = (m ((c : Thread nD τ).loc main_arg5) : Vec Ideal S1x512 .f32) (ix2 0 k) := by
  unfold V
  simp only [List.flatten_cons, List.flatten_nil, List.append_nil, List.cons_append, List.nil_append, hostOps0, hostOps0_1, hostOps0_2, hostOps0_3, hostOps0_4]
  entry_read
  pointwise

theorem v28_at (k : Fin 1024) : (V m c main_v28 : Vec Ideal S1x1024 .f32) (ix2 0 k) = (m ((c : Thread nD τ).loc main_arg8) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v34_at (k : Fin 1024) : (V m c main_v34 : Vec Ideal S1x1024 .f32) (ix2 0 k) = (m ((c : Thread nD τ).loc main_arg11) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v3_at (k : Fin 1024) (o : Fin 3072) : (V m c main_v3 : Vec Ideal S1024x3072 .bf16) (ix2 k o) = (m ((c : Thread nD τ).loc main_arg3) : Vec Ideal S1x1024x3072 .f32) (ix3 0 k o) := by
  unfold V
  simp only [List.flatten_cons, List.flatten_nil, List.append_nil, List.cons_append, List.nil_append, hostOps0, hostOps0_1, hostOps0_2, hostOps0_3, hostOps0_4]
  entry_read
  pointwise

theorem v24_at (k : Fin 3) (o : Fin 512) : (V m c main_v24 : Vec Ideal S3x512 .f32) (ix2 k o) = (m ((c : Thread nD τ).loc main_arg6) : Vec Ideal S1x3x512 .f32) (ix3 0 k o) := by
  unfold V
  simp only [List.flatten_cons, List.flatten_nil, List.append_nil, List.cons_append, List.nil_append, hostOps0, hostOps0_1, hostOps0_2, hostOps0_3, hostOps0_4]
  entry_read
  pointwise

theorem v26_at (k : Fin 1024) (o : Fin 1024) : (V m c main_v26 : Vec Ideal S1024x1024 .bf16) (ix2 k o) = (m ((c : Thread nD τ).loc main_arg7) : Vec Ideal S1x1024x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v30_at (k : Fin 256) (o : Fin 1024) : (V m c main_v30 : Vec Ideal S256x1024 .bf16) (ix2 k o) = (m ((c : Thread nD τ).loc main_arg9) : Vec Ideal S1x256x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v32_at (k : Fin 1024) (o : Fin 1024) : (V m c main_v32 : Vec Ideal S1024x1024 .bf16) (ix2 k o) = (m ((c : Thread nD τ).loc main_arg10) : Vec Ideal S1x1024x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v35_at (b : Fin 8) (k : Fin 8192) (o : Fin 256) : (V m c main_v35 : Vec Ideal S8x8192x256 .f32) (ix3 b k o) = (m ((c : Thread nD τ).loc main_arg1) : Vec Ideal S1x8x8192x256 .f32) (ix4 0 b k o) := by
  unfold V
  simp only [List.flatten_cons, List.flatten_nil, List.append_nil, List.cons_append, List.nil_append, hostOps0, hostOps0_1, hostOps0_2, hostOps0_3, hostOps0_4]
  entry_read
  pointwise

theorem rd4_at {l m n q a b c d a' b' c' d' : ℕ} (x : (⟨4, ![l, m, n, q]⟩ : Shape).Idx → EReal) (ha : a = a') (hb : b = b') (hc : c = c')
    (hd : d = d') : rd4 x a b c d = rd4 x a' b' c' d' := by rw [ha, hb, hc, hd]

theorem pairs_if (W : S1x4x128x128.Idx → EReal) (q : Fin 2) (i o : Fin 256) :
    (if (q : ℕ) < 1 then
      if h : (i : ℕ) < 128 then if h_1 : (o : ℕ) < 128 then W (ix4 0 0 ⟨i, h⟩ ⟨o, h_1⟩) else (0 : EReal)
      else if h : (o : ℕ) < 128 then 0 else W (ix4 0 1 ⟨i - 128, by omega⟩ ⟨o - 128, by omega⟩)
    else
      if h : (i : ℕ) < 128 then if h_1 : (o : ℕ) < 128 then W (ix4 0 2 ⟨i, h⟩ ⟨o, h_1⟩) else 0
      else if h : (o : ℕ) < 128 then 0 else W (ix4 0 3 ⟨i - 128, by omega⟩ ⟨o - 128, by omega⟩)) =
    if (i : ℕ) / 128 = (o : ℕ) / 128 then rd4 W 0 (2 * q + (i : ℕ) / 128) ((i : ℕ) % 128) ((o : ℕ) % 128) else 0 := by
  have hq := q.isLt
  have hi := i.isLt
  have ho := o.isLt
  simp only [at4 (l := 1) (m := 4) (n := 128) (q := 128)]
  split_ifs <;> first
    | (exfalso; omega)
    | rfl
    | (refine rd4_at _ ?_ ?_ ?_ ?_ <;> first | omega | (simp; omega))

theorem v21_at (q : Fin 2) (i o : Fin 256) : (V m c main_v21 : Vec Ideal S2x256x256 .bf16) (ix3 q i o)
      = (if (i : ℕ) / 128 = (o : ℕ) / 128 then rd4 (m ((c : Thread nD τ).loc main_arg4) : Vec Ideal S1x4x128x128 .f32) 0 (2 * q + (i : ℕ) / 128) ((i : ℕ) % 128) ((o : ℕ) % 128) else (0 : EReal)) := by
  unfold V
  simp only [List.flatten_cons, List.flatten_nil, List.append_nil, List.cons_append, List.nil_append, hostOps0, hostOps0_1, hostOps0_2, hostOps0_3, hostOps0_4]
  entry_read
  simp -implicitDefEqProofs only [StableHlo.TRef.toBuf, StableHlo.TRef.ofBuf, cast_cast, cast_eq]
  pointwise
  exact pairs_if _ q i o

end Cert.KernelIdeal.Arr
-- ==== Proof.Arr.lean ====
module

public import proofs.«01_k».proof.Proof.Args
public import proofs.«01_k».proof.Proof.Host
public import Idealize.ShloMosaic.Lib.Pipeline.ValueKit.Point
public meta import Idealize.ShloMosaic.Lib.Pipeline.ValueKit.Point
public import Idealize.ShloMosaic.Lib.Claim
public meta import Idealize.ShloMosaic.Lib.Claim

@[expose] public section

/-! The blocks a grid point reads, as the arguments hold them. -/

noncomputable section

namespace Cert.KernelIdeal.Arr

open Idealize.ShloMosaic Idealize.ShloMosaic.TcCoe Idealize.ShloMosaic.Tactic Idealize.SL.Sem
open Cert.KernelIdeal Cert.KernelIdeal.Gen Cert.Rd Cert.Spec

variable (m : (ℓ : Loc nD τ sig) → Buf (Elt Ideal) ℓ) (c : Dev nD)

theorem idx0 : ∀ t : Fin cfg0.N, win0_0.index t = ![t.val / 8, 64 * (t.val % 8) - 1, 0] := by decide +kernel
theorem idx1 : ∀ t : Fin cfg0.N, win0_1.index t = ![t.val / 8, t.val % 8, 0] := by decide +kernel
theorem idx2 : ∀ t : Fin cfg0.N, win0_2.index t = ![t.val / 8, min (64 * (t.val % 8) + 64) 511, 0] := by decide +kernel
theorem idx3 : ∀ t : Fin cfg0.N, win0_3.index t = ![t.val / 8, t.val % 8, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel

theorem x0_at (t : Fin cfg0.N) (a k : ℕ) (ha : a < 16) (hk : k < 1024) :
    rd3 (iblk m c 0 t : Vec Ideal S1x16x1024 .f32) 0 a k = rd3 (m ((c : Thread nD τ).loc main_arg0) : Vec Ideal S8x8192x1024 .f32) (t.val / 8) (16 * (64 * (t.val % 8) - 1) + a) k := by
  have ht := lt_of_lt_of_eq t.isLt (show cfg0.N = 64 from N_0)
  rw [rd3_of _ (by omega) ha hk, rd3_of _ (by omega) (by omega) hk]
  blk_ext [iblk, V, idx0]

theorem x1_at (t : Fin cfg0.N) (a k : ℕ) (ha : a < 1024) (hk : k < 1024) :
    rd3 (iblk m c 1 t : Vec Ideal S1x1024x1024 .f32) 0 a k = rd3 (m ((c : Thread nD τ).loc main_arg0) : Vec Ideal S8x8192x1024 .f32) (t.val / 8) (1024 * (t.val % 8) + a) k := by
  have ht := lt_of_lt_of_eq t.isLt (show cfg0.N = 64 from N_0)
  rw [rd3_of _ (by omega) ha hk, rd3_of _ (by omega) (by omega) hk]
  blk_ext [iblk, V, idx1]

theorem x2_at (t : Fin cfg0.N) (a k : ℕ) (ha : a < 16) (hk : k < 1024) :
    rd3 (iblk m c 2 t : Vec Ideal S1x16x1024 .f32) 0 a k = rd3 (m ((c : Thread nD τ).loc main_arg0) : Vec Ideal S8x8192x1024 .f32) (t.val / 8) (16 * (min (64 * (t.val % 8) + 64) 511) + a) k := by
  have ht := lt_of_lt_of_eq t.isLt (show cfg0.N = 64 from N_0)
  rw [rd3_of _ (by omega) ha hk, rd3_of _ (by omega) (by omega) hk]
  blk_ext [iblk, V, idx2]

theorem x3_at (t : Fin cfg0.N) (a k : ℕ) (ha : a < 1024) (hk : k < 256) :
    rd3 (iblk m c 3 t : Vec Ideal S1x1024x256 .f32) 0 a k = rd4 (m ((c : Thread nD τ).loc main_arg1) : Vec Ideal S1x8x8192x256 .f32) 0 (t.val / 8) (1024 * (t.val % 8) + a) k := by
  have ht := lt_of_lt_of_eq t.isLt (show cfg0.N = 64 from N_0)
  rw [rd3_of _ (by omega) ha hk, rd4_of _ (by omega) (by omega) (by omega) hk]
  refine Eq.trans ?_ (v35_at m c ⟨t.val / 8, by omega⟩ ⟨1024 * (t.val % 8) + a, by omega⟩ ⟨k, hk⟩)
  unfold iblk
  blk_ext [idx3]

theorem x4_at (t : Fin cfg0.N) : rd2 (iblk m c 4 t : Vec Ideal S1x1024 .f32) 0 = rd2 (m ((c : Thread nD τ).loc main_arg2) : Vec Ideal S1x1024 .f32) 0 := by
  funext k
  by_cases hk : k < 1024
  · rw [rd2_of _ (by omega) hk, rd2_of _ (by omega) hk]
    refine Eq.trans ?_ (v1_at m c ⟨k, hk⟩)
    unfold iblk
    blk_ext [idx4]
  · rw [rd2, rd2, dif_neg (by omega), dif_neg (by omega)]

theorem x7_at (t : Fin cfg0.N) : rd2 (iblk m c 7 t : Vec Ideal S1x512 .f32) 0 = rd2 (m ((c : Thread nD τ).loc main_arg5) : Vec Ideal S1x512 .f32) 0 := by
  funext k
  by_cases hk : k < 512
  · rw [rd2_of _ (by omega) hk, rd2_of _ (by omega) hk]
    refine Eq.trans ?_ (v23_at m c ⟨k, hk⟩)
    unfold iblk
    blk_ext [idx7]
  · rw [rd2, rd2, dif_neg (by omega), dif_neg (by omega)]

theorem x10_at (t : Fin cfg0.N) : rd2 (iblk m c 10 t : Vec Ideal S1x1024 .f32) 0 = rd2 (m ((c : Thread nD τ).loc main_arg8) : Vec Ideal S1x1024 .f32) 0 := by
  funext k
  by_cases hk : k < 1024
  · rw [rd2_of _ (by omega) hk, rd2_of _ (by omega) hk]
    refine Eq.trans ?_ (v28_at m c ⟨k, hk⟩)
    unfold iblk
    blk_ext [idx10]
  · rw [rd2, rd2, dif_neg (by omega), dif_neg (by omega)]

theorem x13_at (t : Fin cfg0.N) : rd2 (iblk m c 13 t : Vec Ideal S1x1024 .f32) 0 = rd2 (m ((c : Thread nD τ).loc main_arg11) : Vec Ideal S1x1024 .f32) 0 := by
  funext k
  by_cases hk : k < 1024
  · rw [rd2_of _ (by omega) hk, rd2_of _ (by omega) hk]
    refine Eq.trans ?_ (v34_at m c ⟨k, hk⟩)
    unfold iblk
    blk_ext [idx13]
  · rw [rd2, rd2, dif_neg (by omega), dif_neg (by omega)]

theorem x5_at (t : Fin cfg0.N) : rd2 (iblk m c 5 t : Vec Ideal S1024x3072 .bf16) = rd3 (m ((c : Thread nD τ).loc main_arg3) : Vec Ideal S1x1024x3072 .f32) 0 := by
  funext k o
  by_cases hk : k < 1024 ∧ o < 3072
  · rw [rd2_of _ hk.1 hk.2, rd3_of _ (by omega) hk.1 hk.2]
    refine Eq.trans ?_ (v3_at m c ⟨k, hk.1⟩ ⟨o, hk.2⟩)
    unfold iblk
    blk_ext [idx5]
  · rw [rd2, rd3, dif_neg (by omega), dif_neg (by omega)]

theorem x8_at (t : Fin cfg0.N) : rd2 (iblk m c 8 t : Vec Ideal S3x512 .f32) = rd3 (m ((c : Thread nD τ).loc main_arg6) : Vec Ideal S1x3x512 .f32) 0 := by
  funext k o
  by_cases hk : k < 3 ∧ o < 512
  · rw [rd2_of _ hk.1 hk.2, rd3_of _ (by omega) hk.1 hk.2]
    refine Eq.trans ?_ (v24_at m c ⟨k, hk.1⟩ ⟨o, hk.2⟩)
    unfold iblk
    blk_ext [idx8]
  · rw [rd2, rd3, dif_neg (by omega), dif_neg (by omega)]

theorem x9_at (t : Fin cfg0.N) : rd2 (iblk m c 9 t : Vec Ideal S1024x1024 .bf16) = rd3 (m ((c : Thread nD τ).loc main_arg7) : Vec Ideal S1x1024x1024 .f32) 0 := by
  funext k o
  by_cases hk : k < 1024 ∧ o < 1024
  · rw [rd2_of _ hk.1 hk.2, rd3_of _ (by omega) hk.1 hk.2]
    refine Eq.trans ?_ (v26_at m c ⟨k, hk.1⟩ ⟨o, hk.2⟩)
    unfold iblk
    blk_ext [idx9]
  · rw [rd2, rd3, dif_neg (by omega), dif_neg (by omega)]

theorem x11_at (t : Fin cfg0.N) : rd2 (iblk m c 11 t : Vec Ideal S256x1024 .bf16) = rd3 (m ((c : Thread nD τ).loc main_arg9) : Vec Ideal S1x256x1024 .f32) 0 := by
  funext k o
  by_cases hk : k < 256 ∧ o < 1024
  · rw [rd2_of _ hk.1 hk.2, rd3_of _ (by omega) hk.1 hk.2]
    refine Eq.trans ?_ (v30_at m c ⟨k, hk.1⟩ ⟨o, hk.2⟩)
    unfold iblk
    blk_ext [idx11]
  · rw [rd2, rd3, dif_neg (by omega), dif_neg (by omega)]

theorem x12_at (t : Fin cfg0.N) : rd2 (iblk m c 12 t : Vec Ideal S1024x1024 .bf16) = rd3 (m ((c : Thread nD τ).loc main_arg10) : Vec Ideal S1x1024x1024 .f32) 0 := by
  funext k o
  by_cases hk : k < 1024 ∧ o < 1024
  · rw [rd2_of _ hk.1 hk.2, rd3_of _ (by omega) hk.1 hk.2]
    refine Eq.trans ?_ (v32_at m c ⟨k, hk.1⟩ ⟨o, hk.2⟩)
    unfold iblk
    blk_ext [idx12]
  · rw [rd2, rd3, dif_neg (by omega), dif_neg (by omega)]

theorem x6_at (t : Fin cfg0.N) (q i o : ℕ) (hq : q < 2) (hi : i < 256) (ho : o < 256) :
    rd3 (iblk m c 6 t : Vec Ideal S2x256x256 .bf16) q i o
      = if i / 128 = o / 128 then rd4 (m ((c : Thread nD τ).loc main_arg4) : Vec Ideal S1x4x128x128 .f32) 0 (2 * q + i / 128) (i % 128) (o % 128) else 0 := by
  rw [rd3_of _ hq hi ho]
  refine Eq.trans ?_ (v21_at m c ⟨q, hq⟩ ⟨i, hi⟩ ⟨o, ho⟩)
  unfold iblk
  blk_ext [idx6]

/-- The weights as a point's blocks hold them are the arguments'. -/
theorem wts_at (t : Fin cfg0.N) :
    Blk.wts (iblk m c 4 t) (iblk m c 5 t) (iblk m c 6 t) (iblk m c 7 t) (iblk m c 8 t) (iblk m c 9 t) (iblk m c 10 t) (iblk m c 11 t) (iblk m c 12 t) (iblk m c 13 t)
      = wtsOf (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) := by
  unfold Blk.wts wtsOf
  rw [x4_at, x5_at, x7_at, x8_at, x9_at, x10_at, x11_at, x12_at, x13_at]
  refine congrArg (fun w : ℕ → ℕ → ℕ → EReal => Wts.mk _ _ w _ _ _ _ _ _ _) ?_
  funext g i o
  by_cases h : g < 4 ∧ i < 128 ∧ o < 128
  · rw [if_pos h.2, x6_at m c t _ _ _ (by omega) (by omega) (by omega), if_pos (by omega)]
    exact rd4_at _ rfl (by omega) (by omega) (by omega)
  · rw [rd4, dif_neg (by omega)]
    split_ifs with h2
    · rw [rd3, dif_neg (by omega)]
    · rfl

end Cert.KernelIdeal.Arr
-- ==== Proof.Shift.lean ====
module

public import proofs.«01_k».proof.Proof.Spec

@[expose] public section

/-! The layer reads a row's neighbourhood only, so rows computed from one tile are the rows of the whole sequence. -/

namespace Cert.Spec
open Idealize.ShloMosaic

variable (W : Wts) (P : ℕ) (h H x x' e e' : ℕ → ℕ → EReal)
variable (hH : ∀ n < 1056, ∀ k < 1024, h n k = H (P + n) k)

include hH in
theorem zc_shift (win : ℕ → ℕ → EReal) (n n' c : ℕ) (hn : n < 1056) (hn' : n' = P + n) : zc win h n c = zc win H n' c := by
  subst hn'
  exact Finset.sum_congr rfl fun k _ => by rw [hH n hn k k.isLt]

include hH in
theorem cu_shift (win : ℕ → ℕ → EReal) (n n' c : ℕ) (hn : n < 1056) (hn' : n' = P + n) : cu win h n c = cu win H n' c := by
  unfold cu
  rw [zc_shift P h H hH win n n' _ hn hn', zc_shift P h H hH win n n' _ hn hn']

include hH in
theorem tot_shift (win : ℕ → ℕ → EReal) (g p c : ℕ) (hg : g < 4) (hp : p < 1024) : tot win h g p c = tot win H g (P + p) c := by
  have h8 : 2 ^ g ≤ 8 := (Nat.pow_le_pow_right (by omega) (show g ≤ 3 by omega)).trans (by norm_num)
  have h2 : 2 ^ (g + 1) = 2 * 2 ^ g := by ring
  refine Finset.sum_congr rfl fun q hq => ?_
  have hq' := Finset.mem_range.mp hq
  exact zc_shift P h H hH win _ _ _ (by omega) (by omega)

include hH in
theorem dev_shift (win : ℕ → ℕ → EReal) (p c : ℕ) (hp : p < 1024) (hc : c < 512) : dev win P h p c = dev win 0 H (P + p) c := by
  unfold dev
  rw [tot_shift P h H hH win _ p c (by omega) hp, zc_shift P h H hH win (p + 16) (P + p + 16) c (by omega) (by omega), Nat.zero_add]

include hH in
theorem y_shift (p c : ℕ) (hp : p < 1024) (hc : c < 1024) : y W P h p c = y W 0 H (P + p) c := by
  unfold y
  split_ifs with hl
  · unfold ya
    rw [zc_shift P h H hH W.win (p + 16) (P + p + 16) _ (by omega) (by omega)]
    refine congrArg₂ (· * ·) (Finset.sum_congr rfl fun i _ => ?_) rfl
    rw [dev_shift P h H hH W.win p _ hp (by omega)]
  · unfold yb
    rw [zc_shift P h H hH W.win (p + 16) (P + p + 16) _ (by omega) (by omega), zc_shift P h H hH W.win (p + 16) (P + p + 16) _ (by omega) (by omega),
      cu_shift P h H hH W.win (p + 15) (P + p + 15) _ (by omega) (by omega), cu_shift P h H hH W.win (p + 16) (P + p + 16) _ (by omega) (by omega),
      cu_shift P h H hH W.win (p + 17) (P + p + 17) _ (by omega) (by omega)]

include hH in
theorem o_shift (p j : ℕ) (hp : p < 1024) : o W P h p j = o W 0 H (P + p) j :=
  Finset.sum_congr rfl fun k _ => by rw [y_shift W P h H hH p k hp k.isLt]

theorem rms_congr {v w : ℕ → EReal} (g : ℕ → EReal) (hvw : ∀ k < 1024, v k = w k) (k : ℕ) (hk : k < 1024) : rms v g k = rms w g k := by
  unfold rms
  rw [hvw k hk, Finset.sum_congr rfl fun j _ => by rw [hvw j j.isLt]]

variable (hx : ∀ a < 1024, ∀ k < 1024, x' a k = x (P + a) k) (he : ∀ a < 1024, ∀ k < 256, e' a k = e (P + a) k)

include hH hx in
theorem res_shift (p j : ℕ) (hp : p < 1024) (hj : j < 1024) : res W P h x' p j = res W 0 H x (P + p) j := by
  unfold res
  rw [hx p hp j hj, rms_congr W.gpost (fun k _ => o_shift W P h H hH p k hp) j hj]

include hH hx he in
theorem out_shift (p j : ℕ) (hp : p < 1024) (hj : j < 1024) : out W P h x' e' p j = out W 0 H x e (P + p) j := by
  unfold out
  rw [res_shift W P h H x x' hH hx p j hp hj]
  refine congrArg₂ (· + ·) rfl (rms_congr W.gple (fun k _ => ?_) j hj)
  exact congrArg₂ (· * ·) (Finset.sum_congr rfl fun i _ => by rw [he p hp i i.isLt])
    (congrArg Ideal.logistic (Finset.sum_congr rfl fun i _ => by rw [res_shift W P h H x x' hH hx p i hp i.isLt]))

end Cert.Spec
-- ==== Proof.Point.lean ====
module

public import proofs.«01_k».proof.Proof.Arr
public import proofs.«01_k».proof.Proof.Shift

@[expose] public section

/-! What the kernel's output array holds, at every index: the layer's value. -/

noncomputable section

namespace Cert.KernelIdeal.Arr

open Idealize.ShloMosaic Idealize.ShloMosaic.TcCoe Idealize.ShloMosaic.Tactic Idealize.SL.Sem
open Cert.KernelIdeal Cert.KernelIdeal.Gen Cert.Rd Cert.Spec

variable (m : (ℓ : Loc nD τ sig) → Buf (Elt Ideal) ℓ) (c : Dev nD)

/-- The weights of a launch. -/
def W : Wts := wtsOf (m ((c : Thread nD τ).loc main_arg2)) (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10)) (m ((c : Thread nD τ).loc main_arg11))

/-- The rows of sequence `b`. -/
def X (b : ℕ) : ℕ → ℕ → EReal := rd3 (m ((c : Thread nD τ).loc main_arg0) : Vec Ideal S8x8192x1024 .f32) b

/-- The second stream of sequence `b`. -/
def E (b : ℕ) : ℕ → ℕ → EReal := rd4 (m ((c : Thread nD τ).loc main_arg1) : Vec Ideal S1x8x8192x256 .f32) 0 b

theorem coord1 : ∀ t : Fin cfg0.N, ((grid0.coords t) 1).val = t.val % 8 := by decide +kernel

theorem word_eq (s r : ℕ) (hs : s < 8) (hr : r < 8) : BitVec.ofNat 32 s = BitVec.ofNat 32 r ↔ s = r := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The rows a point normalises are the sequence's, zero outside it. -/
theorem rows_at (t : Fin cfg0.N) (n k : ℕ) (hn : n < 1056) (hk : k < 1024) :
    Blk.hb (BitVec.ofNat 32 (t.val % 8)) (iblk m c 0 t) (iblk m c 1 t) (iblk m c 2 t) (iblk m c 4 t) n k
      = hpad (W m c) (X m c (t.val / 8)) (1024 * (t.val % 8) + n) k := by
  have ht := lt_of_lt_of_eq t.isLt (show cfg0.N = 64 from N_0)
  have hg : rd2 (iblk m c 4 t : Vec Ideal S1x1024 .f32) 0 = (W m c).gpre := x4_at m c t
  unfold hpad X
  by_cases h1 : n < 16
  · rw [Blk.hb_lo _ _ _ _ _ n k h1 hk, hg]
    by_cases h0 : t.val % 8 = 0
    · rw [if_pos ((word_eq _ 0 (by omega) (by omega)).mpr h0), if_neg (by omega)]
    · rw [if_neg (fun h => h0 ((word_eq _ 0 (by omega) (by omega)).mp h)), if_pos (by omega)]
      refine rms_congr _ (fun j hj => ?_) k hk
      rw [x0_at m c t n j h1 hj, show 16 * (64 * (t.val % 8) - 1) + n = 1024 * (t.val % 8) + n - 16 by omega]
  · by_cases h2 : n < 1040
    · rw [Blk.hb_mid _ _ _ _ _ n k (by omega) h2 hk, hg, if_pos (by omega)]
      refine rms_congr _ (fun j hj => ?_) k hk
      rw [x1_at m c t (n - 16) j (by omega) hj, show 1024 * (t.val % 8) + (n - 16) = 1024 * (t.val % 8) + n - 16 by omega]
    · rw [Blk.hb_hi _ _ _ _ _ n k (by omega) hn hk, hg]
      by_cases h0 : t.val % 8 = 7
      · rw [if_pos ((word_eq _ 7 (by omega) (by omega)).mpr h0), if_neg (by omega)]
      · rw [if_neg (fun h => h0 ((word_eq _ 7 (by omega) (by omega)).mp h)), if_pos (by omega)]
        refine rms_congr _ (fun j hj => ?_) k hk
        rw [x2_at m c t (n - 1040) j (by omega) hj, show 16 * (min (64 * (t.val % 8) + 64) 511) + (n - 1040) = 1024 * (t.val % 8) + n - 16 by omega]

/-- After every point the carried scratch holds the paired columns of the projection. -/
theorem carried (n : ℕ) (hn : n < cfg0.N) : ∀ k < 1024, ∀ o < 2048,
    rd2 (outsAt0 m c n hn).2 k o = rd3 (m ((c : Thread nD τ).loc main_arg3) : Vec Ideal S1x1024x3072 .f32) 0 k (Blk.wcol o) := by
  induction n with
  | zero =>
    intro k hk o ho
    rw [outsAt0_A m c ⟨0, hn⟩ (Nat.zero_mod _)]
    dsimp only
    rw [Blk.soutA_eq, Blk.wp_col _ _ _ hk ho, x5_at]
  | succ n ih =>
    intro k hk o ho
    by_cases h0 : (n + 1) % 64 = 0
    · rw [outsAt0_A m c ⟨n + 1, hn⟩ h0]
      dsimp only
      rw [Blk.soutA_eq, Blk.wp_col _ _ _ hk ho, x5_at]
    · rw [outsAt0_B m c ⟨n + 1, hn⟩ h0]
      dsimp only [sout0_B_2]
      exact ih (by omega) k hk o ho

theorem pairs_zero (t : Fin cfg0.N) : ∀ q < 2, ∀ i < 256, ∀ o < 256, i / 128 ≠ o / 128 → rd3 (iblk m c 6 t : Vec Ideal S2x256x256 .bf16) q i o = 0 := by
  intro q hq i hi o ho h
  rw [x6_at m c t q i o hq hi ho, if_neg h]

/-- The block a point stores. -/
theorem block_at (t : Fin cfg0.N) (a j : ℕ) (ha : a < 1024) (hj : j < 1024) :
    rd3 (outsAt0 m c t.val t.isLt).1 0 a j
      = out (W m c) 0 (hpad (W m c) (X m c (t.val / 8))) (X m c (t.val / 8)) (E m c (t.val / 8)) (1024 * (t.val % 8) + a) j := by
  have ht := lt_of_lt_of_eq t.isLt (show cfg0.N = 64 from N_0)
  have key : ∀ wp : Vec Ideal S1024x2048 .bf16, (∀ k < 1024, ∀ o < 2048, rd2 wp k o = rd3 (m ((c : Thread nD τ).loc main_arg3) : Vec Ideal S1x1024x3072 .f32) 0 k (Blk.wcol o)) →
      rd3 (Blk.b_out (BitVec.ofNat 32 (t.val % 8)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) wp) 0 a j
      = out (W m c) 0 (hpad (W m c) (X m c (t.val / 8))) (X m c (t.val / 8)) (E m c (t.val / 8)) (1024 * (t.val % 8) + a) j := by
    intro wp hwp
    rw [Blk.out_val (hwp := by rw [x5_at]; exact hwp) (hx6 := pairs_zero m c t) (hs := by omega) (ha := ha) (hj := hj), wts_at]
    exact out_shift (W m c) _ _ _ _ _ _ _ (fun n hn k hk => rows_at m c t n k hn hk) (fun p hp k hk => x1_at m c t p k hp hk)
      (fun p hp k hk => x3_at m c t p k hp hk) a j ha hj
  by_cases h0 : t.val % 64 = 0
  · rw [outsAt0_A m c t h0]
    dsimp only
    rw [Blk.outA_eq, coord1]
    exact key _ fun k hk o ho => by rw [Blk.wp_col _ _ _ hk ho, x5_at]
  · rw [outsAt0_B m c t h0]
    dsimp only
    rw [Blk.outB_eq, coord1]
    exact key _ (carried m c _ _)

/-- The array after the run. -/
theorem array_at (b p j : ℕ) (hb : b < 8) (hp : p < 8192) (hj : j < 1024) :
    rd3 (Value.G14 m c : Vec Ideal S8x8192x1024 .f32) b p j = out (W m c) 0 (hpad (W m c) (X m c b)) (X m c b) (E m c b) p j := by
  rw [rd3_of _ hb hp hj]
  have hN : cfg0.N = 64 := N_0
  have hpt : Value.pt14Of (ix3 ⟨b, hb⟩ ⟨p, hp⟩ ⟨j, hj⟩) = 8 * b + p / 1024 := by
    show 8 * (b / 1 - 0) + 1 * (p / 1024 - 0) + 1 * (j / 1024 - 0) = _
    omega
  unfold Value.G14
  rw [dif_pos (by rw [hpt, hN]; omega)]
  simp only [hpt]
  rw [← Value.outsAt0_sweep m c (8 * b + p / 1024) (by rw [hN]; omega)]
  have h := block_at m c ⟨8 * b + p / 1024, by rw [hN]; omega⟩ (p % 1024) j (by omega) hj
  rw [rd3_of _ (by omega) (by omega) hj] at h
  dsimp only at h
  rw [show (8 * b + p / 1024) / 8 = b by omega, show 1024 * ((8 * b + p / 1024) % 8) + p % 1024 = p by omega] at h
  rw [← h]
  refine congrArg _ ?_
  funext i
  match i with
  | ⟨0, _⟩ => exact Fin.ext (Nat.mod_one b)
  | ⟨1, _⟩ => rfl
  | ⟨2, _⟩ => exact Fin.ext (Nat.mod_eq_of_lt hj)

end Cert.KernelIdeal.Arr
-- ==== Proof.RefH.lean ====
module

public import proofs.«01_k».proof.Proof.RefOps
public import proofs.«01_k».proof.Proof.Gen.ReferenceIdeal.Read

@[expose] public section

/-! The reference's normalized rows and their projection. -/

namespace Cert.RefVal
open Idealize.ShloMosaic Idealize.ShloMosaic.StableHlo Cert.ReferenceIdeal Cert.ReferenceIdeal.Read Cert.Rd Cert.Spec

variable (x0 : (⟨S8x8192x1024, .f32⟩ : BufTy).Contents (Elt Ideal)) (x2 : (⟨S1x1024, .f32⟩ : BufTy).Contents (Elt Ideal))
  (x3 : (⟨S1x1024x3072, .f32⟩ : BufTy).Contents (Elt Ideal))

theorem h_at (i : S8x8192x1024.Idx) :
    val_main_v23 (F := Ideal) x0 x2 i = rms (rd3 x0 (i 0).val (i 1).val) (rd2 x2 0) (i 2).val := by
  rw [val_main_v23_apply, val_main_v20_apply, val_main_v19_apply, val_main_v18_apply, val_main_v17_apply, val_main_v15_apply,
    val_main_v13_apply, val_main_v12_apply, val_main_v14_apply, val_main_v16_apply, val_main_v22_apply, val_main_v21_apply, val_main_v1_apply]
  simp only [val_main_v11_apply]
  rw [val2 x2]
  simp only [val3 x0]
  have h0 : val_main_cst (F := Ideal) (Shape.Idx.first Gen.h_S_) = (0 : EReal) := Ideal.ofBits_zero_f32
  have h2 : (i 2).val < 1024 := (i 2).isLt
  rw [h0, zero_add]
  show _ * _ * rd2 x2 0 ((i 2).val % 1024) = _
  rw [Nat.mod_eq_of_lt h2]
  rfl

/-- A batch's normalized rows between sixteen rows of zeros on either side. -/
noncomputable def hp (b n k : ℕ) : EReal :=
  if 16 ≤ n ∧ n < 8208 then rms (rd3 x0 b (n - 16)) (rd2 x2 0) k else 0

theorem z_at (i : S8x8192x3072.Idx) :
    val_main_v24 (F := Ideal) x0 x2 x3 i = zc (rd3 x3 0) (hp x0 x2 (i 0).val) ((i 1).val + 16) (i 2).val := by
  have h1 : (i 1).val < 8192 := (i 1).isLt
  have h2 : (i 2).val < 3072 := (i 2).isLt
  rw [val_main_v24_apply]
  refine Finset.sum_congr rfl fun k _ => ?_
  have hk := k.isLt
  rw [h_at, val_main_v2_apply, val3 x3, hp, if_pos (by omega), Nat.add_sub_cancel]
  show rms (rd3 x0 (i 0).val (i 1).val) (rd2 x2 0) k.val * rd3 x3 0 ((k.val * 3072 + (i 2).val) / 3072 % 1024) ((k.val * 3072 + (i 2).val) % 3072) = _
  rw [show (k.val * 3072 + (i 2).val) / 3072 % 1024 = k.val by omega, show (k.val * 3072 + (i 2).val) % 3072 = (i 2).val by omega]

theorem v25_at (i : S8x8192x512.Idx) :
    val_main_v25 (F := Ideal) x0 x2 x3 i = zc (rd3 x3 0) (hp x0 x2 (i 0).val) ((i 1).val + 16) (i 2).val := by
  rw [val_main_v25_apply, z_at]

theorem v26_at (i : S8x8192x512.Idx) :
    val_main_v26 (F := Ideal) x0 x2 x3 i = zc (rd3 x3 0) (hp x0 x2 (i 0).val) ((i 1).val + 16) (512 + (i 2).val) := by
  rw [val_main_v26_apply, z_at]

theorem v27_at (i : S8x8192x512.Idx) :
    val_main_v27 (F := Ideal) x0 x2 x3 i = zc (rd3 x3 0) (hp x0 x2 (i 0).val) ((i 1).val + 16) (1024 + (i 2).val) := by
  rw [val_main_v27_apply, z_at]

theorem v28_at (i : S8x8192x512.Idx) :
    val_main_v28 (F := Ideal) x0 x2 x3 i = zc (rd3 x3 0) (hp x0 x2 (i 0).val) ((i 1).val + 16) (1536 + (i 2).val) := by
  rw [val_main_v28_apply, z_at]

theorem v29_at (i : S8x8192x512.Idx) :
    val_main_v29 (F := Ideal) x0 x2 x3 i = zc (rd3 x3 0) (hp x0 x2 (i 0).val) ((i 1).val + 16) (2048 + (i 2).val) := by
  rw [val_main_v29_apply, z_at]

theorem v30_at (i : S8x8192x512.Idx) :
    val_main_v30 (F := Ideal) x0 x2 x3 i = zc (rd3 x3 0) (hp x0 x2 (i 0).val) ((i 1).val + 16) (2560 + (i 2).val) := by
  rw [val_main_v30_apply, z_at]

end Cert.RefVal
-- ==== Proof.Clip.lean ====
module

public import proofs.«01_k».proof.Proof.Spec
public import Idealize.ShloMosaic.PureOps
public import Idealize.ShloMosaic.Lib.Tactic.WordOmega
public meta import Idealize.ShloMosaic.Lib.Tactic.WordOmega

@[expose] public section

/-! The words of a window's ends, kept inside the array. -/

namespace Cert.Spec
open Idealize.ShloMosaic

theorem lo_word (p L : ℕ) (hp : p < 8192) (hL : L ≤ 8) :
    (IntOp.minsi 8192#32 (IntOp.maxsi 0#32 (IntOp.subi (BitVec.ofNat 32 p) (BitVec.ofNat 32 L)))).toInt = ((p - L : ℕ) : ℤ) := by
  unfold IntOp.minsi IntOp.maxsi IntOp.subi
  have hs : (BitVec.ofNat 32 p - BitVec.ofNat 32 L).toInt = (p : ℤ) - L := by
    rw [BitVec.toInt_sub, BitVec.toInt_eq_toNat_of_lt (by rw [BitVec.toNat_ofNat]; omega), BitVec.toInt_eq_toNat_of_lt (by rw [BitVec.toNat_ofNat]; omega), BitVec.toNat_ofNat, BitVec.toNat_ofNat]
    rw [Nat.mod_eq_of_lt (by omega), Nat.mod_eq_of_lt (by omega)]
    rw [Int.bmod_def]
    omega
  generalize (BitVec.ofNat 32 p - BitVec.ofNat 32 L) = w at hs
  simp only [BitVec.sle_eq_decide, BitVec.slt_eq_decide]
  have e8 : (8192#32).toInt = 8192 := by decide
  have e0 : (0#32).toInt = 0 := by decide
  split_ifs <;> simp_all <;> omega

theorem hi_word (p R : ℕ) (hp : p < 8192) (hR : R ≤ 8) :
    (IntOp.minsi 8192#32 (IntOp.maxsi 0#32 (IntOp.addi (IntOp.addi (BitVec.ofNat 32 p) (BitVec.ofNat 32 R)) 1#32))).toInt
      = ((min (p + R + 1) 8192 : ℕ) : ℤ) := by
  unfold IntOp.minsi IntOp.maxsi IntOp.addi
  have hs : (BitVec.ofNat 32 p + BitVec.ofNat 32 R + 1#32).toInt = (p : ℤ) + R + 1 := by
    rw [← BitVec.ofNat_add, ← BitVec.ofNat_add, BitVec.toInt_eq_toNat_of_lt (by rw [BitVec.toNat_ofNat]; omega), BitVec.toNat_ofNat]
    rw [Nat.mod_eq_of_lt (by omega)]
    omega
  generalize (BitVec.ofNat 32 p + BitVec.ofNat 32 R + 1#32) = w at hs
  simp only [BitVec.slt_eq_decide]
  have e8 : (8192#32).toInt = 8192 := by decide
  have e0 : (0#32).toInt = 0 := by decide
  split_ifs <;> simp_all <;> omega

/-- A word that is not negative is left as it is. -/
theorem wrap_word (w : BitVec 32) (n : ℕ) (h : w.toInt = n) :
    Scalar.select (IntOp.cmpi .slt w 0#32) (IntOp.addi w 8193#32) w = w := by
  unfold Scalar.select IntOp.cmpi
  have e0 : (0#32).toInt = 0 := by decide
  rw [if_neg]
  simp only [BitVec.slt_eq_decide, e0, h]
  rw [decide_eq_false (by omega)]
  decide

/-- The difference of two words within the array. -/
theorem sub_word (u w : BitVec 32) (a b : ℕ) (ha : u.toInt = a) (hb : w.toInt = b) (h : b ≤ a) (h8 : a ≤ 8192) :
    (IntOp.subi u w).toInt = ((a - b : ℕ) : ℤ) := by
  unfold IntOp.subi
  rw [BitVec.toInt_sub, ha, hb, Int.bmod_def]
  omega

end Cert.Spec
-- ==== Proof.RefPool.lean ====
module

public import proofs.«01_k».proof.Proof.RefH
public import proofs.«01_k».proof.Proof.Finite
public import proofs.«01_k».proof.Proof.Clip

@[expose] public section

/-! The reference's pooling: the mean of a window's rows less the row itself, from running sums. -/

namespace Cert.RefVal
open Idealize.ShloMosaic Idealize.ShloMosaic.StableHlo Cert.ReferenceIdeal Cert.ReferenceIdeal.Read Cert.Rd Cert.Spec

/-- A difference of running sums, over the window's size, less the row. -/
theorem dev_of_sums (win H : ℕ → ℕ → EReal) (g p c : ℕ) (hg : g < 4) (hc : c / 128 = g)
    (hH : ∀ n, ¬(16 ≤ n ∧ n < 8208) → ∀ k, H n k = 0) (hr : ∀ n, IsReal (zc win H n c)) :
    Ideal.div ((∑ q ∈ Finset.range (min (p + 2 ^ g + 1) 8192), zc win H (q + 16) c) - ∑ q ∈ Finset.range (p - (2 ^ g - 1)), zc win H (q + 16) c)
        (((cnt g p : ℝ)) : EReal) - zc win H (p + 16) c = dev win 0 H p c ∨ 8192 ≤ p := by
  by_cases hp : 8192 ≤ p
  · exact Or.inr hp
  left
  have h1 : 1 ≤ 2 ^ g := Nat.one_le_two_pow
  have h8 : 2 ^ g ≤ 8 := by
    have : 2 ^ g ≤ 2 ^ 3 := Nat.pow_le_pow_right (by omega) (by omega)
    omega
  unfold dev tot
  rw [hc, Nat.zero_add, sum_diff _ _ _ (by omega) fun i _ => hr _, pow_succ, mul_comm (2 ^ g) 2,
    window_inside (fun n => zc win H n c) (fun n hn => zc_zero win H n c (hH n hn)) p (2 ^ g) h1 h8]

variable (x0 : (⟨S8x8192x1024, .f32⟩ : BufTy).Contents (Elt Ideal)) (x2 : (⟨S1x1024, .f32⟩ : BufTy).Contents (Elt Ideal))
  (x3 : (⟨S1x1024x3072, .f32⟩ : BufTy).Contents (Elt Ideal))

theorem hp_zero (b n : ℕ) (h : ¬(16 ≤ n ∧ n < 8208)) (k : ℕ) : hp x0 x2 b n k = 0 := if_neg h

theorem hp_real (hgain : ∀ k < 1024, IsReal (rd2 x2 0 k)) (b n k : ℕ) (hk : k < 1024) : IsReal (hp x0 x2 b n k) := by
  unfold hp
  split_ifs
  · exact rms_real _ _ k hk (hgain k hk)
  · exact isReal_zero

theorem run_at (i : S8x8192x512.Idx) :
    val_main_v32 (F := Ideal) x0 x2 x3 i
      = ∑ q ∈ Finset.range ((i 1).val + 1), zc (rd3 x3 0) (hp x0 x2 (i 0).val) (q + 16) (i 2).val := by
  have h0 : (i 0).val < 8 := (i 0).isLt
  have h1 : (i 1).val < 8192 := (i 1).isLt
  have h2 : (i 2).val < 512 := (i 2).isLt
  unfold val_main_v32
  have hz : val_main_call0_call0_v0 (F := Ideal) (Shape.Idx.first Gen.h_S_) = (0 : EReal) := by
    rw [val_main_call0_call0_v0_apply]
    exact Ideal.ofBits_zero_f32
  unfold Host.reduceWindowAdd
  rw [Ideal.hostReduceWindowAdd_def, hz]
  refine (cumsum3 (B := 8) (M := 8191) (C := 512) (val_main_v25 (F := Ideal) x0 x2 x3) _ i).trans ?_
  refine Finset.sum_congr rfl fun q hq => ?_
  have hq := Finset.mem_range.1 hq
  rw [rd3_of _ h0 (by omega) h2, v25_at]
  rfl

theorem sums_at (i : S8x8193x512.Idx) :
    val_main_v33 (F := Ideal) x0 x2 x3 i
      = ∑ q ∈ Finset.range (i 1).val, zc (rd3 x3 0) (hp x0 x2 (i 0).val) (q + 16) (i 2).val := by
  have h0 : (i 0).val < 8 := (i 0).isLt
  have h1 : (i 1).val < 8193 := (i 1).isLt
  have h2 : (i 2).val < 512 := (i 2).isLt
  unfold val_main_v33
  refine (concat_mid (B := 8) (M := 8192) (C := 512) _ _ _ i).trans ?_
  split_ifs with h
  · rw [rd3_of _ h0 (by omega) h2, val_main_v31_apply, show (i 1).val = 0 by omega, Finset.sum_range_zero]
    exact Ideal.ofBits_zero_f32
  · rw [rd3_of _ h0 (by omega) h2, run_at]
    show ∑ q ∈ Finset.range ((i 1).val - 1 + 1), _ = _
    rw [Nat.sub_add_cancel (by omega)]
    rfl

theorem lo0_at (i : S8192.Idx) : (val_main_v37 (F := Ideal) i).toInt = (((i 0).val - 0 : ℕ) : ℤ) :=
  lo_word (i 0).val 0 (i 0).isLt (by omega)

theorem hi0_at (i : S8192.Idx) : (val_main_v42 (F := Ideal) i).toInt = ((min ((i 0).val + 1 + 1) 8192 : ℕ) : ℤ) :=
  hi_word (i 0).val 1 (i 0).isLt (by omega)

theorem slice0_at (i : S8x8193x128.Idx) :
    val_main_v43 (F := Ideal) x0 x2 x3 i
      = ∑ q ∈ Finset.range (i 1).val, zc (rd3 x3 0) (hp x0 x2 (i 0).val) (q + 16) (i 2).val := by
  rw [val_main_v43_apply, sums_at]

theorem upper0_at (i : S8x8192x128.Idx) :
    val_main_v50 (F := Ideal) x0 x2 x3 i
      = ∑ q ∈ Finset.range (min ((i 1).val + 1 + 1) 8192), zc (rd3 x3 0) (hp x0 x2 (i 0).val) (q + 16) (i 2).val := by
  have h0 : (i 0).val < 8 := (i 0).isLt
  have h1 : (i 1).val < 8192 := (i 1).isLt
  have h2 : (i 2).val < 128 := (i 2).isLt
  unfold val_main_v50
  refine (gather_mid (B := 8) (N := 8193) (C := 128) (n := 8192) Gen.facts.gather_S8x8193x128_S8192x1_S8x8192x128_02_1_n_n_1_1_81128_wf
    _ _ i (min ((i 1).val + 1 + 1) 8192) (by omega) fun q hq => ?_).trans ?_
  · rw [val_main_v49_apply]
    have hw := hi0_at (idx_main_v49 (ix2 q (0 : Fin 1)))
    refine (congrArg BitVec.toInt (wrap_word _ _ hw)).trans (hw.trans ?_)
    show ((min (q.val + 1 + 1) 8192 : ℕ) : ℤ) = _
    rw [hq]
  · rw [rd3_of _ h0 (by omega) h2, slice0_at]
    rfl

theorem lower0_at (i : S8x8192x128.Idx) :
    val_main_v57 (F := Ideal) x0 x2 x3 i
      = ∑ q ∈ Finset.range ((i 1).val - 0), zc (rd3 x3 0) (hp x0 x2 (i 0).val) (q + 16) (i 2).val := by
  have h0 : (i 0).val < 8 := (i 0).isLt
  have h1 : (i 1).val < 8192 := (i 1).isLt
  have h2 : (i 2).val < 128 := (i 2).isLt
  unfold val_main_v57
  refine (gather_mid (B := 8) (N := 8193) (C := 128) (n := 8192) Gen.facts.gather_S8x8193x128_S8192x1_S8x8192x128_02_1_n_n_1_1_81128_wf
    _ _ i ((i 1).val - 0) (by omega) fun q hq => ?_).trans ?_
  · rw [val_main_v56_apply]
    have hw := lo0_at (idx_main_v56 (ix2 q (0 : Fin 1)))
    refine (congrArg BitVec.toInt (wrap_word _ _ hw)).trans (hw.trans ?_)
    show ((q.val - 0 : ℕ) : ℤ) = _
    rw [hq]
  · rw [rd3_of _ h0 (by omega) h2, slice0_at]
    rfl

theorem size0_at (i : S8192.Idx) : val_main_v60 (F := Ideal) i = (((cnt 0 (i 0).val : ℝ)) : EReal) := by
  have h1 : (i 0).val < 8192 := (i 0).isLt
  have hs := sub_word _ _ _ _ (hi0_at i) (lo0_at i) (by omega) (by omega)
  have e : val_main_v60 (F := Ideal) i = (((IntOp.subi (val_main_v42 (F := Ideal) i) (val_main_v37 (F := Ideal) i)).toInt : ℝ) : EReal) := rfl
  rw [e, hs, Int.cast_natCast]
  rfl

theorem dev0_at (hgain : ∀ k < 1024, IsReal (rd2 x2 0 k)) (hwin : ∀ k < 1024, ∀ c < 512, IsReal (rd3 x3 0 k c)) (i : S8x8192x128.Idx) :
    val_main_v65 (F := Ideal) x0 x2 x3 i = dev (rd3 x3 0) 0 (hp x0 x2 (i 0).val) (i 1).val (0 + (i 2).val) := by
  have h1 : (i 1).val < 8192 := (i 1).isLt
  have h2 : (i 2).val < 128 := (i 2).isLt
  rw [val_main_v65_apply, val_main_v63_apply, val_main_v58_apply, val_main_v62_apply, val_main_v61_apply, val_main_v64_apply,
    upper0_at, lower0_at, size0_at, v25_at]
  have e := (dev_of_sums (rd3 x3 0) (hp x0 x2 (i 0).val) 0 (i 1).val (0 + (i 2).val) (by omega) (by omega)
    (fun n hn k => hp_zero x0 x2 _ n hn k)
    (fun n => zc_real _ _ _ _ (fun k hk => hp_real x0 x2 hgain _ _ k hk) fun k hk => hwin k hk _ (by omega))).resolve_right (by omega)
  rw [Nat.zero_add] at e ⊢
  exact e

theorem lo1_at (i : S8192.Idx) : (val_main_v68 (F := Ideal) i).toInt = (((i 0).val - 1 : ℕ) : ℤ) :=
  lo_word (i 0).val 1 (i 0).isLt (by omega)

theorem hi1_at (i : S8192.Idx) : (val_main_v73 (F := Ideal) i).toInt = ((min ((i 0).val + 2 + 1) 8192 : ℕ) : ℤ) :=
  hi_word (i 0).val 2 (i 0).isLt (by omega)

theorem slice1_at (i : S8x8193x128.Idx) :
    val_main_v74 (F := Ideal) x0 x2 x3 i
      = ∑ q ∈ Finset.range (i 1).val, zc (rd3 x3 0) (hp x0 x2 (i 0).val) (q + 16) (128 + (i 2).val) := by
  rw [val_main_v74_apply, sums_at]

theorem upper1_at (i : S8x8192x128.Idx) :
    val_main_v81 (F := Ideal) x0 x2 x3 i
      = ∑ q ∈ Finset.range (min ((i 1).val + 2 + 1) 8192), zc (rd3 x3 0) (hp x0 x2 (i 0).val) (q + 16) (128 + (i 2).val) := by
  have h0 : (i 0).val < 8 := (i 0).isLt
  have h1 : (i 1).val < 8192 := (i 1).isLt
  have h2 : (i 2).val < 128 := (i 2).isLt
  unfold val_main_v81
  refine (gather_mid (B := 8) (N := 8193) (C := 128) (n := 8192) Gen.facts.gather_S8x8193x128_S8192x1_S8x8192x128_02_1_n_n_1_1_81128_wf
    _ _ i (min ((i 1).val + 2 + 1) 8192) (by omega) fun q hq => ?_).trans ?_
  · rw [val_main_v80_apply]
    have hw := hi1_at (idx_main_v80 (ix2 q (0 : Fin 1)))
    refine (congrArg BitVec.toInt (wrap_word _ _ hw)).trans (hw.trans ?_)
    show ((min (q.val + 2 + 1) 8192 : ℕ) : ℤ) = _
    rw [hq]
  · rw [rd3_of _ h0 (by omega) h2, slice1_at]
    rfl

theorem lower1_at (i : S8x8192x128.Idx) :
    val_main_v88 (F := Ideal) x0 x2 x3 i
      = ∑ q ∈ Finset.range ((i 1).val - 1), zc (rd3 x3 0) (hp x0 x2 (i 0).val) (q + 16) (128 + (i 2).val) := by
  have h0 : (i 0).val < 8 := (i 0).isLt
  have h1 : (i 1).val < 8192 := (i 1).isLt
  have h2 : (i 2).val < 128 := (i 2).isLt
  unfold val_main_v88
  refine (gather_mid (B := 8) (N := 8193) (C := 128) (n := 8192) Gen.facts.gather_S8x8193x128_S8192x1_S8x8192x128_02_1_n_n_1_1_81128_wf
    _ _ i ((i 1).val - 1) (by omega) fun q hq => ?_).trans ?_
  · rw [val_main_v87_apply]
    have hw := lo1_at (idx_main_v87 (ix2 q (0 : Fin 1)))
    refine (congrArg BitVec.toInt (wrap_word _ _ hw)).trans (hw.trans ?_)
    show ((q.val - 1 : ℕ) : ℤ) = _
    rw [hq]
  · rw [rd3_of _ h0 (by omega) h2, slice1_at]
    rfl

theorem size1_at (i : S8192.Idx) : val_main_v91 (F := Ideal) i = (((cnt 1 (i 0).val : ℝ)) : EReal) := by
  have h1 : (i 0).val < 8192 := (i 0).isLt
  have hs := sub_word _ _ _ _ (hi1_at i) (lo1_at i) (by omega) (by omega)
  have e : val_main_v91 (F := Ideal) i = (((IntOp.subi (val_main_v73 (F := Ideal) i) (val_main_v68 (F := Ideal) i)).toInt : ℝ) : EReal) := rfl
  rw [e, hs, Int.cast_natCast]
  rfl

theorem dev1_at (hgain : ∀ k < 1024, IsReal (rd2 x2 0 k)) (hwin : ∀ k < 1024, ∀ c < 512, IsReal (rd3 x3 0 k c)) (i : S8x8192x128.Idx) :
    val_main_v96 (F := Ideal) x0 x2 x3 i = dev (rd3 x3 0) 0 (hp x0 x2 (i 0).val) (i 1).val (128 + (i 2).val) := by
  have h1 : (i 1).val < 8192 := (i 1).isLt
  have h2 : (i 2).val < 128 := (i 2).isLt
  rw [val_main_v96_apply, val_main_v94_apply, val_main_v89_apply, val_main_v93_apply, val_main_v92_apply, val_main_v95_apply,
    upper1_at, lower1_at, size1_at, v25_at]
  have e := (dev_of_sums (rd3 x3 0) (hp x0 x2 (i 0).val) 1 (i 1).val (128 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

theorem lo2_at (i : S8192.Idx) : (val_main_v99 (F := Ideal) i).toInt = (((i 0).val - 3 : ℕ) : ℤ) :=
  lo_word (i 0).val 3 (i 0).isLt (by omega)

theorem hi2_at (i : S8192.Idx) : (val_main_v104 (F := Ideal) i).toInt = ((min ((i 0).val + 4 + 1) 8192 : ℕ) : ℤ) :=
  hi_word (i 0).val 4 (i 0).isLt (by omega)

theorem slice2_at (i : S8x8193x128.Idx) :
    val_main_v105 (F := Ideal) x0 x2 x3 i
      = ∑ q ∈ Finset.range (i 1).val, zc (rd3 x3 0) (hp x0 x2 (i 0).val) (q + 16) (256 + (i 2).val) := by
  rw [val_main_v105_apply, sums_at]

theorem upper2_at (i : S8x8192x128.Idx) :
    val_main_v112 (F := Ideal) x0 x2 x3 i
      = ∑ q ∈ Finset.range (min ((i 1).val + 4 + 1) 8192), zc (rd3 x3 0) (hp x0 x2 (i 0).val) (q + 16) (256 + (i 2).val) := by
  have h0 : (i 0).val < 8 := (i 0).isLt
  have h1 : (i 1).val < 8192 := (i 1).isLt
  have h2 : (i 2).val < 128 := (i 2).isLt
  unfold val_main_v112
  refine (gather_mid (B := 8) (N := 8193) (C := 128) (n := 8192) Gen.facts.gather_S8x8193x128_S8192x1_S8x8192x128_02_1_n_n_1_1_81128_wf
    _ _ i (min ((i 1).val + 4 + 1) 8192) (by omega) fun q hq => ?_).trans ?_
  · rw [val_main_v111_apply]
    have hw := hi2_at (idx_main_v111 (ix2 q (0 : Fin 1)))
    refine (congrArg BitVec.toInt (wrap_word _ _ hw)).trans (hw.trans ?_)
    show ((min (q.val + 4 + 1) 8192 : ℕ) : ℤ) = _
    rw [hq]
  · rw [rd3_of _ h0 (by omega) h2, slice2_at]
    rfl

theorem lower2_at (i : S8x8192x128.Idx) :
    val_main_v119 (F := Ideal) x0 x2 x3 i
      = ∑ q ∈ Finset.range ((i 1).val - 3), zc (rd3 x3 0) (hp x0 x2 (i 0).val) (q + 16) (256 + (i 2).val) := by
  have h0 : (i 0).val < 8 := (i 0).isLt
  have h1 : (i 1).val < 8192 := (i 1).isLt
  have h2 : (i 2).val < 128 := (i 2).isLt
  unfold val_main_v119
  refine (gather_mid (B := 8) (N := 8193) (C := 128) (n := 8192) Gen.facts.gather_S8x8193x128_S8192x1_S8x8192x128_02_1_n_n_1_1_81128_wf
    _ _ i ((i 1).val - 3) (by omega) fun q hq => ?_).trans ?_
  · rw [val_main_v118_apply]
    have hw := lo2_at (idx_main_v118 (ix2 q (0 : Fin 1)))
    refine (congrArg BitVec.toInt (wrap_word _ _ hw)).trans (hw.trans ?_)
    show ((q.val - 3 : ℕ) : ℤ) = _
    rw [hq]
  · rw [rd3_of _ h0 (by omega) h2, slice2_at]
    rfl

theorem size2_at (i : S8192.Idx) : val_main_v122 (F := Ideal) i = (((cnt 2 (i 0).val : ℝ)) : EReal) := by
  have h1 : (i 0).val < 8192 := (i 0).isLt
  have hs := sub_word _ _ _ _ (hi2_at i) (lo2_at i) (by omega) (by omega)
  have e : val_main_v122 (F := Ideal) i = (((IntOp.subi (val_main_v104 (F := Ideal) i) (val_main_v99 (F := Ideal) i)).toInt : ℝ) : EReal) := rfl
  rw [e, hs, Int.cast_natCast]
  rfl

theorem dev2_at (hgain : ∀ k < 1024, IsReal (rd2 x2 0 k)) (hwin : ∀ k < 1024, ∀ c < 512, IsReal (rd3 x3 0 k c)) (i : S8x8192x128.Idx) :
    val_main_v127 (F := Ideal) x0 x2 x3 i = dev (rd3 x3 0) 0 (hp x0 x2 (i 0).val) (i 1).val (256 + (i 2).val) := by
  have h1 : (i 1).val < 8192 := (i 1).isLt
  have h2 : (i 2).val < 128 := (i 2).isLt
  rw [val_main_v127_apply, val_main_v125_apply, val_main_v120_apply, val_main_v124_apply, val_main_v123_apply, val_main_v126_apply,
    upper2_at, lower2_at, size2_at, v25_at]
  have e := (dev_of_sums (rd3 x3 0) (hp x0 x2 (i 0).val) 2 (i 1).val (256 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

theorem lo3_at (i : S8192.Idx) : (val_main_v130 (F := Ideal) i).toInt = (((i 0).val - 7 : ℕ) : ℤ) :=
  lo_word (i 0).val 7 (i 0).isLt (by omega)

theorem hi3_at (i : S8192.Idx) : (val_main_v135 (F := Ideal) i).toInt = ((min ((i 0).val + 8 + 1) 8192 : ℕ) : ℤ) :=
  hi_word (i 0).val 8 (i 0).isLt (by omega)

theorem slice3_at (i : S8x8193x128.Idx) :
    val_main_v136 (F := Ideal) x0 x2 x3 i
      = ∑ q ∈ Finset.range (i 1).val, zc (rd3 x3 0) (hp x0 x2 (i 0).val) (q + 16) (384 + (i 2).val) := by
  rw [val_main_v136_apply, sums_at]

theorem upper3_at (i : S8x8192x128.Idx) :
    val_main_v143 (F := Ideal) x0 x2 x3 i
      = ∑ q ∈ Finset.range (min ((i 1).val + 8 + 1) 8192), zc (rd3 x3 0) (hp x0 x2 (i 0).val) (q + 16) (384 + (i 2).val) := by
  have h0 : (i 0).val < 8 := (i 0).isLt
  have h1 : (i 1).val < 8192 := (i 1).isLt
  have h2 : (i 2).val < 128 := (i 2).isLt
  unfold val_main_v143
  refine (gather_mid (B := 8) (N := 8193) (C := 128) (n := 8192) Gen.facts.gather_S8x8193x128_S8192x1_S8x8192x128_02_1_n_n_1_1_81128_wf
    _ _ i (min ((i 1).val + 8 + 1) 8192) (by omega) fun q hq => ?_).trans ?_
  · rw [val_main_v142_apply]
    have hw := hi3_at (idx_main_v142 (ix2 q (0 : Fin 1)))
    refine (congrArg BitVec.toInt (wrap_word _ _ hw)).trans (hw.trans ?_)
    show ((min (q.val + 8 + 1) 8192 : ℕ) : ℤ) = _
    rw [hq]
  · rw [rd3_of _ h0 (by omega) h2, slice3_at]
    rfl

theorem lower3_at (i : S8x8192x128.Idx) :
    val_main_v150 (F := Ideal) x0 x2 x3 i
      = ∑ q ∈ Finset.range ((i 1).val - 7), zc (rd3 x3 0) (hp x0 x2 (i 0).val) (q + 16) (384 + (i 2).val) := by
  have h0 : (i 0).val < 8 := (i 0).isLt
  have h1 : (i 1).val < 8192 := (i 1).isLt
  have h2 : (i 2).val < 128 := (i 2).isLt
  unfold val_main_v150
  refine (gather_mid (B := 8) (N := 8193) (C := 128) (n := 8192) Gen.facts.gather_S8x8193x128_S8192x1_S8x8192x128_02_1_n_n_1_1_81128_wf
    _ _ i ((i 1).val - 7) (by omega) fun q hq => ?_).trans ?_
  · rw [val_main_v149_apply]
    have hw := lo3_at (idx_main_v149 (ix2 q (0 : Fin 1)))
    refine (congrArg BitVec.toInt (wrap_word _ _ hw)).trans (hw.trans ?_)
    show ((q.val - 7 : ℕ) : ℤ) = _
    rw [hq]
  · rw [rd3_of _ h0 (by omega) h2, slice3_at]
    rfl

theorem size3_at (i : S8192.Idx) : val_main_v153 (F := Ideal) i = (((cnt 3 (i 0).val : ℝ)) : EReal) := by
  have h1 : (i 0).val < 8192 := (i 0).isLt
  have hs := sub_word _ _ _ _ (hi3_at i) (lo3_at i) (by omega) (by omega)
  have e : val_main_v153 (F := Ideal) i = (((IntOp.subi (val_main_v135 (F := Ideal) i) (val_main_v130 (F := Ideal) i)).toInt : ℝ) : EReal) := rfl
  rw [e, hs, Int.cast_natCast]
  rfl

theorem dev3_at (hgain : ∀ k < 1024, IsReal (rd2 x2 0 k)) (hwin : ∀ k < 1024, ∀ c < 512, IsReal (rd3 x3 0 k c)) (i : S8x8192x128.Idx) :
    val_main_v158 (F := Ideal) x0 x2 x3 i = dev (rd3 x3 0) 0 (hp x0 x2 (i 0).val) (i 1).val (384 + (i 2).val) := by
  have h1 : (i 1).val < 8192 := (i 1).isLt
  have h2 : (i 2).val < 128 := (i 2).isLt
  rw [val_main_v158_apply, val_main_v156_apply, val_main_v151_apply, val_main_v155_apply, val_main_v154_apply, val_main_v157_apply,
    upper3_at, lower3_at, size3_at, v25_at]
  have e := (dev_of_sums (rd3 x3 0) (hp x0 x2 (i 0).val) 3 (i 1).val (384 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

end Cert.RefVal
-- ==== Proof.RefMix.lean ====
module

public import proofs.«01_k».proof.Proof.RefPool

@[expose] public section

/-! The reference's two mixers, side by side. -/

namespace Cert.RefVal
open Idealize.ShloMosaic Idealize.ShloMosaic.StableHlo Cert.ReferenceIdeal Cert.ReferenceIdeal.Read Cert.Rd Cert.Spec

/-- One over one plus the exponential of the negation is the logistic function. -/
theorem logistic_of (z : EReal) :
    Ideal.div (Ideal.ofBits .f32 0x3F800000#32) (Ideal.ofBits .f32 0x3F800000#32 + Ideal.exp (-z)) = Ideal.logistic z := by
  rw [Ideal.ofBits_one_f32]
  rfl

variable (x0 : (⟨S8x8192x1024, .f32⟩ : BufTy).Contents (Elt Ideal)) (x2 : (⟨S1x1024, .f32⟩ : BufTy).Contents (Elt Ideal)) (x3 : (⟨S1x1024x3072, .f32⟩ : BufTy).Contents (Elt Ideal))
  (x4 : (⟨S1x4x128x128, .f32⟩ : BufTy).Contents (Elt Ideal)) (x5 : (⟨S1x512, .f32⟩ : BufTy).Contents (Elt Ideal)) (x6 : (⟨S1x3x512, .f32⟩ : BufTy).Contents (Elt Ideal))
  (x7 : (⟨S1x1024x1024, .f32⟩ : BufTy).Contents (Elt Ideal)) (x8 : (⟨S1x1024, .f32⟩ : BufTy).Contents (Elt Ideal)) (x9 : (⟨S1x256x1024, .f32⟩ : BufTy).Contents (Elt Ideal))
  (x10 : (⟨S1x1024x1024, .f32⟩ : BufTy).Contents (Elt Ideal)) (x11 : (⟨S1x1024, .f32⟩ : BufTy).Contents (Elt Ideal))

theorem groups_at (hgain : ∀ k < 1024, IsReal (rd2 x2 0 k)) (hwin : ∀ k < 1024, ∀ c < 512, IsReal (rd3 x3 0 k c)) (i : S8x8192x4x128.Idx) :
    val_main_v163 (F := Ideal) x0 x2 x3 i = dev (rd3 x3 0) 0 (hp x0 x2 (i 0).val) (i 1).val (128 * (i 2).val + (i 3).val) := by
  unfold val_main_v163
  refine concat_four (B := 8) (M := 8192) (C := 128) _ _ _ _ _ i (fun b p g k => dev (rd3 x3 0) 0 (hp x0 x2 b) p (128 * g + k)) ?_ ?_ ?_ ?_
  · intro i
    rw [val_main_v159_apply, dev0_at x0 x2 x3 hgain hwin]
  · intro i
    rw [val_main_v160_apply, dev1_at x0 x2 x3 hgain hwin]
  · intro i
    rw [val_main_v161_apply, dev2_at x0 x2 x3 hgain hwin]
  · intro i
    rw [val_main_v162_apply, dev3_at x0 x2 x3 hgain hwin]

theorem mixed_at (hgain : ∀ k < 1024, IsReal (rd2 x2 0 k)) (hwin : ∀ k < 1024, ∀ c < 512, IsReal (rd3 x3 0 k c)) (i : S8x8192x512.Idx) :
    val_main_v166 (F := Ideal) x0 x2 x3 x4 i
      = ∑ k : Fin 128, dev (rd3 x3 0) 0 (hp x0 x2 (i 0).val) (i 1).val (128 * ((i 2).val / 128) + k) * rd4 x4 0 ((i 2).val / 128) k ((i 2).val % 128) := by
  have h0 : (i 0).val < 8 := (i 0).isLt
  have h1 : (i 1).val < 8192 := (i 1).isLt
  have h2 : (i 2).val < 512 := (i 2).isLt
  rw [val_main_v166_apply, val_main_v165_apply, val_main_v164_apply]
  refine Finset.sum_congr rfl fun k _ => ?_
  have hk := k.isLt
  rw [val_main_v3_apply, val4 x4, groups_at x0 x2 x3 hgain hwin, mul_comm]
  have e0 : (((i 0).val * 8192 + (i 1).val) * 512 + (i 2).val) / 4194304 = (i 0).val := by omega
  have e1 : (((i 0).val * 8192 + (i 1).val) * 512 + (i 2).val) / 512 % 8192 = (i 1).val := by omega
  have e2 : (((i 0).val * 8192 + (i 1).val) * 512 + (i 2).val) / 128 % 4 = (i 2).val / 128 := by omega
  have e3 : (((i 0).val * 8192 + (i 1).val) * 512 + (i 2).val) % 128 = (i 2).val % 128 := by omega
  show dev (rd3 x3 0) 0 (hp x0 x2 ((((i 0).val * 8192 + (i 1).val) * 512 + (i 2).val) / 4194304)) ((((i 0).val * 8192 + (i 1).val) * 512 + (i 2).val) / 512 % 8192)
      (128 * ((((i 0).val * 8192 + (i 1).val) * 512 + (i 2).val) / 128 % 4) + k.val)
    * rd4 x4 0 ((((((i 0).val * 8192 + (i 1).val) * 512 + (i 2).val) / 128 % 4 * 128 + k.val) * 128 + (((i 0).val * 8192 + (i 1).val) * 512 + (i 2).val) % 128) / 16384 % 4)
      ((((((i 0).val * 8192 + (i 1).val) * 512 + (i 2).val) / 128 % 4 * 128 + k.val) * 128 + (((i 0).val * 8192 + (i 1).val) * 512 + (i 2).val) % 128) / 128 % 128)
      ((((((i 0).val * 8192 + (i 1).val) * 512 + (i 2).val) / 128 % 4 * 128 + k.val) * 128 + (((i 0).val * 8192 + (i 1).val) * 512 + (i 2).val) % 128) % 128) = _
  rw [e0, e1, e2, e3]
  have f1 : (((i 2).val / 128 * 128 + k.val) * 128 + (i 2).val % 128) / 16384 % 4 = (i 2).val / 128 := by omega
  have f2 : (((i 2).val / 128 * 128 + k.val) * 128 + (i 2).val % 128) / 128 % 128 = k.val := by omega
  have f3 : (((i 2).val / 128 * 128 + k.val) * 128 + (i 2).val % 128) % 128 = (i 2).val % 128 := by omega
  rw [f1, f2, f3]

/-- The weights of the reference's arguments. -/
noncomputable abbrev WW : Wts := wtsOf x2 x3 x4 x5 x6 x7 x8 x9 x10 x11

theorem silu_a (i : S8x8192x512.Idx) : val_main_v170 (F := Ideal) x0 x2 x3 i
    = zc (rd3 x3 0) (hp x0 x2 (i 0).val) ((i 1).val + 16) (512 + (i 2).val)
      * Ideal.logistic (zc (rd3 x3 0) (hp x0 x2 (i 0).val) ((i 1).val + 16) (512 + (i 2).val)) := by
  rw [← v26_at, ← logistic_of, val_main_v170_apply, val_main_call9_v5_apply, val_main_call9_v4_apply, val_main_call9_v3_apply,
    val_main_call9_v2_apply, val_main_call9_v1_apply, val_main_call9_v0_apply]
  rfl

theorem silu_b (i : S8x8192x512.Idx) : val_main_v195 (F := Ideal) x0 x2 x3 i
    = zc (rd3 x3 0) (hp x0 x2 (i 0).val) ((i 1).val + 16) (2560 + (i 2).val)
      * Ideal.logistic (zc (rd3 x3 0) (hp x0 x2 (i 0).val) ((i 1).val + 16) (2560 + (i 2).val)) := by
  rw [← v30_at, ← logistic_of, val_main_v195_apply, val_main_call11_v5_apply, val_main_call11_v4_apply, val_main_call11_v3_apply,
    val_main_call11_v2_apply, val_main_call11_v1_apply, val_main_call11_v0_apply]
  rfl

theorem ya_at (hgain : ∀ k < 1024, IsReal (rd2 x2 0 k)) (hwin : ∀ k < 1024, ∀ c < 512, IsReal (rd3 x3 0 k c)) (i : S8x8192x512.Idx) :
    val_main_v171 (F := Ideal) x0 x2 x3 x4 x5 i
      = ya (WW x2 x3 x4 x5 x6 x7 x8 x9 x10 x11) 0 (hp x0 x2 (i 0).val) (i 1).val (i 2).val := by
  have h2 : (i 2).val < 512 := (i 2).isLt
  rw [val_main_v171_apply, val_main_v169_apply, mixed_at x0 x2 x3 x4 hgain hwin, silu_a, val_main_v168_apply, val_main_v167_apply, val_main_v4_apply, val2 x5]
  show _ * rd2 x5 0 ((i 2).val % 512) * _ = _
  rw [Nat.mod_eq_of_lt h2, mul_assoc]
  rfl

theorem padded_at (i : S8x8194x512.Idx) :
    val_main_v173 (F := Ideal) x0 x2 x3 i = cu (rd3 x3 0) (hp x0 x2 (i 0).val) ((i 1).val + 15) (i 2).val := by
  have h0 : (i 0).val < 8 := (i 0).isLt
  have h1 : (i 1).val < 8194 := (i 1).isLt
  have h2 : (i 2).val < 512 := (i 2).isLt
  have hz : val_main_call10_v0 (F := Ideal) (Shape.Idx.first Gen.h_S_) = (0 : EReal) := by
    rw [val_main_call10_v0_apply]
    show (((0#32 : BitVec 32).toInt : ℝ) : EReal) = 0
    simp
  unfold val_main_v173
  refine (pad_one (B := 8) (M := 8192) (N := 8194) (C := 512) _ _ _ _ i hz).trans ?_
  split_ifs with h
  · rw [rd3_of _ h0 (by omega) h2, val_main_v172_apply, v29_at, v27_at]
    show zc (rd3 x3 0) (hp x0 x2 (i 0).val) ((i 1).val - 1 + 16) (2048 + (i 2).val) * zc (rd3 x3 0) (hp x0 x2 (i 0).val) ((i 1).val - 1 + 16) (1024 + (i 2).val) = _
    rw [show (i 1).val - 1 + 16 = (i 1).val + 15 by omega]
    rfl
  · unfold cu
    rw [zc_zero _ _ _ _ (hp_zero x0 x2 _ _ (by omega)), zero_mul]

theorem tap0 (i : S8x8192x512.Idx) : val_main_v178 (F := Ideal) x6 i = rd3 x6 0 0 (i 2).val := by
  have h2 : (i 2).val < 512 := (i 2).isLt
  rw [val_main_v178_apply, val_main_v177_apply, val_main_v176_apply, val_main_v175_apply, val_main_v5_apply, val3 x6]
  show rd3 x6 0 ((0 * 512 + (i 2).val % 512) / 512 % 3) ((0 * 512 + (i 2).val % 512) % 512) = _
  rw [show (0 * 512 + (i 2).val % 512) / 512 % 3 = 0 by omega, show (0 * 512 + (i 2).val % 512) % 512 = (i 2).val by omega]

theorem tap1 (i : S8x8192x512.Idx) : val_main_v184 (F := Ideal) x6 i = rd3 x6 0 1 (i 2).val := by
  have h2 : (i 2).val < 512 := (i 2).isLt
  rw [val_main_v184_apply, val_main_v183_apply, val_main_v182_apply, val_main_v181_apply, val_main_v5_apply, val3 x6]
  show rd3 x6 0 (((1 + 0) * 512 + (i 2).val % 512) / 512 % 3) (((1 + 0) * 512 + (i 2).val % 512) % 512) = _
  rw [show ((1 + 0) * 512 + (i 2).val % 512) / 512 % 3 = 1 by omega, show ((1 + 0) * 512 + (i 2).val % 512) % 512 = (i 2).val by omega]

theorem tap2 (i : S8x8192x512.Idx) : val_main_v191 (F := Ideal) x6 i = rd3 x6 0 2 (i 2).val := by
  have h2 : (i 2).val < 512 := (i 2).isLt
  rw [val_main_v191_apply, val_main_v190_apply, val_main_v189_apply, val_main_v188_apply, val_main_v5_apply, val3 x6]
  show rd3 x6 0 (((2 + 0) * 512 + (i 2).val % 512) / 512 % 3) (((2 + 0) * 512 + (i 2).val % 512) % 512) = _
  rw [show ((2 + 0) * 512 + (i 2).val % 512) / 512 % 3 = 2 by omega, show ((2 + 0) * 512 + (i 2).val % 512) % 512 = (i 2).val by omega]

theorem conv_at (i : S8x8192x512.Idx) :
    val_main_v193 (F := Ideal) x0 x2 x3 x6 i
      = cu (rd3 x3 0) (hp x0 x2 (i 0).val) ((i 1).val + 15) (i 2).val * rd3 x6 0 0 (i 2).val
        + cu (rd3 x3 0) (hp x0 x2 (i 0).val) ((i 1).val + 16) (i 2).val * rd3 x6 0 1 (i 2).val
        + cu (rd3 x3 0) (hp x0 x2 (i 0).val) ((i 1).val + 17) (i 2).val * rd3 x6 0 2 (i 2).val := by
  rw [val_main_v193_apply, val_main_v186_apply, val_main_v179_apply, val_main_v185_apply,
    val_main_v192_apply, val_main_v174_apply, val_main_v180_apply, val_main_v187_apply, padded_at, padded_at, padded_at, tap0, tap1, tap2]
  show cu (rd3 x3 0) (hp x0 x2 (i 0).val) ((i 1).val + 15) (i 2).val * rd3 x6 0 0 (i 2).val
        + cu (rd3 x3 0) (hp x0 x2 (i 0).val) (1 + (i 1).val + 15) (i 2).val * rd3 x6 0 1 (i 2).val
        + cu (rd3 x3 0) (hp x0 x2 (i 0).val) (2 + (i 1).val + 15) (i 2).val * rd3 x6 0 2 (i 2).val = _
  rw [show 1 + (i 1).val + 15 = (i 1).val + 16 by omega, show 2 + (i 1).val + 15 = (i 1).val + 17 by omega]

theorem yb_at (i : S8x8192x512.Idx) :
    val_main_v196 (F := Ideal) x0 x2 x3 x6 i
      = yb (WW x2 x3 x4 x5 x6 x7 x8 x9 x10 x11) (hp x0 x2 (i 0).val) (i 1).val (i 2).val := by
  rw [val_main_v196_apply, val_main_v194_apply, silu_b, v28_at, conv_at]
  show _ * _ * _ = _
  rw [mul_comm (zc (rd3 x3 0) (hp x0 x2 (i 0).val) ((i 1).val + 16) (1536 + (i 2).val)), mul_assoc]
  rfl

theorem y_at (hgain : ∀ k < 1024, IsReal (rd2 x2 0 k)) (hwin : ∀ k < 1024, ∀ c < 512, IsReal (rd3 x3 0 k c)) (i : S8x8192x1024.Idx) :
    val_main_v197 (F := Ideal) x0 x2 x3 x4 x5 x6 i
      = y (WW x2 x3 x4 x5 x6 x7 x8 x9 x10 x11) 0 (hp x0 x2 (i 0).val) (i 1).val (i 2).val := by
  have h0 : (i 0).val < 8 := (i 0).isLt
  have h1 : (i 1).val < 8192 := (i 1).isLt
  have h2 : (i 2).val < 1024 := (i 2).isLt
  unfold val_main_v197
  refine (concat_last (B := 8) (M := 8192) (C := 512) (D := 512) (E := 1024) _ _ _ i).trans ?_
  unfold y
  split_ifs with h
  · rw [rd3_of _ h0 h1 h, ya_at x0 x2 x3 x4 x5 x6 x7 x8 x9 x10 x11 hgain hwin]
    rfl
  · rw [rd3_of _ h0 h1 (by omega), yb_at x0 x2 x3 x4 x5 x6 x7 x8 x9 x10 x11]
    rfl

end Cert.RefVal
-- ==== Proof.RefOut.lean ====
module

public import proofs.«01_k».proof.Proof.RefMix

@[expose] public section

/-! The reference's output row: the mixers' product, the residual and the gated embedding. -/

namespace Cert.RefVal
open Idealize.ShloMosaic Idealize.ShloMosaic.StableHlo Cert.ReferenceIdeal Cert.ReferenceIdeal.Read Cert.Rd Cert.Spec

variable (x0 : (⟨S8x8192x1024, .f32⟩ : BufTy).Contents (Elt Ideal)) (x1 : (⟨S1x8x8192x256, .f32⟩ : BufTy).Contents (Elt Ideal)) (x2 : (⟨S1x1024, .f32⟩ : BufTy).Contents (Elt Ideal)) (x3 : (⟨S1x1024x3072, .f32⟩ : BufTy).Contents (Elt Ideal))
  (x4 : (⟨S1x4x128x128, .f32⟩ : BufTy).Contents (Elt Ideal)) (x5 : (⟨S1x512, .f32⟩ : BufTy).Contents (Elt Ideal)) (x6 : (⟨S1x3x512, .f32⟩ : BufTy).Contents (Elt Ideal))
  (x7 : (⟨S1x1024x1024, .f32⟩ : BufTy).Contents (Elt Ideal)) (x8 : (⟨S1x1024, .f32⟩ : BufTy).Contents (Elt Ideal)) (x9 : (⟨S1x256x1024, .f32⟩ : BufTy).Contents (Elt Ideal))
  (x10 : (⟨S1x1024x1024, .f32⟩ : BufTy).Contents (Elt Ideal)) (x11 : (⟨S1x1024, .f32⟩ : BufTy).Contents (Elt Ideal))

theorem o_at (hgain : ∀ k < 1024, IsReal (rd2 x2 0 k)) (hwin : ∀ k < 1024, ∀ c < 512, IsReal (rd3 x3 0 k c)) (i : S8x8192x1024.Idx) :
    val_main_v198 (F := Ideal) x0 x2 x3 x4 x5 x6 x7 i = o (WW x2 x3 x4 x5 x6 x7 x8 x9 x10 x11) 0 (hp x0 x2 (i 0).val) (i 1).val (i 2).val := by
  have h2 : (i 2).val < 1024 := (i 2).isLt
  rw [val_main_v198_apply]
  refine Finset.sum_congr rfl fun k _ => ?_
  have hk := k.isLt
  rw [y_at x0 x2 x3 x4 x5 x6 x7 x8 x9 x10 x11 hgain hwin, val_main_v6_apply, val3 x7]
  show y (WW x2 x3 x4 x5 x6 x7 x8 x9 x10 x11) 0 (hp x0 x2 (i 0).val) (i 1).val k.val * rd3 x7 0 ((k.val * 1024 + (i 2).val) / 1024 % 1024) ((k.val * 1024 + (i 2).val) % 1024) = _
  rw [show (k.val * 1024 + (i 2).val) / 1024 % 1024 = k.val by omega, show (k.val * 1024 + (i 2).val) % 1024 = (i 2).val by omega]
  rfl

theorem res_at (hgain : ∀ k < 1024, IsReal (rd2 x2 0 k)) (hwin : ∀ k < 1024, ∀ c < 512, IsReal (rd3 x3 0 k c)) (i : S8x8192x1024.Idx) :
    val_main_v212 (F := Ideal) x0 x2 x3 x4 x5 x6 x7 x8 i = res (WW x2 x3 x4 x5 x6 x7 x8 x9 x10 x11) 0 (hp x0 x2 (i 0).val) (rd3 x0 (i 0).val) (i 1).val (i 2).val := by
  have h0 : val_main_cst_47 (F := Ideal) (Shape.Idx.first Gen.h_S_) = (0 : EReal) := Ideal.ofBits_zero_f32
  have h2 : (i 2).val < 1024 := (i 2).isLt
  rw [val_main_v212_apply, val3 x0]
  show _ + _ = _ + _
  congr 1
  rw [val_main_v211_apply, val_main_v208_apply, val_main_v207_apply, val_main_v206_apply, val_main_v205_apply, val_main_v203_apply, val_main_v201_apply, val_main_v200_apply, val_main_v202_apply, val_main_v204_apply, val_main_v210_apply, val_main_v209_apply, val_main_v7_apply]
  simp only [val_main_v199_apply]
  rw [val2 x8]
  simp only [o_at x0 x2 x3 x4 x5 x6 x7 x8 x9 x10 x11 hgain hwin]
  rw [h0, zero_add]
  show _ * _ * rd2 x8 0 ((i 2).val % 1024) = _
  rw [Nat.mod_eq_of_lt h2]
  rfl

theorem ple_at (hgain : ∀ k < 1024, IsReal (rd2 x2 0 k)) (hwin : ∀ k < 1024, ∀ c < 512, IsReal (rd3 x3 0 k c)) (i : S8x8192x1024.Idx) :
    val_main_v221 (F := Ideal) x0 x1 x2 x3 x4 x5 x6 x7 x8 x9 x10 i
      = ple (WW x2 x3 x4 x5 x6 x7 x8 x9 x10 x11) 0 (hp x0 x2 (i 0).val) (rd3 x0 (i 0).val) (rd4 x1 0 (i 0).val) (i 1).val (i 2).val := by
  have h0 : (i 0).val < 8 := (i 0).isLt
  have h1 : (i 1).val < 8192 := (i 1).isLt
  have h2 : (i 2).val < 1024 := (i 2).isLt
  have e : val_main_v220 (F := Ideal) x1 x9 i = ∑ k : Fin 256, rd4 x1 0 (i 0).val (i 1).val k * rd3 x9 0 k (i 2).val := by
    rw [val_main_v220_apply]
    refine Finset.sum_congr rfl fun k _ => ?_
    have hk := k.isLt
    rw [val_main_v0_apply, val_main_v8_apply, val3 x9, val4 x1]
    show rd4 x1 0 ((((i 0).val * 8192 + (i 1).val) * 256 + k.val) / 2097152 % 8) ((((i 0).val * 8192 + (i 1).val) * 256 + k.val) / 256 % 8192) ((((i 0).val * 8192 + (i 1).val) * 256 + k.val) % 256)
      * rd3 x9 0 ((k.val * 1024 + (i 2).val) / 1024 % 256) ((k.val * 1024 + (i 2).val) % 1024) = _
    rw [show (((i 0).val * 8192 + (i 1).val) * 256 + k.val) / 2097152 % 8 = (i 0).val by omega,
      show (((i 0).val * 8192 + (i 1).val) * 256 + k.val) / 256 % 8192 = (i 1).val by omega,
      show (((i 0).val * 8192 + (i 1).val) * 256 + k.val) % 256 = k.val by omega,
      show (k.val * 1024 + (i 2).val) / 1024 % 256 = k.val by omega, show (k.val * 1024 + (i 2).val) % 1024 = (i 2).val by omega]
  have f : val_main_v213 (F := Ideal) x0 x2 x3 x4 x5 x6 x7 x8 x10 i
      = ∑ k : Fin 1024, res (WW x2 x3 x4 x5 x6 x7 x8 x9 x10 x11) 0 (hp x0 x2 (i 0).val) (rd3 x0 (i 0).val) (i 1).val k * rd3 x10 0 k (i 2).val := by
    rw [val_main_v213_apply]
    refine Finset.sum_congr rfl fun k _ => ?_
    have hk := k.isLt
    rw [res_at x0 x2 x3 x4 x5 x6 x7 x8 x9 x10 x11 hgain hwin, val_main_v9_apply, val3 x10]
    show res (WW x2 x3 x4 x5 x6 x7 x8 x9 x10 x11) 0 (hp x0 x2 (i 0).val) (rd3 x0 (i 0).val) (i 1).val k.val * rd3 x10 0 ((k.val * 1024 + (i 2).val) / 1024 % 1024) ((k.val * 1024 + (i 2).val) % 1024) = _
    rw [show (k.val * 1024 + (i 2).val) / 1024 % 1024 = k.val by omega, show (k.val * 1024 + (i 2).val) % 1024 = (i 2).val by omega]
  rw [val_main_v221_apply, e, val_main_v219_apply, val_main_v218_apply, val_main_v217_apply, val_main_v216_apply, val_main_v215_apply, val_main_v214_apply, f]
  unfold ple
  rw [← logistic_of]
  rfl

theorem out_at (hgain : ∀ k < 1024, IsReal (rd2 x2 0 k)) (hwin : ∀ k < 1024, ∀ c < 512, IsReal (rd3 x3 0 k c)) (i : S8x8192x1024.Idx) :
    val_main_v235 (F := Ideal) x0 x1 x2 x3 x4 x5 x6 x7 x8 x9 x10 x11 i
      = out (WW x2 x3 x4 x5 x6 x7 x8 x9 x10 x11) 0 (hp x0 x2 (i 0).val) (rd3 x0 (i 0).val) (rd4 x1 0 (i 0).val) (i 1).val (i 2).val := by
  have h0 : val_main_cst_52 (F := Ideal) (Shape.Idx.first Gen.h_S_) = (0 : EReal) := Ideal.ofBits_zero_f32
  have h2 : (i 2).val < 1024 := (i 2).isLt
  rw [val_main_v235_apply, res_at x0 x2 x3 x4 x5 x6 x7 x8 x9 x10 x11 hgain hwin]
  show _ + _ = _ + _
  congr 1
  rw [val_main_v234_apply, val_main_v231_apply, val_main_v230_apply, val_main_v229_apply, val_main_v228_apply, val_main_v226_apply, val_main_v224_apply, val_main_v223_apply, val_main_v225_apply, val_main_v227_apply, val_main_v233_apply, val_main_v232_apply, val_main_v10_apply]
  simp only [val_main_v222_apply]
  rw [val2 x11]
  simp only [ple_at x0 x1 x2 x3 x4 x5 x6 x7 x8 x9 x10 x11 hgain hwin]
  rw [h0, zero_add]
  show _ * _ * rd2 x11 0 ((i 2).val % 1024) = _
  rw [Nat.mod_eq_of_lt h2]
  rfl

end Cert.RefVal
-- ==== Proof.Equal.lean ====
module

public import proofs.«01_k».proof.Proof.Point
public import proofs.«01_k».proof.Proof.RefOut

@[expose] public section

/-! The equation: the kernel's output array is the reference's result of the same arguments. -/

noncomputable section

namespace Cert.KernelIdeal.Arr

open Idealize.ShloMosaic Idealize.ShloMosaic.TcCoe Idealize.ShloMosaic.Tactic Idealize.SL.Sem
open Cert.KernelIdeal Cert.KernelIdeal.Gen Cert.Rd Cert.Spec

variable (m : (ℓ : Loc nD τ sig) → Buf (Elt Ideal) ℓ) (c : Dev nD)

theorem array_eq (hgain : ∀ k < 1024, IsReal (rd2 (m ((c : Thread nD τ).loc main_arg2) : Vec Ideal S1x1024 .f32) 0 k))
    (hwin : ∀ k < 1024, ∀ j < 512, IsReal (rd3 (m ((c : Thread nD τ).loc main_arg3) : Vec Ideal S1x1024x3072 .f32) 0 k j)) :
    Cert.ReferenceIdeal.Read.val_main_v235 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) = Value.G14 m c := by
  funext i
  have h0 : (i 0).val < 8 := (i 0).isLt
  have h1 : (i 1).val < 8192 := (i 1).isLt
  have h2 : (i 2).val < 1024 := (i 2).isLt
  refine (Cert.RefVal.out_at _ _ _ _ _ _ _ _ _ _ _ _ hgain hwin i).trans ?_
  refine Eq.trans ?_ (val3 (Value.G14 m c : Vec Ideal S8x8192x1024 .f32) i).symm
  rw [array_at m c _ _ _ h0 h1 h2]
  rfl

end Cert.KernelIdeal.Arr
-- ==== Proof.BoundsSample.lean ====
module

public import proofs.«01_k».proof.Proof.Bounds
public import proofs.«01_k».proof.Proof.RefOps
public import proofs.«01_k».proof.Proof.Gen.Pre_finite2
public import proofs.«01_k».proof.Pre_finite2
public import Idealize.ShloMosaic.Lib.ReduceAll

@[expose] public section

/-! Over the sample batch: what the precondition says: the first norm's gain and the pooled columns of the input weights are real numbers. -/

namespace Cert.Pre_finite2
open Idealize.ShloMosaic Idealize.ShloMosaic.Tactic Cert.Rd Cert.Spec

instance : Subsingleton S_.Idx := ⟨fun a b => funext fun i => i.elim0⟩

variable {a0 : FVec Ideal S2x8192x1024 .f32} {a1 : FVec Ideal S1x2x8192x256 .f32} {a2 : FVec Ideal S1x1024 .f32} {a3 : FVec Ideal S1x1024x3072 .f32}
  {a4 : FVec Ideal S1x4x128x128 .f32} {a5 : FVec Ideal S1x512 .f32} {a6 : FVec Ideal S1x3x512 .f32} {a7 : FVec Ideal S1x1024x1024 .f32}
  {a8 : FVec Ideal S1x1024 .f32} {a9 : FVec Ideal S1x256x1024 .f32} {a10 : FVec Ideal S1x1024x1024 .f32} {a11 : FVec Ideal S1x1024 .f32}

theorem gain_real (h : fn (F := Ideal) a0 a1 a2 a3 a4 a5 a6 a7 a8 a9 a10 a11 = fun _ => 1#1) (k : ℕ) (hk : k < 1024) : IsReal (rd2 a2 0 k) := by
  have e := Cert.Pre_finite.and_one _ _ (congrFun h (fun i => i.elim0))
  have := Host.reduce_andi_all _ _ _ _ _ e.1 (ix2 ⟨0, by decide⟩ ⟨k, hk⟩)
  rw [rd2_of _ (by decide) hk]
  exact Cert.Pre_finite.isReal_of_lt _ this

theorem win_real (h : fn (F := Ideal) a0 a1 a2 a3 a4 a5 a6 a7 a8 a9 a10 a11 = fun _ => 1#1) (k : ℕ) (hk : k < 1024) (c : ℕ) (hc : c < 512) :
    IsReal (rd3 a3 0 k c) := by
  have e := Cert.Pre_finite.and_one _ _ (congrFun h (fun i => i.elim0))
  have := Host.reduce_andi_all _ _ _ _ _ e.2 (ix3 ⟨0, by decide⟩ ⟨k, hk⟩ ⟨c, hc⟩)
  have h2 := Cert.Pre_finite.isReal_of_lt _ this
  have e3 : extractStridedSlice S1x1024x512 ![0, 0, 0] a3 Facts.slices_S1x1024x3072_S1x1024x512_0_0_0 (ix3 ⟨0, by decide⟩ ⟨k, hk⟩ ⟨c, hc⟩) = rd3 a3 0 k c := by
    refine (val3 a3 _).trans ?_
    show rd3 a3 (0 + 0) (0 + k) (0 + c) = _
    rw [Nat.zero_add, Nat.zero_add, Nat.zero_add]
  exact e3 ▸ h2

end Cert.Pre_finite2
-- ==== Proof.BlkSample.lean ====
module

public import Idealize.ShloMosaic.PureOps.Ideal
public import Idealize.ShloMosaic.Lib.Pipeline.ValueKit.Acc
public meta import Idealize.ShloMosaic.Lib.Pipeline.ValueKit.Acc
public import proofs.«01_k».proof.Proof.Gen.Kernel2Ideal.Value
public import proofs.«01_k».proof.Proof.Blk
import all proofs.«01_k».proof.Proof.Gen.Kernel2Ideal.Frame.RunA
import all proofs.«01_k».proof.Proof.Gen.Kernel2Ideal.Frame.RunB

/-! The body of the sample batch's call is that of the prompt batch's: step by step the same function of the blocks. -/

@[expose] public section

set_option maxRecDepth 16384

noncomputable section

namespace Cert.Kernel2Ideal.Blk

open Idealize.ShloMosaic Idealize.ShloMosaic.TcCoe Idealize.ShloMosaic.Tactic Idealize.SL.Sem
open Cert.Kernel2Ideal Cert.Kernel2Ideal.Gen

theorem pay1 : @Cert.Kernel2Ideal.Gen.k0_pay1 = @Cert.KernelIdeal.Gen.k0_pay1 := rfl
theorem pay10 : @Cert.Kernel2Ideal.Gen.k0_pay10 = @Cert.KernelIdeal.Gen.k0_pay10 := rfl
theorem pay11 : @Cert.Kernel2Ideal.Gen.k0_pay11 = @Cert.KernelIdeal.Gen.k0_pay11 := rfl
theorem pay12 : @Cert.Kernel2Ideal.Gen.k0_pay12 = @Cert.KernelIdeal.Gen.k0_pay12 := rfl
theorem pay13 : @Cert.Kernel2Ideal.Gen.k0_pay13 = @Cert.KernelIdeal.Gen.k0_pay13 := rfl
theorem pay14 : @Cert.Kernel2Ideal.Gen.k0_pay14 = @Cert.KernelIdeal.Gen.k0_pay14 := rfl
theorem pay15 : @Cert.Kernel2Ideal.Gen.k0_pay15 = @Cert.KernelIdeal.Gen.k0_pay15 := rfl
theorem pay16 : @Cert.Kernel2Ideal.Gen.k0_pay16 = @Cert.KernelIdeal.Gen.k0_pay16 := rfl
theorem pay17 : @Cert.Kernel2Ideal.Gen.k0_pay17 = @Cert.KernelIdeal.Gen.k0_pay17 := rfl
theorem pay18 : @Cert.Kernel2Ideal.Gen.k0_pay18 = @Cert.KernelIdeal.Gen.k0_pay18 := rfl
theorem pay19 : @Cert.Kernel2Ideal.Gen.k0_pay19 = @Cert.KernelIdeal.Gen.k0_pay19 := rfl
theorem pay20 : @Cert.Kernel2Ideal.Gen.k0_pay20 = @Cert.KernelIdeal.Gen.k0_pay20 := rfl
theorem pay21 : @Cert.Kernel2Ideal.Gen.k0_pay21 = @Cert.KernelIdeal.Gen.k0_pay21 := rfl
theorem pay22 : @Cert.Kernel2Ideal.Gen.k0_pay22 = @Cert.KernelIdeal.Gen.k0_pay22 := rfl
theorem pay23 : @Cert.Kernel2Ideal.Gen.k0_pay23 = @Cert.KernelIdeal.Gen.k0_pay23 := rfl
theorem pay24 : @Cert.Kernel2Ideal.Gen.k0_pay24 = @Cert.KernelIdeal.Gen.k0_pay24 := rfl
theorem pay25 : @Cert.Kernel2Ideal.Gen.k0_pay25 = @Cert.KernelIdeal.Gen.k0_pay25 := rfl
theorem pay26 : @Cert.Kernel2Ideal.Gen.k0_pay26 = @Cert.KernelIdeal.Gen.k0_pay26 := rfl
theorem pay27 : @Cert.Kernel2Ideal.Gen.k0_pay27 = @Cert.KernelIdeal.Gen.k0_pay27 := rfl
theorem pay28 : @Cert.Kernel2Ideal.Gen.k0_pay28 = @Cert.KernelIdeal.Gen.k0_pay28 := rfl
theorem pay29 : @Cert.Kernel2Ideal.Gen.k0_pay29 = @Cert.KernelIdeal.Gen.k0_pay29 := rfl
theorem pay30 : @Cert.Kernel2Ideal.Gen.k0_pay30 = @Cert.KernelIdeal.Gen.k0_pay30 := rfl
theorem pay31 : @Cert.Kernel2Ideal.Gen.k0_pay31 = @Cert.KernelIdeal.Gen.k0_pay31 := rfl
theorem pay32 : @Cert.Kernel2Ideal.Gen.k0_pay32 = @Cert.KernelIdeal.Gen.k0_pay32 := rfl
theorem pay33 : @Cert.Kernel2Ideal.Gen.k0_pay33 = @Cert.KernelIdeal.Gen.k0_pay33 := rfl
theorem pay34 : @Cert.Kernel2Ideal.Gen.k0_pay34 = @Cert.KernelIdeal.Gen.k0_pay34 := rfl
theorem pay35 : @Cert.Kernel2Ideal.Gen.k0_pay35 = @Cert.KernelIdeal.Gen.k0_pay35 := rfl
theorem pay36 : @Cert.Kernel2Ideal.Gen.k0_pay36 = @Cert.KernelIdeal.Gen.k0_pay36 := rfl
theorem pay37 : @Cert.Kernel2Ideal.Gen.k0_pay37 = @Cert.KernelIdeal.Gen.k0_pay37 := rfl
theorem pay38 : @Cert.Kernel2Ideal.Gen.k0_pay38 = @Cert.KernelIdeal.Gen.k0_pay38 := rfl
theorem pay39 : @Cert.Kernel2Ideal.Gen.k0_pay39 = @Cert.KernelIdeal.Gen.k0_pay39 := rfl
theorem pay40 : @Cert.Kernel2Ideal.Gen.k0_pay40 = @Cert.KernelIdeal.Gen.k0_pay40 := rfl
theorem pay41 : @Cert.Kernel2Ideal.Gen.k0_pay41 = @Cert.KernelIdeal.Gen.k0_pay41 := rfl
theorem pay42 : @Cert.Kernel2Ideal.Gen.k0_pay42 = @Cert.KernelIdeal.Gen.k0_pay42 := rfl
theorem pay43 : @Cert.Kernel2Ideal.Gen.k0_pay43 = @Cert.KernelIdeal.Gen.k0_pay43 := rfl
theorem pay44 : @Cert.Kernel2Ideal.Gen.k0_pay44 = @Cert.KernelIdeal.Gen.k0_pay44 := rfl
theorem pay45 : @Cert.Kernel2Ideal.Gen.k0_pay45 = @Cert.KernelIdeal.Gen.k0_pay45 := rfl
theorem pay46 : @Cert.Kernel2Ideal.Gen.k0_pay46 = @Cert.KernelIdeal.Gen.k0_pay46 := rfl
theorem pay47 : @Cert.Kernel2Ideal.Gen.k0_pay47 = @Cert.KernelIdeal.Gen.k0_pay47 := rfl
theorem pay48 : @Cert.Kernel2Ideal.Gen.k0_pay48 = @Cert.KernelIdeal.Gen.k0_pay48 := rfl
theorem pay49 : @Cert.Kernel2Ideal.Gen.k0_pay49 = @Cert.KernelIdeal.Gen.k0_pay49 := rfl
theorem pay50 : @Cert.Kernel2Ideal.Gen.k0_pay50 = @Cert.KernelIdeal.Gen.k0_pay50 := rfl
theorem pay51 : @Cert.Kernel2Ideal.Gen.k0_pay51 = @Cert.KernelIdeal.Gen.k0_pay51 := rfl
theorem pay52 : @Cert.Kernel2Ideal.Gen.k0_pay52 = @Cert.KernelIdeal.Gen.k0_pay52 := rfl
theorem pay53 : @Cert.Kernel2Ideal.Gen.k0_pay53 = @Cert.KernelIdeal.Gen.k0_pay53 := rfl
theorem pay54 : @Cert.Kernel2Ideal.Gen.k0_pay54 = @Cert.KernelIdeal.Gen.k0_pay54 := rfl
theorem pay55 : @Cert.Kernel2Ideal.Gen.k0_pay55 = @Cert.KernelIdeal.Gen.k0_pay55 := rfl
theorem pay56 : @Cert.Kernel2Ideal.Gen.k0_pay56 = @Cert.KernelIdeal.Gen.k0_pay56 := rfl
theorem pay57 : @Cert.Kernel2Ideal.Gen.k0_pay57 = @Cert.KernelIdeal.Gen.k0_pay57 := rfl
theorem pay58 : @Cert.Kernel2Ideal.Gen.k0_pay58 = @Cert.KernelIdeal.Gen.k0_pay58 := rfl
theorem pay59 : @Cert.Kernel2Ideal.Gen.k0_pay59 = @Cert.KernelIdeal.Gen.k0_pay59 := rfl
theorem pay60 : @Cert.Kernel2Ideal.Gen.k0_pay60 = @Cert.KernelIdeal.Gen.k0_pay60 := rfl
theorem pay61 : @Cert.Kernel2Ideal.Gen.k0_pay61 = @Cert.KernelIdeal.Gen.k0_pay61 := rfl
theorem pay62 : @Cert.Kernel2Ideal.Gen.k0_pay62 = @Cert.KernelIdeal.Gen.k0_pay62 := rfl
theorem pay63 : @Cert.Kernel2Ideal.Gen.k0_pay63 = @Cert.KernelIdeal.Gen.k0_pay63 := rfl
theorem pay64 : @Cert.Kernel2Ideal.Gen.k0_pay64 = @Cert.KernelIdeal.Gen.k0_pay64 := rfl
theorem pay65 : @Cert.Kernel2Ideal.Gen.k0_pay65 = @Cert.KernelIdeal.Gen.k0_pay65 := rfl
theorem pay66 : @Cert.Kernel2Ideal.Gen.k0_pay66 = @Cert.KernelIdeal.Gen.k0_pay66 := rfl
theorem pay67 : @Cert.Kernel2Ideal.Gen.k0_pay67 = @Cert.KernelIdeal.Gen.k0_pay67 := rfl
theorem pay68 : @Cert.Kernel2Ideal.Gen.k0_pay68 = @Cert.KernelIdeal.Gen.k0_pay68 := rfl
theorem pay69 : @Cert.Kernel2Ideal.Gen.k0_pay69 = @Cert.KernelIdeal.Gen.k0_pay69 := rfl
theorem pay70 : @Cert.Kernel2Ideal.Gen.k0_pay70 = @Cert.KernelIdeal.Gen.k0_pay70 := rfl
theorem pay71 : @Cert.Kernel2Ideal.Gen.k0_pay71 = @Cert.KernelIdeal.Gen.k0_pay71 := rfl
theorem pay72 : @Cert.Kernel2Ideal.Gen.k0_pay72 = @Cert.KernelIdeal.Gen.k0_pay72 := rfl
theorem pay73 : @Cert.Kernel2Ideal.Gen.k0_pay73 = @Cert.KernelIdeal.Gen.k0_pay73 := rfl
theorem pay74 : @Cert.Kernel2Ideal.Gen.k0_pay74 = @Cert.KernelIdeal.Gen.k0_pay74 := rfl
theorem pay75 : @Cert.Kernel2Ideal.Gen.k0_pay75 = @Cert.KernelIdeal.Gen.k0_pay75 := rfl
theorem pay76 : @Cert.Kernel2Ideal.Gen.k0_pay76 = @Cert.KernelIdeal.Gen.k0_pay76 := rfl
theorem pay77 : @Cert.Kernel2Ideal.Gen.k0_pay77 = @Cert.KernelIdeal.Gen.k0_pay77 := rfl
theorem pay78 : @Cert.Kernel2Ideal.Gen.k0_pay78 = @Cert.KernelIdeal.Gen.k0_pay78 := rfl
theorem pay79 : @Cert.Kernel2Ideal.Gen.k0_pay79 = @Cert.KernelIdeal.Gen.k0_pay79 := rfl
theorem pay80 : @Cert.Kernel2Ideal.Gen.k0_pay80 = @Cert.KernelIdeal.Gen.k0_pay80 := rfl
theorem pay81 : @Cert.Kernel2Ideal.Gen.k0_pay81 = @Cert.KernelIdeal.Gen.k0_pay81 := rfl
theorem pay82 : @Cert.Kernel2Ideal.Gen.k0_pay82 = @Cert.KernelIdeal.Gen.k0_pay82 := rfl
theorem pay83 : @Cert.Kernel2Ideal.Gen.k0_pay83 = @Cert.KernelIdeal.Gen.k0_pay83 := rfl
theorem pay84 : @Cert.Kernel2Ideal.Gen.k0_pay84 = @Cert.KernelIdeal.Gen.k0_pay84 := rfl
theorem pay85 : @Cert.Kernel2Ideal.Gen.k0_pay85 = @Cert.KernelIdeal.Gen.k0_pay85 := rfl
theorem pay86 : @Cert.Kernel2Ideal.Gen.k0_pay86 = @Cert.KernelIdeal.Gen.k0_pay86 := rfl
theorem pay87 : @Cert.Kernel2Ideal.Gen.k0_pay87 = @Cert.KernelIdeal.Gen.k0_pay87 := rfl
theorem pay88 : @Cert.Kernel2Ideal.Gen.k0_pay88 = @Cert.KernelIdeal.Gen.k0_pay88 := rfl
theorem pay89 : @Cert.Kernel2Ideal.Gen.k0_pay89 = @Cert.KernelIdeal.Gen.k0_pay89 := rfl
theorem pay90 : @Cert.Kernel2Ideal.Gen.k0_pay90 = @Cert.KernelIdeal.Gen.k0_pay90 := rfl
theorem pay91 : @Cert.Kernel2Ideal.Gen.k0_pay91 = @Cert.KernelIdeal.Gen.k0_pay91 := rfl
theorem pay92 : @Cert.Kernel2Ideal.Gen.k0_pay92 = @Cert.KernelIdeal.Gen.k0_pay92 := rfl
theorem pay93 : @Cert.Kernel2Ideal.Gen.k0_pay93 = @Cert.KernelIdeal.Gen.k0_pay93 := rfl
theorem pay94 : @Cert.Kernel2Ideal.Gen.k0_pay94 = @Cert.KernelIdeal.Gen.k0_pay94 := rfl
theorem pay95 : @Cert.Kernel2Ideal.Gen.k0_pay95 = @Cert.KernelIdeal.Gen.k0_pay95 := rfl
theorem pay96 : @Cert.Kernel2Ideal.Gen.k0_pay96 = @Cert.KernelIdeal.Gen.k0_pay96 := rfl
theorem pay97 : @Cert.Kernel2Ideal.Gen.k0_pay97 = @Cert.KernelIdeal.Gen.k0_pay97 := rfl
theorem pay98 : @Cert.Kernel2Ideal.Gen.k0_pay98 = @Cert.KernelIdeal.Gen.k0_pay98 := rfl
theorem pay99 : @Cert.Kernel2Ideal.Gen.k0_pay99 = @Cert.KernelIdeal.Gen.k0_pay99 := rfl
theorem pay100 : @Cert.Kernel2Ideal.Gen.k0_pay100 = @Cert.KernelIdeal.Gen.k0_pay100 := rfl
theorem pay101 : @Cert.Kernel2Ideal.Gen.k0_pay101 = @Cert.KernelIdeal.Gen.k0_pay101 := rfl
theorem pay102 : @Cert.Kernel2Ideal.Gen.k0_pay102 = @Cert.KernelIdeal.Gen.k0_pay102 := rfl
theorem pay103 : @Cert.Kernel2Ideal.Gen.k0_pay103 = @Cert.KernelIdeal.Gen.k0_pay103 := rfl
theorem pay104 : @Cert.Kernel2Ideal.Gen.k0_pay104 = @Cert.KernelIdeal.Gen.k0_pay104 := rfl
theorem pay105 : @Cert.Kernel2Ideal.Gen.k0_pay105 = @Cert.KernelIdeal.Gen.k0_pay105 := rfl
theorem pay106 : @Cert.Kernel2Ideal.Gen.k0_pay106 = @Cert.KernelIdeal.Gen.k0_pay106 := rfl
theorem pay107 : @Cert.Kernel2Ideal.Gen.k0_pay107 = @Cert.KernelIdeal.Gen.k0_pay107 := rfl
theorem pay108 : @Cert.Kernel2Ideal.Gen.k0_pay108 = @Cert.KernelIdeal.Gen.k0_pay108 := rfl
theorem pay109 : @Cert.Kernel2Ideal.Gen.k0_pay109 = @Cert.KernelIdeal.Gen.k0_pay109 := rfl
theorem pay110 : @Cert.Kernel2Ideal.Gen.k0_pay110 = @Cert.KernelIdeal.Gen.k0_pay110 := rfl
theorem pay111 : @Cert.Kernel2Ideal.Gen.k0_pay111 = @Cert.KernelIdeal.Gen.k0_pay111 := rfl
theorem pay112 : @Cert.Kernel2Ideal.Gen.k0_pay112 = @Cert.KernelIdeal.Gen.k0_pay112 := rfl
theorem pay113 : @Cert.Kernel2Ideal.Gen.k0_pay113 = @Cert.KernelIdeal.Gen.k0_pay113 := rfl
theorem pay114 : @Cert.Kernel2Ideal.Gen.k0_pay114 = @Cert.KernelIdeal.Gen.k0_pay114 := rfl
theorem pay115 : @Cert.Kernel2Ideal.Gen.k0_pay115 = @Cert.KernelIdeal.Gen.k0_pay115 := rfl
theorem pay116 : @Cert.Kernel2Ideal.Gen.k0_pay116 = @Cert.KernelIdeal.Gen.k0_pay116 := rfl
theorem pay117 : @Cert.Kernel2Ideal.Gen.k0_pay117 = @Cert.KernelIdeal.Gen.k0_pay117 := rfl
theorem pay118 : @Cert.Kernel2Ideal.Gen.k0_pay118 = @Cert.KernelIdeal.Gen.k0_pay118 := rfl
theorem pay119 : @Cert.Kernel2Ideal.Gen.k0_pay119 = @Cert.KernelIdeal.Gen.k0_pay119 := rfl
theorem pay120 : @Cert.Kernel2Ideal.Gen.k0_pay120 = @Cert.KernelIdeal.Gen.k0_pay120 := rfl
theorem pay121 : @Cert.Kernel2Ideal.Gen.k0_pay121 = @Cert.KernelIdeal.Gen.k0_pay121 := rfl
theorem pay122 : @Cert.Kernel2Ideal.Gen.k0_pay122 = @Cert.KernelIdeal.Gen.k0_pay122 := rfl
theorem pay123 : @Cert.Kernel2Ideal.Gen.k0_pay123 = @Cert.KernelIdeal.Gen.k0_pay123 := rfl
theorem pay124 : @Cert.Kernel2Ideal.Gen.k0_pay124 = @Cert.KernelIdeal.Gen.k0_pay124 := rfl
theorem pay125 : @Cert.Kernel2Ideal.Gen.k0_pay125 = @Cert.KernelIdeal.Gen.k0_pay125 := rfl
theorem pay126 : @Cert.Kernel2Ideal.Gen.k0_pay126 = @Cert.KernelIdeal.Gen.k0_pay126 := rfl
theorem pay127 : @Cert.Kernel2Ideal.Gen.k0_pay127 = @Cert.KernelIdeal.Gen.k0_pay127 := rfl
theorem pay128 : @Cert.Kernel2Ideal.Gen.k0_pay128 = @Cert.KernelIdeal.Gen.k0_pay128 := rfl
theorem pay129 : @Cert.Kernel2Ideal.Gen.k0_pay129 = @Cert.KernelIdeal.Gen.k0_pay129 := rfl
theorem pay130 : @Cert.Kernel2Ideal.Gen.k0_pay130 = @Cert.KernelIdeal.Gen.k0_pay130 := rfl
theorem pay131 : @Cert.Kernel2Ideal.Gen.k0_pay131 = @Cert.KernelIdeal.Gen.k0_pay131 := rfl
theorem pay132 : @Cert.Kernel2Ideal.Gen.k0_pay132 = @Cert.KernelIdeal.Gen.k0_pay132 := rfl
theorem pay133 : @Cert.Kernel2Ideal.Gen.k0_pay133 = @Cert.KernelIdeal.Gen.k0_pay133 := rfl
theorem pay134 : @Cert.Kernel2Ideal.Gen.k0_pay134 = @Cert.KernelIdeal.Gen.k0_pay134 := rfl
theorem pay135 : @Cert.Kernel2Ideal.Gen.k0_pay135 = @Cert.KernelIdeal.Gen.k0_pay135 := rfl
theorem pay136 : @Cert.Kernel2Ideal.Gen.k0_pay136 = @Cert.KernelIdeal.Gen.k0_pay136 := rfl
theorem pay137 : @Cert.Kernel2Ideal.Gen.k0_pay137 = @Cert.KernelIdeal.Gen.k0_pay137 := rfl
theorem pay138 : @Cert.Kernel2Ideal.Gen.k0_pay138 = @Cert.KernelIdeal.Gen.k0_pay138 := rfl
theorem pay139 : @Cert.Kernel2Ideal.Gen.k0_pay139 = @Cert.KernelIdeal.Gen.k0_pay139 := rfl
theorem pay140 : @Cert.Kernel2Ideal.Gen.k0_pay140 = @Cert.KernelIdeal.Gen.k0_pay140 := rfl
theorem pay141 : @Cert.Kernel2Ideal.Gen.k0_pay141 = @Cert.KernelIdeal.Gen.k0_pay141 := rfl
theorem pay142 : @Cert.Kernel2Ideal.Gen.k0_pay142 = @Cert.KernelIdeal.Gen.k0_pay142 := rfl
theorem pay143 : @Cert.Kernel2Ideal.Gen.k0_pay143 = @Cert.KernelIdeal.Gen.k0_pay143 := rfl
theorem pay144 : @Cert.Kernel2Ideal.Gen.k0_pay144 = @Cert.KernelIdeal.Gen.k0_pay144 := rfl
theorem pay145 : @Cert.Kernel2Ideal.Gen.k0_pay145 = @Cert.KernelIdeal.Gen.k0_pay145 := rfl
theorem pay146 : @Cert.Kernel2Ideal.Gen.k0_pay146 = @Cert.KernelIdeal.Gen.k0_pay146 := rfl
theorem pay147 : @Cert.Kernel2Ideal.Gen.k0_pay147 = @Cert.KernelIdeal.Gen.k0_pay147 := rfl
theorem pay148 : @Cert.Kernel2Ideal.Gen.k0_pay148 = @Cert.KernelIdeal.Gen.k0_pay148 := rfl
theorem pay149 : @Cert.Kernel2Ideal.Gen.k0_pay149 = @Cert.KernelIdeal.Gen.k0_pay149 := rfl
theorem pay150 : @Cert.Kernel2Ideal.Gen.k0_pay150 = @Cert.KernelIdeal.Gen.k0_pay150 := rfl
theorem pay151 : @Cert.Kernel2Ideal.Gen.k0_pay151 = @Cert.KernelIdeal.Gen.k0_pay151 := rfl
theorem pay152 : @Cert.Kernel2Ideal.Gen.k0_pay152 = @Cert.KernelIdeal.Gen.k0_pay152 := rfl
theorem pay153 : @Cert.Kernel2Ideal.Gen.k0_pay153 = @Cert.KernelIdeal.Gen.k0_pay153 := rfl
theorem pay154 : @Cert.Kernel2Ideal.Gen.k0_pay154 = @Cert.KernelIdeal.Gen.k0_pay154 := rfl
theorem pay155 : @Cert.Kernel2Ideal.Gen.k0_pay155 = @Cert.KernelIdeal.Gen.k0_pay155 := rfl
theorem pay156 : @Cert.Kernel2Ideal.Gen.k0_pay156 = @Cert.KernelIdeal.Gen.k0_pay156 := rfl
theorem pay157 : @Cert.Kernel2Ideal.Gen.k0_pay157 = @Cert.KernelIdeal.Gen.k0_pay157 := rfl
theorem pay158 : @Cert.Kernel2Ideal.Gen.k0_pay158 = @Cert.KernelIdeal.Gen.k0_pay158 := rfl
theorem pay159 : @Cert.Kernel2Ideal.Gen.k0_pay159 = @Cert.KernelIdeal.Gen.k0_pay159 := rfl
theorem pay160 : @Cert.Kernel2Ideal.Gen.k0_pay160 = @Cert.KernelIdeal.Gen.k0_pay160 := rfl

/-- The block stored at a point that finds the paired columns already there. -/
theorem outB_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : ¬cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) (xs2 : Vec Ideal S1024x2048 .bf16) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 xs2 = Cert.KernelIdeal.Blk.b_out (BitVec.ofNat 32 (i 1).val) x0 x1 x2 x3 x4 x5 x6 x7 x8 x9 x10 x11 x12 x13 xs2 := by
  frame_open
  simp only [View.read_writes_junk_eq_canon, Cert.KernelIdeal.Blk.readCov_ld, View.readAt_eq_ld, Memref.IsWhole.read_unread]
  rw [View.canon_cons_unit_lit' _ _ _ (by decide)]
  simp only [pay1, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay121, pay122, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay156, pay157, pay158, pay159, pay160, Cert.KernelIdeal.Gen.k0_pay2, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Blk.b_r_125, Cert.KernelIdeal.Blk.b_r_85, Cert.KernelIdeal.Blk.b_r_86, Cert.KernelIdeal.Blk.b_r_87, Cert.KernelIdeal.Blk.b_r_1, Cert.KernelIdeal.Blk.b_r_2, Cert.KernelIdeal.Blk.b_r_3, Cert.KernelIdeal.Blk.b_r_4, Cert.KernelIdeal.Blk.b_HS0_3, Cert.KernelIdeal.Blk.b_v73, Cert.KernelIdeal.Blk.b_r_5, Cert.KernelIdeal.Blk.b_HS1_8, Cert.KernelIdeal.Blk.b_v805, Cert.KernelIdeal.Blk.b_r_100, Cert.KernelIdeal.Blk.b_v727, Cert.KernelIdeal.Blk.b_r_88, Cert.KernelIdeal.Blk.b_r_89, Cert.KernelIdeal.Blk.b_r_90, Cert.KernelIdeal.Blk.b_r_91, Cert.KernelIdeal.Blk.b_v740, Cert.KernelIdeal.Blk.b_r_92, Cert.KernelIdeal.Blk.b_v753, Cert.KernelIdeal.Blk.b_r_93, Cert.KernelIdeal.Blk.b_v766, Cert.KernelIdeal.Blk.b_r_94, Cert.KernelIdeal.Blk.b_r_95, Cert.KernelIdeal.Blk.b_r_96, Cert.KernelIdeal.Blk.b_r_97, Cert.KernelIdeal.Blk.b_v779, Cert.KernelIdeal.Blk.b_r_98, Cert.KernelIdeal.Blk.b_v792, Cert.KernelIdeal.Blk.b_r_99, Cert.KernelIdeal.Blk.b_v818, Cert.KernelIdeal.Blk.b_r_101, Cert.KernelIdeal.Blk.b_r_102, Cert.KernelIdeal.Blk.b_r_103, Cert.KernelIdeal.Blk.b_r_104, Cert.KernelIdeal.Blk.b_v838, Cert.KernelIdeal.Blk.b_r_105, Cert.KernelIdeal.Blk.b_v851, Cert.KernelIdeal.Blk.b_r_106, Cert.KernelIdeal.Blk.b_r_107, Cert.KernelIdeal.Blk.b_r_108, Cert.KernelIdeal.Blk.b_v864, Cert.KernelIdeal.Blk.b_r_109, Cert.KernelIdeal.Blk.b_v877, Cert.KernelIdeal.Blk.b_r_110, Cert.KernelIdeal.Blk.b_v890, Cert.KernelIdeal.Blk.b_r_111, Cert.KernelIdeal.Blk.b_v903, Cert.KernelIdeal.Blk.b_v916, Cert.KernelIdeal.Blk.b_v929, Cert.KernelIdeal.Blk.b_r_112, Cert.KernelIdeal.Blk.b_r_113, Cert.KernelIdeal.Blk.b_r_114, Cert.KernelIdeal.Blk.b_r_115, Cert.KernelIdeal.Blk.b_r_116, Cert.KernelIdeal.Blk.b_v949, Cert.KernelIdeal.Blk.b_r_117, Cert.KernelIdeal.Blk.b_v962, Cert.KernelIdeal.Blk.b_r_118, Cert.KernelIdeal.Blk.b_v975, Cert.KernelIdeal.Blk.b_r_119, Cert.KernelIdeal.Blk.b_v988, Cert.KernelIdeal.Blk.b_r_120, Cert.KernelIdeal.Blk.b_v1001, Cert.KernelIdeal.Blk.b_r_121, Cert.KernelIdeal.Blk.b_v1014, Cert.KernelIdeal.Blk.b_r_122, Cert.KernelIdeal.Blk.b_v1027, Cert.KernelIdeal.Blk.b_r_123, Cert.KernelIdeal.Blk.b_r_124, Cert.KernelIdeal.Blk.b_v120, Cert.KernelIdeal.Blk.b_r_6, Cert.KernelIdeal.Blk.b_v187, Cert.KernelIdeal.Blk.b_r_16, Cert.KernelIdeal.Blk.b_v146, Cert.KernelIdeal.Blk.b_r_10, Cert.KernelIdeal.Blk.b_v151, Cert.KernelIdeal.Blk.b_r_11, Cert.KernelIdeal.Blk.b_v156, Cert.KernelIdeal.Blk.b_r_12, Cert.KernelIdeal.Blk.b_v161, Cert.KernelIdeal.Blk.b_r_13, Cert.KernelIdeal.Blk.b_v166, Cert.KernelIdeal.Blk.b_r_14, Cert.KernelIdeal.Blk.b_v171, Cert.KernelIdeal.Blk.b_r_15, Cert.KernelIdeal.Blk.b_v145, Cert.KernelIdeal.Blk.b_v176, Cert.KernelIdeal.Blk.b_v181, Cert.KernelIdeal.Blk.b_r_17, Cert.KernelIdeal.Blk.b_r_18, Cert.KernelIdeal.Blk.b_r_19, Cert.KernelIdeal.Blk.b_r_20, Cert.KernelIdeal.Blk.b_v292, Cert.KernelIdeal.Blk.b_r_30, Cert.KernelIdeal.Blk.b_v235, Cert.KernelIdeal.Blk.b_r_21, Cert.KernelIdeal.Blk.b_v242, Cert.KernelIdeal.Blk.b_r_22, Cert.KernelIdeal.Blk.b_v249, Cert.KernelIdeal.Blk.b_r_23, Cert.KernelIdeal.Blk.b_r_24, Cert.KernelIdeal.Blk.b_v256, Cert.KernelIdeal.Blk.b_r_25, Cert.KernelIdeal.Blk.b_v263, Cert.KernelIdeal.Blk.b_r_26, Cert.KernelIdeal.Blk.b_v270, Cert.KernelIdeal.Blk.b_r_27, Cert.KernelIdeal.Blk.b_v277, Cert.KernelIdeal.Blk.b_r_28, Cert.KernelIdeal.Blk.b_v284, Cert.KernelIdeal.Blk.b_r_29, Cert.KernelIdeal.Blk.b_r_31, Cert.KernelIdeal.Blk.b_r_32, Cert.KernelIdeal.Blk.b_r_33, Cert.KernelIdeal.Blk.b_r_34, Cert.KernelIdeal.Blk.b_r_35, Cert.KernelIdeal.Blk.b_r_36, Cert.KernelIdeal.Blk.b_v413, Cert.KernelIdeal.Blk.b_r_48, Cert.KernelIdeal.Blk.b_v340, Cert.KernelIdeal.Blk.b_r_37, Cert.KernelIdeal.Blk.b_v349, Cert.KernelIdeal.Blk.b_r_38, Cert.KernelIdeal.Blk.b_v358, Cert.KernelIdeal.Blk.b_r_39, Cert.KernelIdeal.Blk.b_v367, Cert.KernelIdeal.Blk.b_r_40, Cert.KernelIdeal.Blk.b_r_41, Cert.KernelIdeal.Blk.b_r_42, Cert.KernelIdeal.Blk.b_v376, Cert.KernelIdeal.Blk.b_r_43, Cert.KernelIdeal.Blk.b_v385, Cert.KernelIdeal.Blk.b_r_44, Cert.KernelIdeal.Blk.b_v394, Cert.KernelIdeal.Blk.b_r_45, Cert.KernelIdeal.Blk.b_v403, Cert.KernelIdeal.Blk.b_r_46, Cert.KernelIdeal.Blk.b_r_47, Cert.KernelIdeal.Blk.b_r_49, Cert.KernelIdeal.Blk.b_r_50, Cert.KernelIdeal.Blk.b_r_51, Cert.KernelIdeal.Blk.b_r_52, Cert.KernelIdeal.Blk.b_r_53, Cert.KernelIdeal.Blk.b_r_54, Cert.KernelIdeal.Blk.b_v461, Cert.KernelIdeal.Blk.b_r_55, Cert.KernelIdeal.Blk.b_v472, Cert.KernelIdeal.Blk.b_r_56, Cert.KernelIdeal.Blk.b_v483, Cert.KernelIdeal.Blk.b_r_57, Cert.KernelIdeal.Blk.b_r_58, Cert.KernelIdeal.Blk.b_v494, Cert.KernelIdeal.Blk.b_r_59, Cert.KernelIdeal.Blk.b_v505, Cert.KernelIdeal.Blk.b_r_60, Cert.KernelIdeal.Blk.b_v516, Cert.KernelIdeal.Blk.b_r_61, Cert.KernelIdeal.Blk.b_v527, Cert.KernelIdeal.Blk.b_v538, Cert.KernelIdeal.Blk.b_r_62, Cert.KernelIdeal.Blk.b_v550, Cert.KernelIdeal.Blk.b_r_63, Cert.KernelIdeal.Blk.b_r_64, Cert.KernelIdeal.Blk.b_r_65, Cert.KernelIdeal.Blk.b_r_66, Cert.KernelIdeal.Blk.b_r_67, Cert.KernelIdeal.Blk.b_r_68, Cert.KernelIdeal.Blk.b_r_69, Cert.KernelIdeal.Blk.b_r_70, Cert.KernelIdeal.Blk.b_r_71, Cert.KernelIdeal.Blk.b_r_72, Cert.KernelIdeal.Blk.b_v616, Cert.KernelIdeal.Blk.b_r_73, Cert.KernelIdeal.Blk.b_v629, Cert.KernelIdeal.Blk.b_r_74, Cert.KernelIdeal.Blk.b_v642, Cert.KernelIdeal.Blk.b_r_75, Cert.KernelIdeal.Blk.b_r_76, Cert.KernelIdeal.Blk.b_r_77, Cert.KernelIdeal.Blk.b_r_78, Cert.KernelIdeal.Blk.b_r_79, Cert.KernelIdeal.Blk.b_v655, Cert.KernelIdeal.Blk.b_r_80, Cert.KernelIdeal.Blk.b_v668, Cert.KernelIdeal.Blk.b_r_81, Cert.KernelIdeal.Blk.b_v681, Cert.KernelIdeal.Blk.b_r_82, Cert.KernelIdeal.Blk.b_r_83, Cert.KernelIdeal.Blk.b_v694, Cert.KernelIdeal.Blk.b_v707, Cert.KernelIdeal.Blk.b_r_84, Cert.KernelIdeal.Blk.b_r_7, Cert.KernelIdeal.Blk.b_r_8, Cert.KernelIdeal.Blk.b_r_9, Cert.KernelIdeal.Blk.b_v1040, Cert.KernelIdeal.Blk.b_r_126, Cert.KernelIdeal.Blk.b_r_127, Cert.KernelIdeal.Blk.b_r, Cert.KernelIdeal.Blk.b_r_128, Cert.KernelIdeal.Blk.b_out]

/-- The block stored at a point that first writes the paired columns. -/
theorem outA_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 = Cert.KernelIdeal.Blk.b_out (BitVec.ofNat 32 (i 1).val) x0 x1 x2 x3 x4 x5 x6 x7 x8 x9 x10 x11 x12 x13 (Cert.KernelIdeal.Blk.b_wp x5) := by
  frame_open
  simp only [View.read_writes_junk_eq_canon, Cert.KernelIdeal.Blk.readCov_ld, View.readAt_eq_ld, Memref.IsWhole.read_unread]
  rw [View.canon_cons_unit_lit' _ _ _ (by decide)]
  simp only [pay1, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay121, pay122, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay156, pay157, pay158, pay159, pay160, Cert.KernelIdeal.Gen.k0_pay2, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Blk.b_r_125, Cert.KernelIdeal.Blk.b_r_85, Cert.KernelIdeal.Blk.b_r_86, Cert.KernelIdeal.Blk.b_r_87, Cert.KernelIdeal.Blk.b_r_1, Cert.KernelIdeal.Blk.b_r_2, Cert.KernelIdeal.Blk.b_r_3, Cert.KernelIdeal.Blk.b_r_4, Cert.KernelIdeal.Blk.b_HS0_3, Cert.KernelIdeal.Blk.b_v73, Cert.KernelIdeal.Blk.b_r_5, Cert.KernelIdeal.Blk.b_HS1_8, Cert.KernelIdeal.Blk.b_v805, Cert.KernelIdeal.Blk.b_r_100, Cert.KernelIdeal.Blk.b_v727, Cert.KernelIdeal.Blk.b_r_88, Cert.KernelIdeal.Blk.b_r_89, Cert.KernelIdeal.Blk.b_r_90, Cert.KernelIdeal.Blk.b_r_91, Cert.KernelIdeal.Blk.b_v740, Cert.KernelIdeal.Blk.b_r_92, Cert.KernelIdeal.Blk.b_v753, Cert.KernelIdeal.Blk.b_r_93, Cert.KernelIdeal.Blk.b_v766, Cert.KernelIdeal.Blk.b_r_94, Cert.KernelIdeal.Blk.b_r_95, Cert.KernelIdeal.Blk.b_r_96, Cert.KernelIdeal.Blk.b_r_97, Cert.KernelIdeal.Blk.b_v779, Cert.KernelIdeal.Blk.b_r_98, Cert.KernelIdeal.Blk.b_v792, Cert.KernelIdeal.Blk.b_r_99, Cert.KernelIdeal.Blk.b_v818, Cert.KernelIdeal.Blk.b_r_101, Cert.KernelIdeal.Blk.b_r_102, Cert.KernelIdeal.Blk.b_r_103, Cert.KernelIdeal.Blk.b_r_104, Cert.KernelIdeal.Blk.b_v838, Cert.KernelIdeal.Blk.b_r_105, Cert.KernelIdeal.Blk.b_v851, Cert.KernelIdeal.Blk.b_r_106, Cert.KernelIdeal.Blk.b_r_107, Cert.KernelIdeal.Blk.b_r_108, Cert.KernelIdeal.Blk.b_v864, Cert.KernelIdeal.Blk.b_r_109, Cert.KernelIdeal.Blk.b_v877, Cert.KernelIdeal.Blk.b_r_110, Cert.KernelIdeal.Blk.b_v890, Cert.KernelIdeal.Blk.b_r_111, Cert.KernelIdeal.Blk.b_v903, Cert.KernelIdeal.Blk.b_v916, Cert.KernelIdeal.Blk.b_v929, Cert.KernelIdeal.Blk.b_r_112, Cert.KernelIdeal.Blk.b_r_113, Cert.KernelIdeal.Blk.b_r_114, Cert.KernelIdeal.Blk.b_r_115, Cert.KernelIdeal.Blk.b_r_116, Cert.KernelIdeal.Blk.b_v949, Cert.KernelIdeal.Blk.b_r_117, Cert.KernelIdeal.Blk.b_v962, Cert.KernelIdeal.Blk.b_r_118, Cert.KernelIdeal.Blk.b_v975, Cert.KernelIdeal.Blk.b_r_119, Cert.KernelIdeal.Blk.b_v988, Cert.KernelIdeal.Blk.b_r_120, Cert.KernelIdeal.Blk.b_v1001, Cert.KernelIdeal.Blk.b_r_121, Cert.KernelIdeal.Blk.b_v1014, Cert.KernelIdeal.Blk.b_r_122, Cert.KernelIdeal.Blk.b_v1027, Cert.KernelIdeal.Blk.b_r_123, Cert.KernelIdeal.Blk.b_r_124, Cert.KernelIdeal.Blk.b_v120, Cert.KernelIdeal.Blk.b_r_6, Cert.KernelIdeal.Blk.b_v187, Cert.KernelIdeal.Blk.b_r_16, Cert.KernelIdeal.Blk.b_v146, Cert.KernelIdeal.Blk.b_r_10, Cert.KernelIdeal.Blk.b_v151, Cert.KernelIdeal.Blk.b_r_11, Cert.KernelIdeal.Blk.b_v156, Cert.KernelIdeal.Blk.b_r_12, Cert.KernelIdeal.Blk.b_v161, Cert.KernelIdeal.Blk.b_r_13, Cert.KernelIdeal.Blk.b_v166, Cert.KernelIdeal.Blk.b_r_14, Cert.KernelIdeal.Blk.b_v171, Cert.KernelIdeal.Blk.b_r_15, Cert.KernelIdeal.Blk.b_v145, Cert.KernelIdeal.Blk.b_v176, Cert.KernelIdeal.Blk.b_v181, Cert.KernelIdeal.Blk.b_r_17, Cert.KernelIdeal.Blk.b_r_18, Cert.KernelIdeal.Blk.b_r_19, Cert.KernelIdeal.Blk.b_r_20, Cert.KernelIdeal.Blk.b_v292, Cert.KernelIdeal.Blk.b_r_30, Cert.KernelIdeal.Blk.b_v235, Cert.KernelIdeal.Blk.b_r_21, Cert.KernelIdeal.Blk.b_v242, Cert.KernelIdeal.Blk.b_r_22, Cert.KernelIdeal.Blk.b_v249, Cert.KernelIdeal.Blk.b_r_23, Cert.KernelIdeal.Blk.b_r_24, Cert.KernelIdeal.Blk.b_v256, Cert.KernelIdeal.Blk.b_r_25, Cert.KernelIdeal.Blk.b_v263, Cert.KernelIdeal.Blk.b_r_26, Cert.KernelIdeal.Blk.b_v270, Cert.KernelIdeal.Blk.b_r_27, Cert.KernelIdeal.Blk.b_v277, Cert.KernelIdeal.Blk.b_r_28, Cert.KernelIdeal.Blk.b_v284, Cert.KernelIdeal.Blk.b_r_29, Cert.KernelIdeal.Blk.b_r_31, Cert.KernelIdeal.Blk.b_r_32, Cert.KernelIdeal.Blk.b_r_33, Cert.KernelIdeal.Blk.b_r_34, Cert.KernelIdeal.Blk.b_r_35, Cert.KernelIdeal.Blk.b_r_36, Cert.KernelIdeal.Blk.b_v413, Cert.KernelIdeal.Blk.b_r_48, Cert.KernelIdeal.Blk.b_v340, Cert.KernelIdeal.Blk.b_r_37, Cert.KernelIdeal.Blk.b_v349, Cert.KernelIdeal.Blk.b_r_38, Cert.KernelIdeal.Blk.b_v358, Cert.KernelIdeal.Blk.b_r_39, Cert.KernelIdeal.Blk.b_v367, Cert.KernelIdeal.Blk.b_r_40, Cert.KernelIdeal.Blk.b_r_41, Cert.KernelIdeal.Blk.b_r_42, Cert.KernelIdeal.Blk.b_v376, Cert.KernelIdeal.Blk.b_r_43, Cert.KernelIdeal.Blk.b_v385, Cert.KernelIdeal.Blk.b_r_44, Cert.KernelIdeal.Blk.b_v394, Cert.KernelIdeal.Blk.b_r_45, Cert.KernelIdeal.Blk.b_v403, Cert.KernelIdeal.Blk.b_r_46, Cert.KernelIdeal.Blk.b_r_47, Cert.KernelIdeal.Blk.b_r_49, Cert.KernelIdeal.Blk.b_r_50, Cert.KernelIdeal.Blk.b_r_51, Cert.KernelIdeal.Blk.b_r_52, Cert.KernelIdeal.Blk.b_r_53, Cert.KernelIdeal.Blk.b_r_54, Cert.KernelIdeal.Blk.b_v461, Cert.KernelIdeal.Blk.b_r_55, Cert.KernelIdeal.Blk.b_v472, Cert.KernelIdeal.Blk.b_r_56, Cert.KernelIdeal.Blk.b_v483, Cert.KernelIdeal.Blk.b_r_57, Cert.KernelIdeal.Blk.b_r_58, Cert.KernelIdeal.Blk.b_v494, Cert.KernelIdeal.Blk.b_r_59, Cert.KernelIdeal.Blk.b_v505, Cert.KernelIdeal.Blk.b_r_60, Cert.KernelIdeal.Blk.b_v516, Cert.KernelIdeal.Blk.b_r_61, Cert.KernelIdeal.Blk.b_v527, Cert.KernelIdeal.Blk.b_v538, Cert.KernelIdeal.Blk.b_r_62, Cert.KernelIdeal.Blk.b_v550, Cert.KernelIdeal.Blk.b_r_63, Cert.KernelIdeal.Blk.b_r_64, Cert.KernelIdeal.Blk.b_r_65, Cert.KernelIdeal.Blk.b_r_66, Cert.KernelIdeal.Blk.b_r_67, Cert.KernelIdeal.Blk.b_r_68, Cert.KernelIdeal.Blk.b_r_69, Cert.KernelIdeal.Blk.b_r_70, Cert.KernelIdeal.Blk.b_r_71, Cert.KernelIdeal.Blk.b_r_72, Cert.KernelIdeal.Blk.b_v616, Cert.KernelIdeal.Blk.b_r_73, Cert.KernelIdeal.Blk.b_v629, Cert.KernelIdeal.Blk.b_r_74, Cert.KernelIdeal.Blk.b_v642, Cert.KernelIdeal.Blk.b_r_75, Cert.KernelIdeal.Blk.b_r_76, Cert.KernelIdeal.Blk.b_r_77, Cert.KernelIdeal.Blk.b_r_78, Cert.KernelIdeal.Blk.b_r_79, Cert.KernelIdeal.Blk.b_v655, Cert.KernelIdeal.Blk.b_r_80, Cert.KernelIdeal.Blk.b_v668, Cert.KernelIdeal.Blk.b_r_81, Cert.KernelIdeal.Blk.b_v681, Cert.KernelIdeal.Blk.b_r_82, Cert.KernelIdeal.Blk.b_r_83, Cert.KernelIdeal.Blk.b_v694, Cert.KernelIdeal.Blk.b_v707, Cert.KernelIdeal.Blk.b_r_84, Cert.KernelIdeal.Blk.b_r_7, Cert.KernelIdeal.Blk.b_r_8, Cert.KernelIdeal.Blk.b_r_9, Cert.KernelIdeal.Blk.b_v1040, Cert.KernelIdeal.Blk.b_r_126, Cert.KernelIdeal.Blk.b_r_127, Cert.KernelIdeal.Blk.b_r, Cert.KernelIdeal.Blk.b_r_128, Cert.KernelIdeal.Blk.b_out, Cert.KernelIdeal.Blk.b_wp, Cert.KernelIdeal.Blk.b_wpL]
  rfl

/-- What the first point leaves in the carried scratch. -/
theorem soutA_eq (c : Dev nD) (i : grid0.Coords) (arg2 : Memref sig .tc .vmem S1x16x1024 .f32) (harg2 : arg2.IsWhole) (arg3 : Memref sig .tc .vmem S1x1024x1024 .f32) (harg3 : arg3.IsWhole) (arg4 : Memref sig .tc .vmem S1x16x1024 .f32) (harg4 : arg4.IsWhole) (arg5 : Memref sig .tc .vmem S1x1024x256 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S3x512 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024x1024 .f32) (harg16 : arg16.IsWhole) (arg17 : Memref sig .tc .vmem S1056x1024 .bf16) (harg17 : arg17.IsWhole) (arg18 : Memref sig .tc .vmem S8x1056x128 .f32) (harg18 : arg18.IsWhole) (arg19 : Memref sig .tc .vmem S1024x2048 .bf16) (harg19 : arg19.IsWhole) (hc0 : cond0_0 i) (x0 : Vec Ideal S1x16x1024 .f32) (x1 : Vec Ideal S1x1024x1024 .f32) (x2 : Vec Ideal S1x16x1024 .f32) (x3 : Vec Ideal S1x1024x256 .f32) (x4 : Vec Ideal S1x1024 .f32) (x5 : Vec Ideal S1024x3072 .bf16) (x6 : Vec Ideal S2x256x256 .bf16) (x7 : Vec Ideal S1x512 .f32) (x8 : Vec Ideal S3x512 .f32) (x9 : Vec Ideal S1024x1024 .bf16) (x10 : Vec Ideal S1x1024 .f32) (x11 : Vec Ideal S256x1024 .bf16) (x12 : Vec Ideal S1024x1024 .bf16) (x13 : Vec Ideal S1x1024 .f32) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 = Cert.KernelIdeal.Blk.b_wp x5 := by
  frame_open
  simp only [View.read_writes_junk_eq_canon, Cert.KernelIdeal.Blk.readCov_ld, View.readAt_eq_ld, Memref.IsWhole.read_unread]
  simp only [pay1, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay121, pay122, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay156, pay157, pay158, pay159, pay160, Cert.KernelIdeal.Gen.k0_pay2, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Blk.b_wp, Cert.KernelIdeal.Blk.b_wpL]
  rfl

end Cert.Kernel2Ideal.Blk
-- ==== Proof.HostSample.lean ====
module

public import proofs.«01_k».proof.Proof.Host
public import proofs.«01_k».proof.Proof.BlkO
public import proofs.«01_k».proof.Proof.BlkSample
public import Idealize.ShloMosaic.Lib.Pipeline.ValueKit.Point
public meta import Idealize.ShloMosaic.Lib.Pipeline.ValueKit.Point
public import Idealize.ShloMosaic.Lib.Claim
public meta import Idealize.ShloMosaic.Lib.Claim

@[expose] public section

/-! Over the sample batch: what the host prepares for the kernel: the weights, reshaped, and the pooling weights in pairs. -/

noncomputable section

namespace Cert.Kernel2Ideal.Arr

open Idealize.ShloMosaic Idealize.ShloMosaic.TcCoe Idealize.ShloMosaic.Tactic Idealize.SL.Sem
open Cert.Kernel2Ideal Cert.Kernel2Ideal.Gen Cert.Rd Cert.Spec

variable (m : (ℓ : Loc nD τ sig) → Buf (Elt Ideal) ℓ) (c : Dev nD)

theorem v1_at (k : Fin 1024) : (V m c main_v1 : Vec Ideal S1x1024 .f32) (ix2 0 k) = (m ((c : Thread nD τ).loc main_arg2) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v23_at (k : Fin 512) : (V m c main_v23 : Vec Ideal S1x512 .f32) (ix2 0 k) = (m ((c : Thread nD τ).loc main_arg5) : Vec Ideal S1x512 .f32) (ix2 0 k) := by
  unfold V
  simp only [List.flatten_cons, List.flatten_nil, List.append_nil, List.cons_append, List.nil_append, hostOps0, hostOps0_1, hostOps0_2, hostOps0_3, hostOps0_4]
  entry_read
  pointwise

theorem v28_at (k : Fin 1024) : (V m c main_v28 : Vec Ideal S1x1024 .f32) (ix2 0 k) = (m ((c : Thread nD τ).loc main_arg8) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v34_at (k : Fin 1024) : (V m c main_v34 : Vec Ideal S1x1024 .f32) (ix2 0 k) = (m ((c : Thread nD τ).loc main_arg11) : Vec Ideal S1x1024 .f32) (ix2 0 k) := by
  unfold V
  simp only [List.flatten_cons, List.flatten_nil, List.append_nil, List.cons_append, List.nil_append, hostOps0, hostOps0_1, hostOps0_2, hostOps0_3, hostOps0_4]
  entry_read
  pointwise

theorem v3_at (k : Fin 1024) (o : Fin 3072) : (V m c main_v3 : Vec Ideal S1024x3072 .bf16) (ix2 k o) = (m ((c : Thread nD τ).loc main_arg3) : Vec Ideal S1x1024x3072 .f32) (ix3 0 k o) := by
  unfold V
  simp only [List.flatten_cons, List.flatten_nil, List.append_nil, List.cons_append, List.nil_append, hostOps0, hostOps0_1, hostOps0_2, hostOps0_3, hostOps0_4]
  entry_read
  pointwise

theorem v24_at (k : Fin 3) (o : Fin 512) : (V m c main_v24 : Vec Ideal S3x512 .f32) (ix2 k o) = (m ((c : Thread nD τ).loc main_arg6) : Vec Ideal S1x3x512 .f32) (ix3 0 k o) := by
  unfold V
  simp only [List.flatten_cons, List.flatten_nil, List.append_nil, List.cons_append, List.nil_append, hostOps0, hostOps0_1, hostOps0_2, hostOps0_3, hostOps0_4]
  entry_read
  pointwise

theorem v26_at (k : Fin 1024) (o : Fin 1024) : (V m c main_v26 : Vec Ideal S1024x1024 .bf16) (ix2 k o) = (m ((c : Thread nD τ).loc main_arg7) : Vec Ideal S1x1024x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v30_at (k : Fin 256) (o : Fin 1024) : (V m c main_v30 : Vec Ideal S256x1024 .bf16) (ix2 k o) = (m ((c : Thread nD τ).loc main_arg9) : Vec Ideal S1x256x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v32_at (k : Fin 1024) (o : Fin 1024) : (V m c main_v32 : Vec Ideal S1024x1024 .bf16) (ix2 k o) = (m ((c : Thread nD τ).loc main_arg10) : Vec Ideal S1x1024x1024 .f32) (ix3 0 k o) := by
  unfold V
  simp only [List.flatten_cons, List.flatten_nil, List.append_nil, List.cons_append, List.nil_append, hostOps0, hostOps0_1, hostOps0_2, hostOps0_3, hostOps0_4]
  entry_read
  pointwise

theorem v35_at (b : Fin 2) (k : Fin 8192) (o : Fin 256) : (V m c main_v35 : Vec Ideal S2x8192x256 .f32) (ix3 b k o) = (m ((c : Thread nD τ).loc main_arg1) : Vec Ideal S1x2x8192x256 .f32) (ix4 0 b k o) := by
  unfold V
  simp only [List.flatten_cons, List.flatten_nil, List.append_nil, List.cons_append, List.nil_append, hostOps0, hostOps0_1, hostOps0_2, hostOps0_3, hostOps0_4]
  entry_read
  pointwise

theorem v21_at (q : Fin 2) (i o : Fin 256) : (V m c main_v21 : Vec Ideal S2x256x256 .bf16) (ix3 q i o)
      = (if (i : ℕ) / 128 = (o : ℕ) / 128 then rd4 (m ((c : Thread nD τ).loc main_arg4) : Vec Ideal S1x4x128x128 .f32) 0 (2 * q + (i : ℕ) / 128) ((i : ℕ) % 128) ((o : ℕ) % 128) else (0 : EReal)) := by
  unfold V
  simp only [List.flatten_cons, List.flatten_nil, List.append_nil, List.cons_append, List.nil_append, hostOps0, hostOps0_1, hostOps0_2, hostOps0_3, hostOps0_4]
  entry_read
  simp -implicitDefEqProofs only [StableHlo.TRef.toBuf, StableHlo.TRef.ofBuf, cast_cast, cast_eq]
  pointwise
  exact Cert.KernelIdeal.Arr.pairs_if _ q i o

end Cert.Kernel2Ideal.Arr
-- ==== Proof.ArrSample.lean ====
module

public import proofs.«01_k».proof.Proof.Args
public import proofs.«01_k».proof.Proof.HostSample
public import Idealize.ShloMosaic.Lib.Pipeline.ValueKit.Point
public meta import Idealize.ShloMosaic.Lib.Pipeline.ValueKit.Point
public import Idealize.ShloMosaic.Lib.Claim
public meta import Idealize.ShloMosaic.Lib.Claim

@[expose] public section

/-! Over the sample batch: the blocks a grid point reads, as the arguments hold them. -/

noncomputable section

namespace Cert.Kernel2Ideal.Arr

open Idealize.ShloMosaic Idealize.ShloMosaic.TcCoe Idealize.ShloMosaic.Tactic Idealize.SL.Sem
open Cert.Kernel2Ideal Cert.Kernel2Ideal.Gen Cert.Rd Cert.Spec

variable (m : (ℓ : Loc nD τ sig) → Buf (Elt Ideal) ℓ) (c : Dev nD)

theorem idx0 : ∀ t : Fin cfg0.N, win0_0.index t = ![t.val / 8, 64 * (t.val % 8) - 1, 0] := by decide +kernel
theorem idx1 : ∀ t : Fin cfg0.N, win0_1.index t = ![t.val / 8, t.val % 8, 0] := by decide +kernel
theorem idx2 : ∀ t : Fin cfg0.N, win0_2.index t = ![t.val / 8, min (64 * (t.val % 8) + 64) 511, 0] := by decide +kernel
theorem idx3 : ∀ t : Fin cfg0.N, win0_3.index t = ![t.val / 8, t.val % 8, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel

theorem x0_at (t : Fin cfg0.N) (a k : ℕ) (ha : a < 16) (hk : k < 1024) :
    rd3 (iblk m c 0 t : Vec Ideal S1x16x1024 .f32) 0 a k = rd3 (m ((c : Thread nD τ).loc main_arg0) : Vec Ideal S2x8192x1024 .f32) (t.val / 8) (16 * (64 * (t.val % 8) - 1) + a) k := by
  have ht := lt_of_lt_of_eq t.isLt (show cfg0.N = 16 from N_0)
  rw [rd3_of _ (by omega) ha hk, rd3_of _ (by omega) (by omega) hk]
  blk_ext [iblk, V, idx0]

theorem x1_at (t : Fin cfg0.N) (a k : ℕ) (ha : a < 1024) (hk : k < 1024) :
    rd3 (iblk m c 1 t : Vec Ideal S1x1024x1024 .f32) 0 a k = rd3 (m ((c : Thread nD τ).loc main_arg0) : Vec Ideal S2x8192x1024 .f32) (t.val / 8) (1024 * (t.val % 8) + a) k := by
  have ht := lt_of_lt_of_eq t.isLt (show cfg0.N = 16 from N_0)
  rw [rd3_of _ (by omega) ha hk, rd3_of _ (by omega) (by omega) hk]
  blk_ext [iblk, V, idx1]

theorem x2_at (t : Fin cfg0.N) (a k : ℕ) (ha : a < 16) (hk : k < 1024) :
    rd3 (iblk m c 2 t : Vec Ideal S1x16x1024 .f32) 0 a k = rd3 (m ((c : Thread nD τ).loc main_arg0) : Vec Ideal S2x8192x1024 .f32) (t.val / 8) (16 * (min (64 * (t.val % 8) + 64) 511) + a) k := by
  have ht := lt_of_lt_of_eq t.isLt (show cfg0.N = 16 from N_0)
  rw [rd3_of _ (by omega) ha hk, rd3_of _ (by omega) (by omega) hk]
  blk_ext [iblk, V, idx2]

theorem x3_at (t : Fin cfg0.N) (a k : ℕ) (ha : a < 1024) (hk : k < 256) :
    rd3 (iblk m c 3 t : Vec Ideal S1x1024x256 .f32) 0 a k = rd4 (m ((c : Thread nD τ).loc main_arg1) : Vec Ideal S1x2x8192x256 .f32) 0 (t.val / 8) (1024 * (t.val % 8) + a) k := by
  have ht := lt_of_lt_of_eq t.isLt (show cfg0.N = 16 from N_0)
  rw [rd3_of _ (by omega) ha hk, rd4_of _ (by omega) (by omega) (by omega) hk]
  refine Eq.trans ?_ (v35_at m c ⟨t.val / 8, by omega⟩ ⟨1024 * (t.val % 8) + a, by omega⟩ ⟨k, hk⟩)
  unfold iblk
  blk_ext [idx3]

theorem x4_at (t : Fin cfg0.N) : rd2 (iblk m c 4 t : Vec Ideal S1x1024 .f32) 0 = rd2 (m ((c : Thread nD τ).loc main_arg2) : Vec Ideal S1x1024 .f32) 0 := by
  funext k
  by_cases hk : k < 1024
  · rw [rd2_of _ (by omega) hk, rd2_of _ (by omega) hk]
    refine Eq.trans ?_ (v1_at m c ⟨k, hk⟩)
    unfold iblk
    blk_ext [idx4]
  · rw [rd2, rd2, dif_neg (by omega), dif_neg (by omega)]

theorem x7_at (t : Fin cfg0.N) : rd2 (iblk m c 7 t : Vec Ideal S1x512 .f32) 0 = rd2 (m ((c : Thread nD τ).loc main_arg5) : Vec Ideal S1x512 .f32) 0 := by
  funext k
  by_cases hk : k < 512
  · rw [rd2_of _ (by omega) hk, rd2_of _ (by omega) hk]
    refine Eq.trans ?_ (v23_at m c ⟨k, hk⟩)
    unfold iblk
    blk_ext [idx7]
  · rw [rd2, rd2, dif_neg (by omega), dif_neg (by omega)]

theorem x10_at (t : Fin cfg0.N) : rd2 (iblk m c 10 t : Vec Ideal S1x1024 .f32) 0 = rd2 (m ((c : Thread nD τ).loc main_arg8) : Vec Ideal S1x1024 .f32) 0 := by
  funext k
  by_cases hk : k < 1024
  · rw [rd2_of _ (by omega) hk, rd2_of _ (by omega) hk]
    refine Eq.trans ?_ (v28_at m c ⟨k, hk⟩)
    unfold iblk
    blk_ext [idx10]
  · rw [rd2, rd2, dif_neg (by omega), dif_neg (by omega)]

theorem x13_at (t : Fin cfg0.N) : rd2 (iblk m c 13 t : Vec Ideal S1x1024 .f32) 0 = rd2 (m ((c : Thread nD τ).loc main_arg11) : Vec Ideal S1x1024 .f32) 0 := by
  funext k
  by_cases hk : k < 1024
  · rw [rd2_of _ (by omega) hk, rd2_of _ (by omega) hk]
    refine Eq.trans ?_ (v34_at m c ⟨k, hk⟩)
    unfold iblk
    blk_ext [idx13]
  · rw [rd2, rd2, dif_neg (by omega), dif_neg (by omega)]

theorem x5_at (t : Fin cfg0.N) : rd2 (iblk m c 5 t : Vec Ideal S1024x3072 .bf16) = rd3 (m ((c : Thread nD τ).loc main_arg3) : Vec Ideal S1x1024x3072 .f32) 0 := by
  funext k o
  by_cases hk : k < 1024 ∧ o < 3072
  · rw [rd2_of _ hk.1 hk.2, rd3_of _ (by omega) hk.1 hk.2]
    refine Eq.trans ?_ (v3_at m c ⟨k, hk.1⟩ ⟨o, hk.2⟩)
    unfold iblk
    blk_ext [idx5]
  · rw [rd2, rd3, dif_neg (by omega), dif_neg (by omega)]

theorem x8_at (t : Fin cfg0.N) : rd2 (iblk m c 8 t : Vec Ideal S3x512 .f32) = rd3 (m ((c : Thread nD τ).loc main_arg6) : Vec Ideal S1x3x512 .f32) 0 := by
  funext k o
  by_cases hk : k < 3 ∧ o < 512
  · rw [rd2_of _ hk.1 hk.2, rd3_of _ (by omega) hk.1 hk.2]
    refine Eq.trans ?_ (v24_at m c ⟨k, hk.1⟩ ⟨o, hk.2⟩)
    unfold iblk
    blk_ext [idx8]
  · rw [rd2, rd3, dif_neg (by omega), dif_neg (by omega)]

theorem x9_at (t : Fin cfg0.N) : rd2 (iblk m c 9 t : Vec Ideal S1024x1024 .bf16) = rd3 (m ((c : Thread nD τ).loc main_arg7) : Vec Ideal S1x1024x1024 .f32) 0 := by
  funext k o
  by_cases hk : k < 1024 ∧ o < 1024
  · rw [rd2_of _ hk.1 hk.2, rd3_of _ (by omega) hk.1 hk.2]
    refine Eq.trans ?_ (v26_at m c ⟨k, hk.1⟩ ⟨o, hk.2⟩)
    unfold iblk
    blk_ext [idx9]
  · rw [rd2, rd3, dif_neg (by omega), dif_neg (by omega)]

theorem x11_at (t : Fin cfg0.N) : rd2 (iblk m c 11 t : Vec Ideal S256x1024 .bf16) = rd3 (m ((c : Thread nD τ).loc main_arg9) : Vec Ideal S1x256x1024 .f32) 0 := by
  funext k o
  by_cases hk : k < 256 ∧ o < 1024
  · rw [rd2_of _ hk.1 hk.2, rd3_of _ (by omega) hk.1 hk.2]
    refine Eq.trans ?_ (v30_at m c ⟨k, hk.1⟩ ⟨o, hk.2⟩)
    unfold iblk
    blk_ext [idx11]
  · rw [rd2, rd3, dif_neg (by omega), dif_neg (by omega)]

theorem x12_at (t : Fin cfg0.N) : rd2 (iblk m c 12 t : Vec Ideal S1024x1024 .bf16) = rd3 (m ((c : Thread nD τ).loc main_arg10) : Vec Ideal S1x1024x1024 .f32) 0 := by
  funext k o
  by_cases hk : k < 1024 ∧ o < 1024
  · rw [rd2_of _ hk.1 hk.2, rd3_of _ (by omega) hk.1 hk.2]
    refine Eq.trans ?_ (v32_at m c ⟨k, hk.1⟩ ⟨o, hk.2⟩)
    unfold iblk
    blk_ext [idx12]
  · rw [rd2, rd3, dif_neg (by omega), dif_neg (by omega)]

theorem x6_at (t : Fin cfg0.N) (q i o : ℕ) (hq : q < 2) (hi : i < 256) (ho : o < 256) :
    rd3 (iblk m c 6 t : Vec Ideal S2x256x256 .bf16) q i o
      = if i / 128 = o / 128 then rd4 (m ((c : Thread nD τ).loc main_arg4) : Vec Ideal S1x4x128x128 .f32) 0 (2 * q + i / 128) (i % 128) (o % 128) else 0 := by
  rw [rd3_of _ hq hi ho]
  refine Eq.trans ?_ (v21_at m c ⟨q, hq⟩ ⟨i, hi⟩ ⟨o, ho⟩)
  unfold iblk
  blk_ext [idx6]

/-- The weights as a point's blocks hold them are the arguments'. -/
theorem wts_at (t : Fin cfg0.N) :
    Cert.KernelIdeal.Blk.wts (iblk m c 4 t) (iblk m c 5 t) (iblk m c 6 t) (iblk m c 7 t) (iblk m c 8 t) (iblk m c 9 t) (iblk m c 10 t) (iblk m c 11 t) (iblk m c 12 t) (iblk m c 13 t)
      = wtsOf (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) := by
  unfold Cert.KernelIdeal.Blk.wts wtsOf
  rw [x4_at, x5_at, x7_at, x8_at, x9_at, x10_at, x11_at, x12_at, x13_at]
  refine congrArg (fun w : ℕ → ℕ → ℕ → EReal => Wts.mk _ _ w _ _ _ _ _ _ _) ?_
  funext g i o
  by_cases h : g < 4 ∧ i < 128 ∧ o < 128
  · rw [if_pos h.2, x6_at m c t _ _ _ (by omega) (by omega) (by omega), if_pos (by omega)]
    exact Cert.KernelIdeal.Arr.rd4_at _ rfl (by omega) (by omega) (by omega)
  · rw [rd4, dif_neg (by omega)]
    split_ifs with h2
    · rw [rd3, dif_neg (by omega)]
    · rfl

end Cert.Kernel2Ideal.Arr
-- ==== Proof.PointSample.lean ====
module

public import proofs.«01_k».proof.Proof.ArrSample
public import proofs.«01_k».proof.Proof.Shift

@[expose] public section

/-! Over the sample batch: what the kernel's output array holds, at every index: the layer's value. -/

noncomputable section

namespace Cert.Kernel2Ideal.Arr

open Idealize.ShloMosaic Idealize.ShloMosaic.TcCoe Idealize.ShloMosaic.Tactic Idealize.SL.Sem
open Cert.Kernel2Ideal Cert.Kernel2Ideal.Gen Cert.Rd Cert.Spec

variable (m : (ℓ : Loc nD τ sig) → Buf (Elt Ideal) ℓ) (c : Dev nD)

/-- The weights of a launch. -/
def W : Wts := wtsOf (m ((c : Thread nD τ).loc main_arg2)) (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10)) (m ((c : Thread nD τ).loc main_arg11))

/-- The rows of sequence `b`. -/
def X (b : ℕ) : ℕ → ℕ → EReal := rd3 (m ((c : Thread nD τ).loc main_arg0) : Vec Ideal S2x8192x1024 .f32) b

/-- The second stream of sequence `b`. -/
def E (b : ℕ) : ℕ → ℕ → EReal := rd4 (m ((c : Thread nD τ).loc main_arg1) : Vec Ideal S1x2x8192x256 .f32) 0 b

theorem coord1 : ∀ t : Fin cfg0.N, ((grid0.coords t) 1).val = t.val % 8 := by decide +kernel

theorem word_eq (s r : ℕ) (hs : s < 8) (hr : r < 8) : BitVec.ofNat 32 s = BitVec.ofNat 32 r ↔ s = r := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The rows a point normalises are the sequence's, zero outside it. -/
theorem rows_at (t : Fin cfg0.N) (n k : ℕ) (hn : n < 1056) (hk : k < 1024) :
    Cert.KernelIdeal.Blk.hb (BitVec.ofNat 32 (t.val % 8)) (iblk m c 0 t) (iblk m c 1 t) (iblk m c 2 t) (iblk m c 4 t) n k
      = hpad (W m c) (X m c (t.val / 8)) (1024 * (t.val % 8) + n) k := by
  have ht := lt_of_lt_of_eq t.isLt (show cfg0.N = 16 from N_0)
  have hg : rd2 (iblk m c 4 t : Vec Ideal S1x1024 .f32) 0 = (W m c).gpre := x4_at m c t
  unfold hpad X
  by_cases h1 : n < 16
  · rw [Cert.KernelIdeal.Blk.hb_lo _ _ _ _ _ n k h1 hk, hg]
    by_cases h0 : t.val % 8 = 0
    · rw [if_pos ((word_eq _ 0 (by omega) (by omega)).mpr h0), if_neg (by omega)]
    · rw [if_neg (fun h => h0 ((word_eq _ 0 (by omega) (by omega)).mp h)), if_pos (by omega)]
      refine rms_congr _ (fun j hj => ?_) k hk
      rw [x0_at m c t n j h1 hj, show 16 * (64 * (t.val % 8) - 1) + n = 1024 * (t.val % 8) + n - 16 by omega]
  · by_cases h2 : n < 1040
    · rw [Cert.KernelIdeal.Blk.hb_mid _ _ _ _ _ n k (by omega) h2 hk, hg, if_pos (by omega)]
      refine rms_congr _ (fun j hj => ?_) k hk
      rw [x1_at m c t (n - 16) j (by omega) hj, show 1024 * (t.val % 8) + (n - 16) = 1024 * (t.val % 8) + n - 16 by omega]
    · rw [Cert.KernelIdeal.Blk.hb_hi _ _ _ _ _ n k (by omega) hn hk, hg]
      by_cases h0 : t.val % 8 = 7
      · rw [if_pos ((word_eq _ 7 (by omega) (by omega)).mpr h0), if_neg (by omega)]
      · rw [if_neg (fun h => h0 ((word_eq _ 7 (by omega) (by omega)).mp h)), if_pos (by omega)]
        refine rms_congr _ (fun j hj => ?_) k hk
        rw [x2_at m c t (n - 1040) j (by omega) hj, show 16 * (min (64 * (t.val % 8) + 64) 511) + (n - 1040) = 1024 * (t.val % 8) + n - 16 by omega]

/-- After every point the carried scratch holds the paired columns of the projection. -/
theorem carried (n : ℕ) (hn : n < cfg0.N) : ∀ k < 1024, ∀ o < 2048,
    rd2 (outsAt0 m c n hn).2 k o = rd3 (m ((c : Thread nD τ).loc main_arg3) : Vec Ideal S1x1024x3072 .f32) 0 k (Cert.KernelIdeal.Blk.wcol o) := by
  induction n with
  | zero =>
    intro k hk o ho
    rw [outsAt0_A m c ⟨0, hn⟩ (Nat.zero_mod _)]
    dsimp only
    rw [Blk.soutA_eq, Cert.KernelIdeal.Blk.wp_col _ _ _ hk ho, x5_at]
  | succ n ih =>
    intro k hk o ho
    by_cases h0 : (n + 1) % 16 = 0
    · rw [outsAt0_A m c ⟨n + 1, hn⟩ h0]
      dsimp only
      rw [Blk.soutA_eq, Cert.KernelIdeal.Blk.wp_col _ _ _ hk ho, x5_at]
    · rw [outsAt0_B m c ⟨n + 1, hn⟩ h0]
      dsimp only [sout0_B_2]
      exact ih (by omega) k hk o ho

theorem pairs_zero (t : Fin cfg0.N) : ∀ q < 2, ∀ i < 256, ∀ o < 256, i / 128 ≠ o / 128 → rd3 (iblk m c 6 t : Vec Ideal S2x256x256 .bf16) q i o = 0 := by
  intro q hq i hi o ho h
  rw [x6_at m c t q i o hq hi ho, if_neg h]

/-- The block a point stores. -/
theorem block_at (t : Fin cfg0.N) (a j : ℕ) (ha : a < 1024) (hj : j < 1024) :
    rd3 (outsAt0 m c t.val t.isLt).1 0 a j
      = out (W m c) 0 (hpad (W m c) (X m c (t.val / 8))) (X m c (t.val / 8)) (E m c (t.val / 8)) (1024 * (t.val % 8) + a) j := by
  have ht := lt_of_lt_of_eq t.isLt (show cfg0.N = 16 from N_0)
  have key : ∀ wp : Vec Ideal S1024x2048 .bf16, (∀ k < 1024, ∀ o < 2048, rd2 wp k o = rd3 (m ((c : Thread nD τ).loc main_arg3) : Vec Ideal S1x1024x3072 .f32) 0 k (Cert.KernelIdeal.Blk.wcol o)) →
      rd3 (Cert.KernelIdeal.Blk.b_out (BitVec.ofNat 32 (t.val % 8)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) wp) 0 a j
      = out (W m c) 0 (hpad (W m c) (X m c (t.val / 8))) (X m c (t.val / 8)) (E m c (t.val / 8)) (1024 * (t.val % 8) + a) j := by
    intro wp hwp
    rw [Cert.KernelIdeal.Blk.out_val (hwp := by rw [x5_at]; exact hwp) (hx6 := pairs_zero m c t) (hs := by omega) (ha := ha) (hj := hj), wts_at]
    exact out_shift (W m c) _ _ _ _ _ _ _ (fun n hn k hk => rows_at m c t n k hn hk) (fun p hp k hk => x1_at m c t p k hp hk)
      (fun p hp k hk => x3_at m c t p k hp hk) a j ha hj
  by_cases h0 : t.val % 16 = 0
  · rw [outsAt0_A m c t h0]
    dsimp only
    rw [Blk.outA_eq, coord1]
    exact key _ fun k hk o ho => by rw [Cert.KernelIdeal.Blk.wp_col _ _ _ hk ho, x5_at]
  · rw [outsAt0_B m c t h0]
    dsimp only
    rw [Blk.outB_eq, coord1]
    exact key _ (carried m c _ _)

/-- The array after the run. -/
theorem array_at (b p j : ℕ) (hb : b < 2) (hp : p < 8192) (hj : j < 1024) :
    rd3 (Value.G14 m c : Vec Ideal S2x8192x1024 .f32) b p j = out (W m c) 0 (hpad (W m c) (X m c b)) (X m c b) (E m c b) p j := by
  rw [rd3_of _ hb hp hj]
  have hN : cfg0.N = 16 := N_0
  have hpt : Value.pt14Of (ix3 ⟨b, hb⟩ ⟨p, hp⟩ ⟨j, hj⟩) = 8 * b + p / 1024 := by
    show 8 * (b / 1 - 0) + 1 * (p / 1024 - 0) + 1 * (j / 1024 - 0) = _
    omega
  unfold Value.G14
  rw [dif_pos (by rw [hpt, hN]; omega)]
  simp only [hpt]
  rw [← Value.outsAt0_sweep m c (8 * b + p / 1024) (by rw [hN]; omega)]
  have h := block_at m c ⟨8 * b + p / 1024, by rw [hN]; omega⟩ (p % 1024) j (by omega) hj
  rw [rd3_of _ (by omega) (by omega) hj] at h
  dsimp only at h
  rw [show (8 * b + p / 1024) / 8 = b by omega, show 1024 * ((8 * b + p / 1024) % 8) + p % 1024 = p by omega] at h
  rw [← h]
  refine congrArg _ ?_
  funext i
  match i with
  | ⟨0, _⟩ => exact Fin.ext (Nat.mod_one b)
  | ⟨1, _⟩ => rfl
  | ⟨2, _⟩ => exact Fin.ext (Nat.mod_eq_of_lt hj)

end Cert.Kernel2Ideal.Arr
-- ==== Proof.RefHSample.lean ====
module

public import proofs.«01_k».proof.Proof.RefOps
public import proofs.«01_k».proof.Proof.Gen.Reference2Ideal.Read

@[expose] public section

/-! Over the sample batch: the reference's normalized rows and their projection. -/

namespace Cert.RefSample
open Idealize.ShloMosaic Idealize.ShloMosaic.StableHlo Cert.Reference2Ideal Cert.Reference2Ideal.Read Cert.Rd Cert.Spec

variable (x0 : (⟨S2x8192x1024, .f32⟩ : BufTy).Contents (Elt Ideal)) (x2 : (⟨S1x1024, .f32⟩ : BufTy).Contents (Elt Ideal))
  (x3 : (⟨S1x1024x3072, .f32⟩ : BufTy).Contents (Elt Ideal))

theorem h_at (i : S2x8192x1024.Idx) :
    val_main_v23 (F := Ideal) x0 x2 i = rms (rd3 x0 (i 0).val (i 1).val) (rd2 x2 0) (i 2).val := by
  rw [val_main_v23_apply, val_main_v20_apply, val_main_v19_apply, val_main_v18_apply, val_main_v17_apply, val_main_v15_apply,
    val_main_v13_apply, val_main_v12_apply, val_main_v14_apply, val_main_v16_apply, val_main_v22_apply, val_main_v21_apply, val_main_v1_apply]
  simp only [val_main_v11_apply]
  rw [val2 x2]
  simp only [val3 x0]
  have h0 : val_main_cst (F := Ideal) (Shape.Idx.first Gen.h_S_) = (0 : EReal) := Ideal.ofBits_zero_f32
  have h2 : (i 2).val < 1024 := (i 2).isLt
  rw [h0, zero_add]
  show _ * _ * rd2 x2 0 ((i 2).val % 1024) = _
  rw [Nat.mod_eq_of_lt h2]
  rfl

/-- A batch's normalized rows between sixteen rows of zeros on either side. -/
noncomputable def hp (b n k : ℕ) : EReal :=
  if 16 ≤ n ∧ n < 8208 then rms (rd3 x0 b (n - 16)) (rd2 x2 0) k else 0

theorem z_at (i : S2x8192x3072.Idx) :
    val_main_v24 (F := Ideal) x0 x2 x3 i = zc (rd3 x3 0) (hp x0 x2 (i 0).val) ((i 1).val + 16) (i 2).val := by
  have h1 : (i 1).val < 8192 := (i 1).isLt
  have h2 : (i 2).val < 3072 := (i 2).isLt
  rw [val_main_v24_apply]
  refine Finset.sum_congr rfl fun k _ => ?_
  have hk := k.isLt
  rw [h_at, val_main_v2_apply, val3 x3, hp, if_pos (by omega), Nat.add_sub_cancel]
  show rms (rd3 x0 (i 0).val (i 1).val) (rd2 x2 0) k.val * rd3 x3 0 ((k.val * 3072 + (i 2).val) / 3072 % 1024) ((k.val * 3072 + (i 2).val) % 3072) = _
  rw [show (k.val * 3072 + (i 2).val) / 3072 % 1024 = k.val by omega, show (k.val * 3072 + (i 2).val) % 3072 = (i 2).val by omega]

theorem v25_at (i : S2x8192x512.Idx) :
    val_main_v25 (F := Ideal) x0 x2 x3 i = zc (rd3 x3 0) (hp x0 x2 (i 0).val) ((i 1).val + 16) (i 2).val := by
  rw [val_main_v25_apply, z_at]

theorem v26_at (i : S2x8192x512.Idx) :
    val_main_v26 (F := Ideal) x0 x2 x3 i = zc (rd3 x3 0) (hp x0 x2 (i 0).val) ((i 1).val + 16) (512 + (i 2).val) := by
  rw [val_main_v26_apply, z_at]

theorem v27_at (i : S2x8192x512.Idx) :
    val_main_v27 (F := Ideal) x0 x2 x3 i = zc (rd3 x3 0) (hp x0 x2 (i 0).val) ((i 1).val + 16) (1024 + (i 2).val) := by
  rw [val_main_v27_apply, z_at]

theorem v28_at (i : S2x8192x512.Idx) :
    val_main_v28 (F := Ideal) x0 x2 x3 i = zc (rd3 x3 0) (hp x0 x2 (i 0).val) ((i 1).val + 16) (1536 + (i 2).val) := by
  rw [val_main_v28_apply, z_at]

theorem v29_at (i : S2x8192x512.Idx) :
    val_main_v29 (F := Ideal) x0 x2 x3 i = zc (rd3 x3 0) (hp x0 x2 (i 0).val) ((i 1).val + 16) (2048 + (i 2).val) := by
  rw [val_main_v29_apply, z_at]

theorem v30_at (i : S2x8192x512.Idx) :
    val_main_v30 (F := Ideal) x0 x2 x3 i = zc (rd3 x3 0) (hp x0 x2 (i 0).val) ((i 1).val + 16) (2560 + (i 2).val) := by
  rw [val_main_v30_apply, z_at]

end Cert.RefSample
-- ==== Proof.RefPoolSample.lean ====
module

public import proofs.«01_k».proof.Proof.RefHSample
public import proofs.«01_k».proof.Proof.Finite
public import proofs.«01_k».proof.Proof.Clip

@[expose] public section

/-! Over the sample batch: the reference's pooling: the mean of a window's rows less the row itself, from running sums. -/

namespace Cert.RefSample
open Idealize.ShloMosaic Idealize.ShloMosaic.StableHlo Cert.Reference2Ideal Cert.Reference2Ideal.Read Cert.Rd Cert.Spec

/-- A difference of running sums, over the window's size, less the row. -/
theorem dev_of_sums (win H : ℕ → ℕ → EReal) (g p c : ℕ) (hg : g < 4) (hc : c / 128 = g)
    (hH : ∀ n, ¬(16 ≤ n ∧ n < 8208) → ∀ k, H n k = 0) (hr : ∀ n, IsReal (zc win H n c)) :
    Ideal.div ((∑ q ∈ Finset.range (min (p + 2 ^ g + 1) 8192), zc win H (q + 16) c) - ∑ q ∈ Finset.range (p - (2 ^ g - 1)), zc win H (q + 16) c)
        (((cnt g p : ℝ)) : EReal) - zc win H (p + 16) c = dev win 0 H p c ∨ 8192 ≤ p := by
  by_cases hp : 8192 ≤ p
  · exact Or.inr hp
  left
  have h1 : 1 ≤ 2 ^ g := Nat.one_le_two_pow
  have h8 : 2 ^ g ≤ 8 := by
    have : 2 ^ g ≤ 2 ^ 3 := Nat.pow_le_pow_right (by omega) (by omega)
    omega
  unfold dev tot
  rw [hc, Nat.zero_add, sum_diff _ _ _ (by omega) fun i _ => hr _, pow_succ, mul_comm (2 ^ g) 2,
    window_inside (fun n => zc win H n c) (fun n hn => zc_zero win H n c (hH n hn)) p (2 ^ g) h1 h8]

variable (x0 : (⟨S2x8192x1024, .f32⟩ : BufTy).Contents (Elt Ideal)) (x2 : (⟨S1x1024, .f32⟩ : BufTy).Contents (Elt Ideal))
  (x3 : (⟨S1x1024x3072, .f32⟩ : BufTy).Contents (Elt Ideal))

theorem hp_zero (b n : ℕ) (h : ¬(16 ≤ n ∧ n < 8208)) (k : ℕ) : hp x0 x2 b n k = 0 := if_neg h

theorem hp_real (hgain : ∀ k < 1024, IsReal (rd2 x2 0 k)) (b n k : ℕ) (hk : k < 1024) : IsReal (hp x0 x2 b n k) := by
  unfold hp
  split_ifs
  · exact rms_real _ _ k hk (hgain k hk)
  · exact isReal_zero

theorem run_at (i : S2x8192x512.Idx) :
    val_main_v32 (F := Ideal) x0 x2 x3 i
      = ∑ q ∈ Finset.range ((i 1).val + 1), zc (rd3 x3 0) (hp x0 x2 (i 0).val) (q + 16) (i 2).val := by
  have h0 : (i 0).val < 2 := (i 0).isLt
  have h1 : (i 1).val < 8192 := (i 1).isLt
  have h2 : (i 2).val < 512 := (i 2).isLt
  unfold val_main_v32
  have hz : val_main_call0_call0_v0 (F := Ideal) (Shape.Idx.first Gen.h_S_) = (0 : EReal) := by
    rw [val_main_call0_call0_v0_apply]
    exact Ideal.ofBits_zero_f32
  unfold Host.reduceWindowAdd
  rw [Ideal.hostReduceWindowAdd_def, hz]
  refine (cumsum3 (B := 2) (M := 8191) (C := 512) (val_main_v25 (F := Ideal) x0 x2 x3) _ i).trans ?_
  refine Finset.sum_congr rfl fun q hq => ?_
  have hq := Finset.mem_range.1 hq
  rw [rd3_of _ h0 (by omega) h2, v25_at]
  rfl

theorem sums_at (i : S2x8193x512.Idx) :
    val_main_v33 (F := Ideal) x0 x2 x3 i
      = ∑ q ∈ Finset.range (i 1).val, zc (rd3 x3 0) (hp x0 x2 (i 0).val) (q + 16) (i 2).val := by
  have h0 : (i 0).val < 2 := (i 0).isLt
  have h1 : (i 1).val < 8193 := (i 1).isLt
  have h2 : (i 2).val < 512 := (i 2).isLt
  unfold val_main_v33
  refine (concat_mid (B := 2) (M := 8192) (C := 512) _ _ _ i).trans ?_
  split_ifs with h
  · rw [rd3_of _ h0 (by omega) h2, val_main_v31_apply, show (i 1).val = 0 by omega, Finset.sum_range_zero]
    exact Ideal.ofBits_zero_f32
  · rw [rd3_of _ h0 (by omega) h2, run_at]
    show ∑ q ∈ Finset.range ((i 1).val - 1 + 1), _ = _
    rw [Nat.sub_add_cancel (by omega)]
    rfl

theorem lo0_at (i : S8192.Idx) : (val_main_v37 (F := Ideal) i).toInt = (((i 0).val - 0 : ℕ) : ℤ) :=
  lo_word (i 0).val 0 (i 0).isLt (by omega)

theorem hi0_at (i : S8192.Idx) : (val_main_v42 (F := Ideal) i).toInt = ((min ((i 0).val + 1 + 1) 8192 : ℕ) : ℤ) :=
  hi_word (i 0).val 1 (i 0).isLt (by omega)

theorem slice0_at (i : S2x8193x128.Idx) :
    val_main_v43 (F := Ideal) x0 x2 x3 i
      = ∑ q ∈ Finset.range (i 1).val, zc (rd3 x3 0) (hp x0 x2 (i 0).val) (q + 16) (i 2).val := by
  rw [val_main_v43_apply, sums_at]

theorem upper0_at (i : S2x8192x128.Idx) :
    val_main_v50 (F := Ideal) x0 x2 x3 i
      = ∑ q ∈ Finset.range (min ((i 1).val + 1 + 1) 8192), zc (rd3 x3 0) (hp x0 x2 (i 0).val) (q + 16) (i 2).val := by
  have h0 : (i 0).val < 2 := (i 0).isLt
  have h1 : (i 1).val < 8192 := (i 1).isLt
  have h2 : (i 2).val < 128 := (i 2).isLt
  unfold val_main_v50
  refine (gather_mid (B := 2) (N := 8193) (C := 128) (n := 8192) Gen.facts.gather_S2x8193x128_S8192x1_S2x8192x128_02_1_n_n_1_1_21128_wf
    _ _ i (min ((i 1).val + 1 + 1) 8192) (by omega) fun q hq => ?_).trans ?_
  · rw [val_main_v49_apply]
    have hw := hi0_at (idx_main_v49 (ix2 q (0 : Fin 1)))
    refine (congrArg BitVec.toInt (wrap_word _ _ hw)).trans (hw.trans ?_)
    show ((min (q.val + 1 + 1) 8192 : ℕ) : ℤ) = _
    rw [hq]
  · rw [rd3_of _ h0 (by omega) h2, slice0_at]
    rfl

theorem lower0_at (i : S2x8192x128.Idx) :
    val_main_v57 (F := Ideal) x0 x2 x3 i
      = ∑ q ∈ Finset.range ((i 1).val - 0), zc (rd3 x3 0) (hp x0 x2 (i 0).val) (q + 16) (i 2).val := by
  have h0 : (i 0).val < 2 := (i 0).isLt
  have h1 : (i 1).val < 8192 := (i 1).isLt
  have h2 : (i 2).val < 128 := (i 2).isLt
  unfold val_main_v57
  refine (gather_mid (B := 2) (N := 8193) (C := 128) (n := 8192) Gen.facts.gather_S2x8193x128_S8192x1_S2x8192x128_02_1_n_n_1_1_21128_wf
    _ _ i ((i 1).val - 0) (by omega) fun q hq => ?_).trans ?_
  · rw [val_main_v56_apply]
    have hw := lo0_at (idx_main_v56 (ix2 q (0 : Fin 1)))
    refine (congrArg BitVec.toInt (wrap_word _ _ hw)).trans (hw.trans ?_)
    show ((q.val - 0 : ℕ) : ℤ) = _
    rw [hq]
  · rw [rd3_of _ h0 (by omega) h2, slice0_at]
    rfl

theorem size0_at (i : S8192.Idx) : val_main_v60 (F := Ideal) i = (((cnt 0 (i 0).val : ℝ)) : EReal) := by
  have h1 : (i 0).val < 8192 := (i 0).isLt
  have hs := sub_word _ _ _ _ (hi0_at i) (lo0_at i) (by omega) (by omega)
  have e : val_main_v60 (F := Ideal) i = (((IntOp.subi (val_main_v42 (F := Ideal) i) (val_main_v37 (F := Ideal) i)).toInt : ℝ) : EReal) := rfl
  rw [e, hs, Int.cast_natCast]
  rfl

theorem dev0_at (hgain : ∀ k < 1024, IsReal (rd2 x2 0 k)) (hwin : ∀ k < 1024, ∀ c < 512, IsReal (rd3 x3 0 k c)) (i : S2x8192x128.Idx) :
    val_main_v65 (F := Ideal) x0 x2 x3 i = dev (rd3 x3 0) 0 (hp x0 x2 (i 0).val) (i 1).val (0 + (i 2).val) := by
  have h1 : (i 1).val < 8192 := (i 1).isLt
  have h2 : (i 2).val < 128 := (i 2).isLt
  rw [val_main_v65_apply, val_main_v63_apply, val_main_v58_apply, val_main_v62_apply, val_main_v61_apply, val_main_v64_apply,
    upper0_at, lower0_at, size0_at, v25_at]
  have e := (dev_of_sums (rd3 x3 0) (hp x0 x2 (i 0).val) 0 (i 1).val (0 + (i 2).val) (by omega) (by omega)
    (fun n hn k => hp_zero x0 x2 _ n hn k)
    (fun n => zc_real _ _ _ _ (fun k hk => hp_real x0 x2 hgain _ _ k hk) fun k hk => hwin k hk _ (by omega))).resolve_right (by omega)
  rw [Nat.zero_add] at e ⊢
  exact e

theorem lo1_at (i : S8192.Idx) : (val_main_v68 (F := Ideal) i).toInt = (((i 0).val - 1 : ℕ) : ℤ) :=
  lo_word (i 0).val 1 (i 0).isLt (by omega)

theorem hi1_at (i : S8192.Idx) : (val_main_v73 (F := Ideal) i).toInt = ((min ((i 0).val + 2 + 1) 8192 : ℕ) : ℤ) :=
  hi_word (i 0).val 2 (i 0).isLt (by omega)

theorem slice1_at (i : S2x8193x128.Idx) :
    val_main_v74 (F := Ideal) x0 x2 x3 i
      = ∑ q ∈ Finset.range (i 1).val, zc (rd3 x3 0) (hp x0 x2 (i 0).val) (q + 16) (128 + (i 2).val) := by
  rw [val_main_v74_apply, sums_at]

theorem upper1_at (i : S2x8192x128.Idx) :
    val_main_v81 (F := Ideal) x0 x2 x3 i
      = ∑ q ∈ Finset.range (min ((i 1).val + 2 + 1) 8192), zc (rd3 x3 0) (hp x0 x2 (i 0).val) (q + 16) (128 + (i 2).val) := by
  have h0 : (i 0).val < 2 := (i 0).isLt
  have h1 : (i 1).val < 8192 := (i 1).isLt
  have h2 : (i 2).val < 128 := (i 2).isLt
  unfold val_main_v81
  refine (gather_mid (B := 2) (N := 8193) (C := 128) (n := 8192) Gen.facts.gather_S2x8193x128_S8192x1_S2x8192x128_02_1_n_n_1_1_21128_wf
    _ _ i (min ((i 1).val + 2 + 1) 8192) (by omega) fun q hq => ?_).trans ?_
  · rw [val_main_v80_apply]
    have hw := hi1_at (idx_main_v80 (ix2 q (0 : Fin 1)))
    refine (congrArg BitVec.toInt (wrap_word _ _ hw)).trans (hw.trans ?_)
    show ((min (q.val + 2 + 1) 8192 : ℕ) : ℤ) = _
    rw [hq]
  · rw [rd3_of _ h0 (by omega) h2, slice1_at]
    rfl

theorem lower1_at (i : S2x8192x128.Idx) :
    val_main_v88 (F := Ideal) x0 x2 x3 i
      = ∑ q ∈ Finset.range ((i 1).val - 1), zc (rd3 x3 0) (hp x0 x2 (i 0).val) (q + 16) (128 + (i 2).val) := by
  have h0 : (i 0).val < 2 := (i 0).isLt
  have h1 : (i 1).val < 8192 := (i 1).isLt
  have h2 : (i 2).val < 128 := (i 2).isLt
  unfold val_main_v88
  refine (gather_mid (B := 2) (N := 8193) (C := 128) (n := 8192) Gen.facts.gather_S2x8193x128_S8192x1_S2x8192x128_02_1_n_n_1_1_21128_wf
    _ _ i ((i 1).val - 1) (by omega) fun q hq => ?_).trans ?_
  · rw [val_main_v87_apply]
    have hw := lo1_at (idx_main_v87 (ix2 q (0 : Fin 1)))
    refine (congrArg BitVec.toInt (wrap_word _ _ hw)).trans (hw.trans ?_)
    show ((q.val - 1 : ℕ) : ℤ) = _
    rw [hq]
  · rw [rd3_of _ h0 (by omega) h2, slice1_at]
    rfl

theorem size1_at (i : S8192.Idx) : val_main_v91 (F := Ideal) i = (((cnt 1 (i 0).val : ℝ)) : EReal) := by
  have h1 : (i 0).val < 8192 := (i 0).isLt
  have hs := sub_word _ _ _ _ (hi1_at i) (lo1_at i) (by omega) (by omega)
  have e : val_main_v91 (F := Ideal) i = (((IntOp.subi (val_main_v73 (F := Ideal) i) (val_main_v68 (F := Ideal) i)).toInt : ℝ) : EReal) := rfl
  rw [e, hs, Int.cast_natCast]
  rfl

theorem dev1_at (hgain : ∀ k < 1024, IsReal (rd2 x2 0 k)) (hwin : ∀ k < 1024, ∀ c < 512, IsReal (rd3 x3 0 k c)) (i : S2x8192x128.Idx) :
    val_main_v96 (F := Ideal) x0 x2 x3 i = dev (rd3 x3 0) 0 (hp x0 x2 (i 0).val) (i 1).val (128 + (i 2).val) := by
  have h1 : (i 1).val < 8192 := (i 1).isLt
  have h2 : (i 2).val < 128 := (i 2).isLt
  rw [val_main_v96_apply, val_main_v94_apply, val_main_v89_apply, val_main_v93_apply, val_main_v92_apply, val_main_v95_apply,
    upper1_at, lower1_at, size1_at, v25_at]
  have e := (dev_of_sums (rd3 x3 0) (hp x0 x2 (i 0).val) 1 (i 1).val (128 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

theorem lo2_at (i : S8192.Idx) : (val_main_v99 (F := Ideal) i).toInt = (((i 0).val - 3 : ℕ) : ℤ) :=
  lo_word (i 0).val 3 (i 0).isLt (by omega)

theorem hi2_at (i : S8192.Idx) : (val_main_v104 (F := Ideal) i).toInt = ((min ((i 0).val + 4 + 1) 8192 : ℕ) : ℤ) :=
  hi_word (i 0).val 4 (i 0).isLt (by omega)

theorem slice2_at (i : S2x8193x128.Idx) :
    val_main_v105 (F := Ideal) x0 x2 x3 i
      = ∑ q ∈ Finset.range (i 1).val, zc (rd3 x3 0) (hp x0 x2 (i 0).val) (q + 16) (256 + (i 2).val) := by
  rw [val_main_v105_apply, sums_at]

theorem upper2_at (i : S2x8192x128.Idx) :
    val_main_v112 (F := Ideal) x0 x2 x3 i
      = ∑ q ∈ Finset.range (min ((i 1).val + 4 + 1) 8192), zc (rd3 x3 0) (hp x0 x2 (i 0).val) (q + 16) (256 + (i 2).val) := by
  have h0 : (i 0).val < 2 := (i 0).isLt
  have h1 : (i 1).val < 8192 := (i 1).isLt
  have h2 : (i 2).val < 128 := (i 2).isLt
  unfold val_main_v112
  refine (gather_mid (B := 2) (N := 8193) (C := 128) (n := 8192) Gen.facts.gather_S2x8193x128_S8192x1_S2x8192x128_02_1_n_n_1_1_21128_wf
    _ _ i (min ((i 1).val + 4 + 1) 8192) (by omega) fun q hq => ?_).trans ?_
  · rw [val_main_v111_apply]
    have hw := hi2_at (idx_main_v111 (ix2 q (0 : Fin 1)))
    refine (congrArg BitVec.toInt (wrap_word _ _ hw)).trans (hw.trans ?_)
    show ((min (q.val + 4 + 1) 8192 : ℕ) : ℤ) = _
    rw [hq]
  · rw [rd3_of _ h0 (by omega) h2, slice2_at]
    rfl

theorem lower2_at (i : S2x8192x128.Idx) :
    val_main_v119 (F := Ideal) x0 x2 x3 i
      = ∑ q ∈ Finset.range ((i 1).val - 3), zc (rd3 x3 0) (hp x0 x2 (i 0).val) (q + 16) (256 + (i 2).val) := by
  have h0 : (i 0).val < 2 := (i 0).isLt
  have h1 : (i 1).val < 8192 := (i 1).isLt
  have h2 : (i 2).val < 128 := (i 2).isLt
  unfold val_main_v119
  refine (gather_mid (B := 2) (N := 8193) (C := 128) (n := 8192) Gen.facts.gather_S2x8193x128_S8192x1_S2x8192x128_02_1_n_n_1_1_21128_wf
    _ _ i ((i 1).val - 3) (by omega) fun q hq => ?_).trans ?_
  · rw [val_main_v118_apply]
    have hw := lo2_at (idx_main_v118 (ix2 q (0 : Fin 1)))
    refine (congrArg BitVec.toInt (wrap_word _ _ hw)).trans (hw.trans ?_)
    show ((q.val - 3 : ℕ) : ℤ) = _
    rw [hq]
  · rw [rd3_of _ h0 (by omega) h2, slice2_at]
    rfl

theorem size2_at (i : S8192.Idx) : val_main_v122 (F := Ideal) i = (((cnt 2 (i 0).val : ℝ)) : EReal) := by
  have h1 : (i 0).val < 8192 := (i 0).isLt
  have hs := sub_word _ _ _ _ (hi2_at i) (lo2_at i) (by omega) (by omega)
  have e : val_main_v122 (F := Ideal) i = (((IntOp.subi (val_main_v104 (F := Ideal) i) (val_main_v99 (F := Ideal) i)).toInt : ℝ) : EReal) := rfl
  rw [e, hs, Int.cast_natCast]
  rfl

theorem dev2_at (hgain : ∀ k < 1024, IsReal (rd2 x2 0 k)) (hwin : ∀ k < 1024, ∀ c < 512, IsReal (rd3 x3 0 k c)) (i : S2x8192x128.Idx) :
    val_main_v127 (F := Ideal) x0 x2 x3 i = dev (rd3 x3 0) 0 (hp x0 x2 (i 0).val) (i 1).val (256 + (i 2).val) := by
  have h1 : (i 1).val < 8192 := (i 1).isLt
  have h2 : (i 2).val < 128 := (i 2).isLt
  rw [val_main_v127_apply, val_main_v125_apply, val_main_v120_apply, val_main_v124_apply, val_main_v123_apply, val_main_v126_apply,
    upper2_at, lower2_at, size2_at, v25_at]
  have e := (dev_of_sums (rd3 x3 0) (hp x0 x2 (i 0).val) 2 (i 1).val (256 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

theorem lo3_at (i : S8192.Idx) : (val_main_v130 (F := Ideal) i).toInt = (((i 0).val - 7 : ℕ) : ℤ) :=
  lo_word (i 0).val 7 (i 0).isLt (by omega)

theorem hi3_at (i : S8192.Idx) : (val_main_v135 (F := Ideal) i).toInt = ((min ((i 0).val + 8 + 1) 8192 : ℕ) : ℤ) :=
  hi_word (i 0).val 8 (i 0).isLt (by omega)

theorem slice3_at (i : S2x8193x128.Idx) :
    val_main_v136 (F := Ideal) x0 x2 x3 i
      = ∑ q ∈ Finset.range (i 1).val, zc (rd3 x3 0) (hp x0 x2 (i 0).val) (q + 16) (384 + (i 2).val) := by
  rw [val_main_v136_apply, sums_at]

theorem upper3_at (i : S2x8192x128.Idx) :
    val_main_v143 (F := Ideal) x0 x2 x3 i
      = ∑ q ∈ Finset.range (min ((i 1).val + 8 + 1) 8192), zc (rd3 x3 0) (hp x0 x2 (i 0).val) (q + 16) (384 + (i 2).val) := by
  have h0 : (i 0).val < 2 := (i 0).isLt
  have h1 : (i 1).val < 8192 := (i 1).isLt
  have h2 : (i 2).val < 128 := (i 2).isLt
  unfold val_main_v143
  refine (gather_mid (B := 2) (N := 8193) (C := 128) (n := 8192) Gen.facts.gather_S2x8193x128_S8192x1_S2x8192x128_02_1_n_n_1_1_21128_wf
    _ _ i (min ((i 1).val + 8 + 1) 8192) (by omega) fun q hq => ?_).trans ?_
  · rw [val_main_v142_apply]
    have hw := hi3_at (idx_main_v142 (ix2 q (0 : Fin 1)))
    refine (congrArg BitVec.toInt (wrap_word _ _ hw)).trans (hw.trans ?_)
    show ((min (q.val + 8 + 1) 8192 : ℕ) : ℤ) = _
    rw [hq]
  · rw [rd3_of _ h0 (by omega) h2, slice3_at]
    rfl

theorem lower3_at (i : S2x8192x128.Idx) :
    val_main_v150 (F := Ideal) x0 x2 x3 i
      = ∑ q ∈ Finset.range ((i 1).val - 7), zc (rd3 x3 0) (hp x0 x2 (i 0).val) (q + 16) (384 + (i 2).val) := by
  have h0 : (i 0).val < 2 := (i 0).isLt
  have h1 : (i 1).val < 8192 := (i 1).isLt
  have h2 : (i 2).val < 128 := (i 2).isLt
  unfold val_main_v150
  refine (gather_mid (B := 2) (N := 8193) (C := 128) (n := 8192) Gen.facts.gather_S2x8193x128_S8192x1_S2x8192x128_02_1_n_n_1_1_21128_wf
    _ _ i ((i 1).val - 7) (by omega) fun q hq => ?_).trans ?_
  · rw [val_main_v149_apply]
    have hw := lo3_at (idx_main_v149 (ix2 q (0 : Fin 1)))
    refine (congrArg BitVec.toInt (wrap_word _ _ hw)).trans (hw.trans ?_)
    show ((q.val - 7 : ℕ) : ℤ) = _
    rw [hq]
  · rw [rd3_of _ h0 (by omega) h2, slice3_at]
    rfl

theorem size3_at (i : S8192.Idx) : val_main_v153 (F := Ideal) i = (((cnt 3 (i 0).val : ℝ)) : EReal) := by
  have h1 : (i 0).val < 8192 := (i 0).isLt
  have hs := sub_word _ _ _ _ (hi3_at i) (lo3_at i) (by omega) (by omega)
  have e : val_main_v153 (F := Ideal) i = (((IntOp.subi (val_main_v135 (F := Ideal) i) (val_main_v130 (F := Ideal) i)).toInt : ℝ) : EReal) := rfl
  rw [e, hs, Int.cast_natCast]
  rfl

theorem dev3_at (hgain : ∀ k < 1024, IsReal (rd2 x2 0 k)) (hwin : ∀ k < 1024, ∀ c < 512, IsReal (rd3 x3 0 k c)) (i : S2x8192x128.Idx) :
    val_main_v158 (F := Ideal) x0 x2 x3 i = dev (rd3 x3 0) 0 (hp x0 x2 (i 0).val) (i 1).val (384 + (i 2).val) := by
  have h1 : (i 1).val < 8192 := (i 1).isLt
  have h2 : (i 2).val < 128 := (i 2).isLt
  rw [val_main_v158_apply, val_main_v156_apply, val_main_v151_apply, val_main_v155_apply, val_main_v154_apply, val_main_v157_apply,
    upper3_at, lower3_at, size3_at, v25_at]
  have e := (dev_of_sums (rd3 x3 0) (hp x0 x2 (i 0).val) 3 (i 1).val (384 + (i 2).val) (by omega) (by omega)
    (fun n hn k => hp_zero x0 x2 _ n hn k)
    (fun n => zc_real _ _ _ _ (fun k hk => hp_real x0 x2 hgain _ _ k hk) fun k hk => hwin k hk _ (by omega))).resolve_right (by omega)

  exact e

end Cert.RefSample
-- ==== Proof.RefMixSample.lean ====
module

public import proofs.«01_k».proof.Proof.RefPoolSample

@[expose] public section

/-! Over the sample batch: the reference's two mixers, side by side. -/

namespace Cert.RefSample
open Idealize.ShloMosaic Idealize.ShloMosaic.StableHlo Cert.Reference2Ideal Cert.Reference2Ideal.Read Cert.Rd Cert.Spec

/-- One over one plus the exponential of the negation is the logistic function. -/
theorem logistic_of (z : EReal) :
    Ideal.div (Ideal.ofBits .f32 0x3F800000#32) (Ideal.ofBits .f32 0x3F800000#32 + Ideal.exp (-z)) = Ideal.logistic z := by
  rw [Ideal.ofBits_one_f32]
  rfl

variable (x0 : (⟨S2x8192x1024, .f32⟩ : BufTy).Contents (Elt Ideal)) (x2 : (⟨S1x1024, .f32⟩ : BufTy).Contents (Elt Ideal)) (x3 : (⟨S1x1024x3072, .f32⟩ : BufTy).Contents (Elt Ideal))
  (x4 : (⟨S1x4x128x128, .f32⟩ : BufTy).Contents (Elt Ideal)) (x5 : (⟨S1x512, .f32⟩ : BufTy).Contents (Elt Ideal)) (x6 : (⟨S1x3x512, .f32⟩ : BufTy).Contents (Elt Ideal))
  (x7 : (⟨S1x1024x1024, .f32⟩ : BufTy).Contents (Elt Ideal)) (x8 : (⟨S1x1024, .f32⟩ : BufTy).Contents (Elt Ideal)) (x9 : (⟨S1x256x1024, .f32⟩ : BufTy).Contents (Elt Ideal))
  (x10 : (⟨S1x1024x1024, .f32⟩ : BufTy).Contents (Elt Ideal)) (x11 : (⟨S1x1024, .f32⟩ : BufTy).Contents (Elt Ideal))

theorem groups_at (hgain : ∀ k < 1024, IsReal (rd2 x2 0 k)) (hwin : ∀ k < 1024, ∀ c < 512, IsReal (rd3 x3 0 k c)) (i : S2x8192x4x128.Idx) :
    val_main_v163 (F := Ideal) x0 x2 x3 i = dev (rd3 x3 0) 0 (hp x0 x2 (i 0).val) (i 1).val (128 * (i 2).val + (i 3).val) := by
  unfold val_main_v163
  refine concat_four (B := 2) (M := 8192) (C := 128) _ _ _ _ _ i (fun b p g k => dev (rd3 x3 0) 0 (hp x0 x2 b) p (128 * g + k)) ?_ ?_ ?_ ?_
  · intro i
    rw [val_main_v159_apply, dev0_at x0 x2 x3 hgain hwin]
  · intro i
    rw [val_main_v160_apply, dev1_at x0 x2 x3 hgain hwin]
  · intro i
    rw [val_main_v161_apply, dev2_at x0 x2 x3 hgain hwin]
  · intro i
    rw [val_main_v162_apply, dev3_at x0 x2 x3 hgain hwin]

theorem mixed_at (hgain : ∀ k < 1024, IsReal (rd2 x2 0 k)) (hwin : ∀ k < 1024, ∀ c < 512, IsReal (rd3 x3 0 k c)) (i : S2x8192x512.Idx) :
    val_main_v166 (F := Ideal) x0 x2 x3 x4 i
      = ∑ k : Fin 128, dev (rd3 x3 0) 0 (hp x0 x2 (i 0).val) (i 1).val (128 * ((i 2).val / 128) + k) * rd4 x4 0 ((i 2).val / 128) k ((i 2).val % 128) := by
  have h0 : (i 0).val < 2 := (i 0).isLt
  have h1 : (i 1).val < 8192 := (i 1).isLt
  have h2 : (i 2).val < 512 := (i 2).isLt
  rw [val_main_v166_apply, val_main_v165_apply, val_main_v164_apply]
  refine Finset.sum_congr rfl fun k _ => ?_
  have hk := k.isLt
  rw [val_main_v3_apply, val4 x4, groups_at x0 x2 x3 hgain hwin, mul_comm]
  have e0 : (((i 0).val * 8192 + (i 1).val) * 512 + (i 2).val) / 4194304 = (i 0).val := by omega
  have e1 : (((i 0).val * 8192 + (i 1).val) * 512 + (i 2).val) / 512 % 8192 = (i 1).val := by omega
  have e2 : (((i 0).val * 8192 + (i 1).val) * 512 + (i 2).val) / 128 % 4 = (i 2).val / 128 := by omega
  have e3 : (((i 0).val * 8192 + (i 1).val) * 512 + (i 2).val) % 128 = (i 2).val % 128 := by omega
  show dev (rd3 x3 0) 0 (hp x0 x2 ((((i 0).val * 8192 + (i 1).val) * 512 + (i 2).val) / 4194304)) ((((i 0).val * 8192 + (i 1).val) * 512 + (i 2).val) / 512 % 8192)
      (128 * ((((i 0).val * 8192 + (i 1).val) * 512 + (i 2).val) / 128 % 4) + k.val)
    * rd4 x4 0 ((((((i 0).val * 8192 + (i 1).val) * 512 + (i 2).val) / 128 % 4 * 128 + k.val) * 128 + (((i 0).val * 8192 + (i 1).val) * 512 + (i 2).val) % 128) / 16384 % 4)
      ((((((i 0).val * 8192 + (i 1).val) * 512 + (i 2).val) / 128 % 4 * 128 + k.val) * 128 + (((i 0).val * 8192 + (i 1).val) * 512 + (i 2).val) % 128) / 128 % 128)
      ((((((i 0).val * 8192 + (i 1).val) * 512 + (i 2).val) / 128 % 4 * 128 + k.val) * 128 + (((i 0).val * 8192 + (i 1).val) * 512 + (i 2).val) % 128) % 128) = _
  rw [e0, e1, e2, e3]
  have f1 : (((i 2).val / 128 * 128 + k.val) * 128 + (i 2).val % 128) / 16384 % 4 = (i 2).val / 128 := by omega
  have f2 : (((i 2).val / 128 * 128 + k.val) * 128 + (i 2).val % 128) / 128 % 128 = k.val := by omega
  have f3 : (((i 2).val / 128 * 128 + k.val) * 128 + (i 2).val % 128) % 128 = (i 2).val % 128 := by omega
  rw [f1, f2, f3]

/-- The weights of the reference's arguments. -/
noncomputable abbrev WW : Wts := wtsOf x2 x3 x4 x5 x6 x7 x8 x9 x10 x11

theorem silu_a (i : S2x8192x512.Idx) : val_main_v170 (F := Ideal) x0 x2 x3 i
    = zc (rd3 x3 0) (hp x0 x2 (i 0).val) ((i 1).val + 16) (512 + (i 2).val)
      * Ideal.logistic (zc (rd3 x3 0) (hp x0 x2 (i 0).val) ((i 1).val + 16) (512 + (i 2).val)) := by
  rw [← v26_at, ← logistic_of, val_main_v170_apply, val_main_call9_v5_apply, val_main_call9_v4_apply, val_main_call9_v3_apply,
    val_main_call9_v2_apply, val_main_call9_v1_apply, val_main_call9_v0_apply]
  rfl

theorem silu_b (i : S2x8192x512.Idx) : val_main_v195 (F := Ideal) x0 x2 x3 i
    = zc (rd3 x3 0) (hp x0 x2 (i 0).val) ((i 1).val + 16) (2560 + (i 2).val)
      * Ideal.logistic (zc (rd3 x3 0) (hp x0 x2 (i 0).val) ((i 1).val + 16) (2560 + (i 2).val)) := by
  rw [← v30_at, ← logistic_of, val_main_v195_apply, val_main_call11_v5_apply, val_main_call11_v4_apply, val_main_call11_v3_apply,
    val_main_call11_v2_apply, val_main_call11_v1_apply, val_main_call11_v0_apply]
  rfl

theorem ya_at (hgain : ∀ k < 1024, IsReal (rd2 x2 0 k)) (hwin : ∀ k < 1024, ∀ c < 512, IsReal (rd3 x3 0 k c)) (i : S2x8192x512.Idx) :
    val_main_v171 (F := Ideal) x0 x2 x3 x4 x5 i
      = ya (WW x2 x3 x4 x5 x6 x7 x8 x9 x10 x11) 0 (hp x0 x2 (i 0).val) (i 1).val (i 2).val := by
  have h2 : (i 2).val < 512 := (i 2).isLt
  rw [val_main_v171_apply, val_main_v169_apply, mixed_at x0 x2 x3 x4 hgain hwin, silu_a, val_main_v168_apply, val_main_v167_apply, val_main_v4_apply, val2 x5]
  show _ * rd2 x5 0 ((i 2).val % 512) * _ = _
  rw [Nat.mod_eq_of_lt h2, mul_assoc]
  rfl

theorem padded_at (i : S2x8194x512.Idx) :
    val_main_v173 (F := Ideal) x0 x2 x3 i = cu (rd3 x3 0) (hp x0 x2 (i 0).val) ((i 1).val + 15) (i 2).val := by
  have h0 : (i 0).val < 2 := (i 0).isLt
  have h1 : (i 1).val < 8194 := (i 1).isLt
  have h2 : (i 2).val < 512 := (i 2).isLt
  have hz : val_main_call10_v0 (F := Ideal) (Shape.Idx.first Gen.h_S_) = (0 : EReal) := by
    rw [val_main_call10_v0_apply]
    show (((0#32 : BitVec 32).toInt : ℝ) : EReal) = 0
    simp
  unfold val_main_v173
  refine (pad_one (B := 2) (M := 8192) (N := 8194) (C := 512) _ _ _ _ i hz).trans ?_
  split_ifs with h
  · rw [rd3_of _ h0 (by omega) h2, val_main_v172_apply, v29_at, v27_at]
    show zc (rd3 x3 0) (hp x0 x2 (i 0).val) ((i 1).val - 1 + 16) (2048 + (i 2).val) * zc (rd3 x3 0) (hp x0 x2 (i 0).val) ((i 1).val - 1 + 16) (1024 + (i 2).val) = _
    rw [show (i 1).val - 1 + 16 = (i 1).val + 15 by omega]
    rfl
  · unfold cu
    rw [zc_zero _ _ _ _ (hp_zero x0 x2 _ _ (by omega)), zero_mul]

theorem tap0 (i : S2x8192x512.Idx) : val_main_v178 (F := Ideal) x6 i = rd3 x6 0 0 (i 2).val := by
  have h2 : (i 2).val < 512 := (i 2).isLt
  rw [val_main_v178_apply, val_main_v177_apply, val_main_v176_apply, val_main_v175_apply, val_main_v5_apply, val3 x6]
  show rd3 x6 0 ((0 * 512 + (i 2).val % 512) / 512 % 3) ((0 * 512 + (i 2).val % 512) % 512) = _
  rw [show (0 * 512 + (i 2).val % 512) / 512 % 3 = 0 by omega, show (0 * 512 + (i 2).val % 512) % 512 = (i 2).val by omega]

theorem tap1 (i : S2x8192x512.Idx) : val_main_v184 (F := Ideal) x6 i = rd3 x6 0 1 (i 2).val := by
  have h2 : (i 2).val < 512 := (i 2).isLt
  rw [val_main_v184_apply, val_main_v183_apply, val_main_v182_apply, val_main_v181_apply, val_main_v5_apply, val3 x6]
  show rd3 x6 0 (((1 + 0) * 512 + (i 2).val % 512) / 512 % 3) (((1 + 0) * 512 + (i 2).val % 512) % 512) = _
  rw [show ((1 + 0) * 512 + (i 2).val % 512) / 512 % 3 = 1 by omega, show ((1 + 0) * 512 + (i 2).val % 512) % 512 = (i 2).val by omega]

theorem tap2 (i : S2x8192x512.Idx) : val_main_v191 (F := Ideal) x6 i = rd3 x6 0 2 (i 2).val := by
  have h2 : (i 2).val < 512 := (i 2).isLt
  rw [val_main_v191_apply, val_main_v190_apply, val_main_v189_apply, val_main_v188_apply, val_main_v5_apply, val3 x6]
  show rd3 x6 0 (((2 + 0) * 512 + (i 2).val % 512) / 512 % 3) (((2 + 0) * 512 + (i 2).val % 512) % 512) = _
  rw [show ((2 + 0) * 512 + (i 2).val % 512) / 512 % 3 = 2 by omega, show ((2 + 0) * 512 + (i 2).val % 512) % 512 = (i 2).val by omega]

theorem conv_at (i : S2x8192x512.Idx) :
    val_main_v193 (F := Ideal) x0 x2 x3 x6 i
      = cu (rd3 x3 0) (hp x0 x2 (i 0).val) ((i 1).val + 15) (i 2).val * rd3 x6 0 0 (i 2).val
        + cu (rd3 x3 0) (hp x0 x2 (i 0).val) ((i 1).val + 16) (i 2).val * rd3 x6 0 1 (i 2).val
        + cu (rd3 x3 0) (hp x0 x2 (i 0).val) ((i 1).val + 17) (i 2).val * rd3 x6 0 2 (i 2).val := by
  rw [val_main_v193_apply, val_main_v186_apply, val_main_v179_apply, val_main_v185_apply,
    val_main_v192_apply, val_main_v174_apply, val_main_v180_apply, val_main_v187_apply, padded_at, padded_at, padded_at, tap0, tap1, tap2]
  show cu (rd3 x3 0) (hp x0 x2 (i 0).val) ((i 1).val + 15) (i 2).val * rd3 x6 0 0 (i 2).val
        + cu (rd3 x3 0) (hp x0 x2 (i 0).val) (1 + (i 1).val + 15) (i 2).val * rd3 x6 0 1 (i 2).val
        + cu (rd3 x3 0) (hp x0 x2 (i 0).val) (2 + (i 1).val + 15) (i 2).val * rd3 x6 0 2 (i 2).val = _
  rw [show 1 + (i 1).val + 15 = (i 1).val + 16 by omega, show 2 + (i 1).val + 15 = (i 1).val + 17 by omega]

theorem yb_at (i : S2x8192x512.Idx) :
    val_main_v196 (F := Ideal) x0 x2 x3 x6 i
      = yb (WW x2 x3 x4 x5 x6 x7 x8 x9 x10 x11) (hp x0 x2 (i 0).val) (i 1).val (i 2).val := by
  rw [val_main_v196_apply, val_main_v194_apply, silu_b, v28_at, conv_at]
  show _ * _ * _ = _
  rw [mul_comm (zc (rd3 x3 0) (hp x0 x2 (i 0).val) ((i 1).val + 16) (1536 + (i 2).val)), mul_assoc]
  rfl

theorem y_at (hgain : ∀ k < 1024, IsReal (rd2 x2 0 k)) (hwin : ∀ k < 1024, ∀ c < 512, IsReal (rd3 x3 0 k c)) (i : S2x8192x1024.Idx) :
    val_main_v197 (F := Ideal) x0 x2 x3 x4 x5 x6 i
      = y (WW x2 x3 x4 x5 x6 x7 x8 x9 x10 x11) 0 (hp x0 x2 (i 0).val) (i 1).val (i 2).val := by
  have h0 : (i 0).val < 2 := (i 0).isLt
  have h1 : (i 1).val < 8192 := (i 1).isLt
  have h2 : (i 2).val < 1024 := (i 2).isLt
  unfold val_main_v197
  refine (concat_last (B := 2) (M := 8192) (C := 512) (D := 512) (E := 1024) _ _ _ i).trans ?_
  unfold y
  split_ifs with h
  · rw [rd3_of _ h0 h1 h, ya_at x0 x2 x3 x4 x5 x6 x7 x8 x9 x10 x11 hgain hwin]
    rfl
  · rw [rd3_of _ h0 h1 (by omega), yb_at x0 x2 x3 x4 x5 x6 x7 x8 x9 x10 x11]
    rfl

end Cert.RefSample
-- ==== Proof.RefOutSample.lean ====
module

public import proofs.«01_k».proof.Proof.RefMixSample

@[expose] public section

/-! Over the sample batch: the reference's output row: the mixers' product, the residual and the gated embedding. -/

namespace Cert.RefSample
open Idealize.ShloMosaic Idealize.ShloMosaic.StableHlo Cert.Reference2Ideal Cert.Reference2Ideal.Read Cert.Rd Cert.Spec

variable (x0 : (⟨S2x8192x1024, .f32⟩ : BufTy).Contents (Elt Ideal)) (x1 : (⟨S1x2x8192x256, .f32⟩ : BufTy).Contents (Elt Ideal)) (x2 : (⟨S1x1024, .f32⟩ : BufTy).Contents (Elt Ideal)) (x3 : (⟨S1x1024x3072, .f32⟩ : BufTy).Contents (Elt Ideal))
  (x4 : (⟨S1x4x128x128, .f32⟩ : BufTy).Contents (Elt Ideal)) (x5 : (⟨S1x512, .f32⟩ : BufTy).Contents (Elt Ideal)) (x6 : (⟨S1x3x512, .f32⟩ : BufTy).Contents (Elt Ideal))
  (x7 : (⟨S1x1024x1024, .f32⟩ : BufTy).Contents (Elt Ideal)) (x8 : (⟨S1x1024, .f32⟩ : BufTy).Contents (Elt Ideal)) (x9 : (⟨S1x256x1024, .f32⟩ : BufTy).Contents (Elt Ideal))
  (x10 : (⟨S1x1024x1024, .f32⟩ : BufTy).Contents (Elt Ideal)) (x11 : (⟨S1x1024, .f32⟩ : BufTy).Contents (Elt Ideal))

theorem o_at (hgain : ∀ k < 1024, IsReal (rd2 x2 0 k)) (hwin : ∀ k < 1024, ∀ c < 512, IsReal (rd3 x3 0 k c)) (i : S2x8192x1024.Idx) :
    val_main_v198 (F := Ideal) x0 x2 x3 x4 x5 x6 x7 i = o (WW x2 x3 x4 x5 x6 x7 x8 x9 x10 x11) 0 (hp x0 x2 (i 0).val) (i 1).val (i 2).val := by
  have h2 : (i 2).val < 1024 := (i 2).isLt
  rw [val_main_v198_apply]
  refine Finset.sum_congr rfl fun k _ => ?_
  have hk := k.isLt
  rw [y_at x0 x2 x3 x4 x5 x6 x7 x8 x9 x10 x11 hgain hwin, val_main_v6_apply, val3 x7]
  show y (WW x2 x3 x4 x5 x6 x7 x8 x9 x10 x11) 0 (hp x0 x2 (i 0).val) (i 1).val k.val * rd3 x7 0 ((k.val * 1024 + (i 2).val) / 1024 % 1024) ((k.val * 1024 + (i 2).val) % 1024) = _
  rw [show (k.val * 1024 + (i 2).val) / 1024 % 1024 = k.val by omega, show (k.val * 1024 + (i 2).val) % 1024 = (i 2).val by omega]
  rfl

theorem res_at (hgain : ∀ k < 1024, IsReal (rd2 x2 0 k)) (hwin : ∀ k < 1024, ∀ c < 512, IsReal (rd3 x3 0 k c)) (i : S2x8192x1024.Idx) :
    val_main_v212 (F := Ideal) x0 x2 x3 x4 x5 x6 x7 x8 i = res (WW x2 x3 x4 x5 x6 x7 x8 x9 x10 x11) 0 (hp x0 x2 (i 0).val) (rd3 x0 (i 0).val) (i 1).val (i 2).val := by
  have h0 : val_main_cst_47 (F := Ideal) (Shape.Idx.first Gen.h_S_) = (0 : EReal) := Ideal.ofBits_zero_f32
  have h2 : (i 2).val < 1024 := (i 2).isLt
  rw [val_main_v212_apply, val3 x0]
  show _ + _ = _ + _
  congr 1
  rw [val_main_v211_apply, val_main_v208_apply, val_main_v207_apply, val_main_v206_apply, val_main_v205_apply, val_main_v203_apply, val_main_v201_apply, val_main_v200_apply, val_main_v202_apply, val_main_v204_apply, val_main_v210_apply, val_main_v209_apply, val_main_v7_apply]
  simp only [val_main_v199_apply]
  rw [val2 x8]
  simp only [o_at x0 x2 x3 x4 x5 x6 x7 x8 x9 x10 x11 hgain hwin]
  rw [h0, zero_add]
  show _ * _ * rd2 x8 0 ((i 2).val % 1024) = _
  rw [Nat.mod_eq_of_lt h2]
  rfl

theorem ple_at (hgain : ∀ k < 1024, IsReal (rd2 x2 0 k)) (hwin : ∀ k < 1024, ∀ c < 512, IsReal (rd3 x3 0 k c)) (i : S2x8192x1024.Idx) :
    val_main_v221 (F := Ideal) x0 x1 x2 x3 x4 x5 x6 x7 x8 x9 x10 i
      = ple (WW x2 x3 x4 x5 x6 x7 x8 x9 x10 x11) 0 (hp x0 x2 (i 0).val) (rd3 x0 (i 0).val) (rd4 x1 0 (i 0).val) (i 1).val (i 2).val := by
  have h0 : (i 0).val < 2 := (i 0).isLt
  have h1 : (i 1).val < 8192 := (i 1).isLt
  have h2 : (i 2).val < 1024 := (i 2).isLt
  have e : val_main_v220 (F := Ideal) x1 x9 i = ∑ k : Fin 256, rd4 x1 0 (i 0).val (i 1).val k * rd3 x9 0 k (i 2).val := by
    rw [val_main_v220_apply]
    refine Finset.sum_congr rfl fun k _ => ?_
    have hk := k.isLt
    rw [val_main_v0_apply, val_main_v8_apply, val3 x9, val4 x1]
    show rd4 x1 0 ((((i 0).val * 8192 + (i 1).val) * 256 + k.val) / 2097152 % 2) ((((i 0).val * 8192 + (i 1).val) * 256 + k.val) / 256 % 8192) ((((i 0).val * 8192 + (i 1).val) * 256 + k.val) % 256)
      * rd3 x9 0 ((k.val * 1024 + (i 2).val) / 1024 % 256) ((k.val * 1024 + (i 2).val) % 1024) = _
    rw [show (((i 0).val * 8192 + (i 1).val) * 256 + k.val) / 2097152 % 2 = (i 0).val by omega,
      show (((i 0).val * 8192 + (i 1).val) * 256 + k.val) / 256 % 8192 = (i 1).val by omega,
      show (((i 0).val * 8192 + (i 1).val) * 256 + k.val) % 256 = k.val by omega,
      show (k.val * 1024 + (i 2).val) / 1024 % 256 = k.val by omega, show (k.val * 1024 + (i 2).val) % 1024 = (i 2).val by omega]
  have f : val_main_v213 (F := Ideal) x0 x2 x3 x4 x5 x6 x7 x8 x10 i
      = ∑ k : Fin 1024, res (WW x2 x3 x4 x5 x6 x7 x8 x9 x10 x11) 0 (hp x0 x2 (i 0).val) (rd3 x0 (i 0).val) (i 1).val k * rd3 x10 0 k (i 2).val := by
    rw [val_main_v213_apply]
    refine Finset.sum_congr rfl fun k _ => ?_
    have hk := k.isLt
    rw [res_at x0 x2 x3 x4 x5 x6 x7 x8 x9 x10 x11 hgain hwin, val_main_v9_apply, val3 x10]
    show res (WW x2 x3 x4 x5 x6 x7 x8 x9 x10 x11) 0 (hp x0 x2 (i 0).val) (rd3 x0 (i 0).val) (i 1).val k.val * rd3 x10 0 ((k.val * 1024 + (i 2).val) / 1024 % 1024) ((k.val * 1024 + (i 2).val) % 1024) = _
    rw [show (k.val * 1024 + (i 2).val) / 1024 % 1024 = k.val by omega, show (k.val * 1024 + (i 2).val) % 1024 = (i 2).val by omega]
  rw [val_main_v221_apply, e, val_main_v219_apply, val_main_v218_apply, val_main_v217_apply, val_main_v216_apply, val_main_v215_apply, val_main_v214_apply, f]
  unfold ple
  rw [← logistic_of]
  rfl

theorem out_at (hgain : ∀ k < 1024, IsReal (rd2 x2 0 k)) (hwin : ∀ k < 1024, ∀ c < 512, IsReal (rd3 x3 0 k c)) (i : S2x8192x1024.Idx) :
    val_main_v235 (F := Ideal) x0 x1 x2 x3 x4 x5 x6 x7 x8 x9 x10 x11 i
      = out (WW x2 x3 x4 x5 x6 x7 x8 x9 x10 x11) 0 (hp x0 x2 (i 0).val) (rd3 x0 (i 0).val) (rd4 x1 0 (i 0).val) (i 1).val (i 2).val := by
  have h0 : val_main_cst_52 (F := Ideal) (Shape.Idx.first Gen.h_S_) = (0 : EReal) := Ideal.ofBits_zero_f32
  have h2 : (i 2).val < 1024 := (i 2).isLt
  rw [val_main_v235_apply, res_at x0 x2 x3 x4 x5 x6 x7 x8 x9 x10 x11 hgain hwin]
  show _ + _ = _ + _
  congr 1
  rw [val_main_v234_apply, val_main_v231_apply, val_main_v230_apply, val_main_v229_apply, val_main_v228_apply, val_main_v226_apply, val_main_v224_apply, val_main_v223_apply, val_main_v225_apply, val_main_v227_apply, val_main_v233_apply, val_main_v232_apply, val_main_v10_apply]
  simp only [val_main_v222_apply]
  rw [val2 x11]
  simp only [ple_at x0 x1 x2 x3 x4 x5 x6 x7 x8 x9 x10 x11 hgain hwin]
  rw [h0, zero_add]
  show _ * _ * rd2 x11 0 ((i 2).val % 1024) = _
  rw [Nat.mod_eq_of_lt h2]
  rfl

end Cert.RefSample
-- ==== Proof.EqualSample.lean ====
module

public import proofs.«01_k».proof.Proof.PointSample
public import proofs.«01_k».proof.Proof.RefOutSample

@[expose] public section

/-! Over the sample batch: the equation: the kernel's output array is the reference's result of the same arguments. -/

noncomputable section

namespace Cert.Kernel2Ideal.Arr

open Idealize.ShloMosaic Idealize.ShloMosaic.TcCoe Idealize.ShloMosaic.Tactic Idealize.SL.Sem
open Cert.Kernel2Ideal Cert.Kernel2Ideal.Gen Cert.Rd Cert.Spec

variable (m : (ℓ : Loc nD τ sig) → Buf (Elt Ideal) ℓ) (c : Dev nD)

theorem array_eq (hgain : ∀ k < 1024, IsReal (rd2 (m ((c : Thread nD τ).loc main_arg2) : Vec Ideal S1x1024 .f32) 0 k))
    (hwin : ∀ k < 1024, ∀ j < 512, IsReal (rd3 (m ((c : Thread nD τ).loc main_arg3) : Vec Ideal S1x1024x3072 .f32) 0 k j)) :
    Cert.Reference2Ideal.Read.val_main_v235 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) = Value.G14 m c := by
  funext i
  have h0 : (i 0).val < 2 := (i 0).isLt
  have h1 : (i 1).val < 8192 := (i 1).isLt
  have h2 : (i 2).val < 1024 := (i 2).isLt
  refine (Cert.RefSample.out_at _ _ _ _ _ _ _ _ _ _ _ _ hgain hwin i).trans ?_
  refine Eq.trans ?_ (val3 (Value.G14 m c : Vec Ideal S2x8192x1024 .f32) i).symm
  rw [array_at m c _ _ _ h0 h1 h2]
  rfl

end Cert.Kernel2Ideal.Arr
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Pre_finite2
public import proofs.«01_k».proof.Proof.Gen.Reference2Ideal.Run
public import proofs.«01_k».proof.Proof.Gen.Reference2Ideal.Read
public import proofs.«01_k».proof.Proof.Bounds
public import proofs.«01_k».proof.Proof.Equal
public import proofs.«01_k».proof.Proof.BoundsSample
public import proofs.«01_k».proof.Proof.EqualSample
public import Idealize.ShloMosaic.Adequacy
public import Idealize.ShloMosaic.Init
public import Idealize.ShloMosaic.Lib.Quiescent

@[expose] public section

noncomputable section

namespace Cert.Proof

open Idealize.ShloMosaic Idealize.SL.Sem

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun r h c => ⟨?_, (h c).2⟩) (Cert.ReferenceIdeal.Value.run (F := Ideal) m' ρ')
  refine (h c).1.trans ?_
  refine (Cert.ReferenceIdeal.Read.val_main_v235_eq (StableHlo.launchContents m' c)).trans ?_
  refine Eq.trans ?_ (Cert.KernelIdeal.Arr.array_eq m c (Cert.Pre_finite.gain_real (hpre c)) (Cert.Pre_finite.win_real (hpre c)))
  obtain ⟨e0, e1, e2, e3, e4, e5, e6, e7, e8, e9, e10, e11⟩ := hagree c
  rw [← e0, ← e1, ← e2, ← e3, ← e4, ← e5, ← e6, ← e7, ← e8, ← e9, ← e10, ← e11]

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref2_finite : Cert.quiescent_Reference2Ideal_pre_finite2 := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal_pre_finite2 := by
  intro m ρ m' ρ' hpre hagree
  refine ⟨_, Cert.Kernel2Ideal.Value.run (F := Ideal) m ρ, ?_⟩
  refine (θ_run Cert.Reference2Ideal.defs _ _).mono (fun r h c => ⟨?_, (h c).2⟩) (Cert.Reference2Ideal.Value.run (F := Ideal) m' ρ')
  refine (h c).1.trans ?_
  refine (Cert.Reference2Ideal.Read.val_main_v235_eq (StableHlo.launchContents m' c)).trans ?_
  refine Eq.trans ?_ (Cert.Kernel2Ideal.Arr.array_eq m c (Cert.Pre_finite2.gain_real (hpre c)) (Cert.Pre_finite2.win_real (hpre c)))
  obtain ⟨e0, e1, e2, e3, e4, e5, e6, e7, e8, e9, e10, e11⟩ := hagree c
  rw [← e0, ← e1, ← e2, ← e3, ← e4, ← e5, ← e6, ← e7, ← e8, ← e9, ← e10, ← e11]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Pre_finite.Gen.facts, Cert.Pre_finite2.Gen.facts,
    fun m ρ _ => Cert.Kernel.Gen.frame m ρ, fun m ρ _ => Cert.KernelIdeal.Gen.frame m ρ,
    fun m ρ _ => Cert.KernelIdeal.Gen.frame m ρ, frame_ref, frame_ref_finite,
    fun m ρ _ => Cert.Kernel2.Gen.frame m ρ, fun m ρ _ => Cert.Kernel2Ideal.Gen.frame m ρ,
    fun m ρ _ => Cert.Kernel2Ideal.Gen.frame m ρ, frame_ref2, frame_ref2_finite,
    trivial, algebraic, trivial, algebraic2⟩

end Cert.Proof

end
